-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_routed : Cert.Pre_routed.Facts] (m : (ℓ : Loc Cert.Kernel3.nD Cert.Kernel3.τ Cert.Kernel3.sig) → Buf (Elt Bits) ℓ) : Prop :=
  ∀ c : Dev Cert.Kernel3.nD,
    (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))) = (fun _ => 1#1)

def Pre_Kernel3Ideal [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_routed : Cert.Pre_routed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_routed [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v25_0)) (v1 : (c : Dev Cert.Kernel2Ideal.nD) → Buf (Elt Ideal) ((c.tc : Thread Cert.Kernel2Ideal.nD Cert.Kernel2Ideal.τ).loc Cert.Kernel2Ideal.main_v25_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_v25_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_routed := hPre_routed)
    ∧ quiescent_Kernel3Ideal (hKernel3Ideal := hKernel3Ideal) (hPre_routed := hPre_routed)
    ∧ quiescent_Reference3Ideal (hReference3Ideal := hReference3Ideal)
    ∧ quiescent_Reference3Ideal_pre_routed (hReference3Ideal := hReference3Ideal) (hPre_routed := hPre_routed)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_routed := hPre_routed)
    ∧ preserves_Kernel4_Kernel4Ideal
    ∧ algebraic_Kernel4Ideal_Reference4Ideal (hKernel4Ideal := hKernel4Ideal) (hReference4Ideal := hReference4Ideal)
-- ==== Pre_finite.lean ====
abbrev S40960x16x128 : Shape := ⟨3, ![40960, 16, 128]⟩
abbrev S40960x16x64 : Shape := ⟨3, ![40960, 16, 64]⟩
abbrev S40960x64 : Shape := ⟨2, ![40960, 64]⟩
abbrev S_ : Shape := ⟨0, ![]⟩

class Facts : Prop where
  bcast_S_S40960x16x128 : S_.BroadcastsInDim S40960x16x128 (![] : Fin 0 → Fin S40960x16x128.rank)
  reducesTo_S40960x16x128_S_d0_1_2 : S40960x16x128.ReducesTo [0, 1, 2] S_
  h_S_ : 0 < S_.numel
  bcast_S_S40960x16x64 : S_.BroadcastsInDim S40960x16x64 (![] : Fin 0 → Fin S40960x16x64.rank)
  reducesTo_S40960x16x64_S_d0_1_2 : S40960x16x64.ReducesTo [0, 1, 2] S_
  bcast_S_S40960x64 : S_.BroadcastsInDim S40960x64 (![] : Fin 0 → Fin S40960x64.rank)
  reducesTo_S40960x64_S_d0_1 : S40960x64.ReducesTo [0, 1] S_

variable [Facts]

def fn_part1 {F : FTy → Type} [FloatOps F] (main_v13 : IVec S_ 1) (main_v16 : IVec S40960x64 1) : IVec S_ 1 :=
  let main_c_5 : IVec S_ 1 := constantI S_ 1 1#1
  let main_v17 : IVec S_ 1 := (fun x v => Host.reduce IntOp.andi x v reducesTo_S40960x64_S_d0_1 h_S_) main_v16 main_c_5
  let main_v18 : IVec S_ 1 := andi main_v13 main_v17
  main_v18

def fn {F : FTy → Type} [FloatOps F] (main_arg0 : FVec F S40960x16x128 .f32) (main_arg1 : FVec F S40960x16x64 .f32) (main_arg2 : FVec F S40960x16x128 .f32) (main_arg3 : FVec F S40960x64 .f32) (main_arg4 : FVec F S40960x16x128 .f32) : IVec S_ 1 :=
  let main_v0 : FVec F S40960x16x128 .f32 := Host.absf main_arg0
  let main_cst : FVec F S_ .f32 := constant S_ .f32 0x7F800000#32
  let main_v1 : FVec F S40960x16x128 .f32 := broadcastInDim S40960x16x128 ![] bcast_S_S40960x16x128 main_cst
  let main_v2 : IVec S40960x16x128 1 := cmpf .olt main_v0 main_v1
  let main_c : IVec S_ 1 := constantI S_ 1 1#1
  let main_v3 : IVec S_ 1 := (fun x v => Host.reduce IntOp.andi x v reducesTo_S40960x16x128_S_d0_1_2 h_S_) main_v2 main_c
  let main_v4 : FVec F S40960x16x64 .f32 := Host.absf main_arg1
  let main_cst_0 : FVec F S_ .f32 := constant S_ .f32 0x7F800000#32
  let main_v5 : FVec F S40960x16x64 .f32 := broadcastInDim S40960x16x64 ![] bcast_S_S40960x16x64 main_cst_0
  let main_v6 : IVec S40960x16x64 1 := cmpf .olt main_v4 main_v5
  let main_c_1 : IVec S_ 1 := constantI S_ 1 1#1
  let main_v7 : IVec S_ 1 := (fun x v => Host.reduce IntOp.andi x v reducesTo_S40960x16x64_S_d0_1_2 h_S_) main_v6 main_c_1
  let main_v8 : IVec S_ 1 := andi main_v3 main_v7
  let main_v9 : FVec F S40960x16x128 .f32 := Host.absf main_arg2
  let main_cst_2 : FVec F S_ .f32 := constant S_ .f32 0x7F800000#32
  let main_v10 : FVec F S40960x16x128 .f32 := broadcastInDim S40960x16x128 ![] bcast_S_S40960x16x128 main_cst_2
  let main_v11 : IVec S40960x16x128 1 := cmpf .olt main_v9 main_v10
  let main_c_3 : IVec S_ 1 := constantI S_ 1 1#1
  let main_v12 : IVec S_ 1 := (fun x v => Host.reduce IntOp.andi x v reducesTo_S40960x16x128_S_d0_1_2 h_S_) main_v11 main_c_3
  let main_v13 : IVec S_ 1 := andi main_v8 main_v12
  let main_v14 : FVec F S40960x64 .f32 := Host.absf main_arg3
  let main_cst_4 : FVec F S_ .f32 := constant S_ .f32 0x7F800000#32
  let main_v15 : FVec F S40960x64 .f32 := broadcastInDim S40960x64 ![] bcast_S_S40960x64 main_cst_4
  let main_v16 : IVec S40960x64 1 := cmpf .olt main_v14 main_v15
  fn_part1 (F := F) main_v13 main_v16
-- ==== Pre_routed.lean ====
abbrev S352 : Shape := ⟨1, ![352]⟩
abbrev S1 : Shape := ⟨1, ![1]⟩
abbrev S180224x2048 : Shape := ⟨2, ![180224, 2048]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S352 : S_.BroadcastsInDim S352 (![] : Fin 0 → Fin S352.rank)
  reducesTo_S352_S_d0 : S352.ReducesTo [0] S_
  h_S_ : 0 < S_.numel
  shapeCasts_S1_S_ : S1.ShapeCasts S_

variable [Facts]

def fn {F : FTy → Type} [FloatOps F] (main_arg0 : IVec S352 32) (main_arg1 : IVec S1 32) (main_arg2 : FVec F S180224x2048 .bf16) (main_arg3 : FVec F S32x2048x2048 .bf16) (main_arg4 : FVec F S32x1x2048 .f32) (main_arg5 : FVec F S32x2048x2048 .bf16) (main_arg6 : FVec F S32x1x2048 .f32) (main_arg7 : FVec F S32x2048x2048 .bf16) (main_arg8 : FVec F S32x1x2048 .f32) : IVec S_ 1 :=
  let main_c : IVec S_ 32 := constantI S_ 32 0#32
  let main_v0 : IVec S352 32 := broadcastInDim S352 ![] bcast_S_S352 main_c
  let main_v1 : IVec S352 1 := cmpi .sge main_arg0 main_v0
  let main_c_0 : IVec S_ 32 := constantI S_ 32 32#32
  let main_v2 : IVec S352 32 := broadcastInDim S352 ![] bcast_S_S352 main_c_0
  let main_v3 : IVec S352 1 := cmpi .slt main_arg0 main_v2
  let main_v4 : IVec S352 1 := andi main_v1 main_v3
  let main_c_1 : IVec S_ 1 := constantI S_ 1 1#1
  let main_v5 : IVec S_ 1 := (fun x v => Host.reduce IntOp.andi x v reducesTo_S352_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S40960x16x128 : Shape := ⟨3, ![40960, 16, 128]⟩
abbrev S40960x16x64 : Shape := ⟨3, ![40960, 16, 64]⟩
abbrev S40960x64 : Shape := ⟨2, ![40960, 64]⟩
abbrev S_ : Shape := ⟨0, ![]⟩
abbrev S40960x16x192 : Shape := ⟨3, ![40960, 16, 192]⟩
abbrev S40960x16x256 : Shape := ⟨3, ![40960, 16, 256]⟩
abbrev S40960x4096 : Shape := ⟨2, ![40960, 4096]⟩
abbrev S4096x40960 : Shape := ⟨2, ![4096, 40960]⟩
abbrev S40960x1x64 : Shape := ⟨3, ![40960, 1, 64]⟩
abbrev S40960x16x1 : Shape := ⟨3, ![40960, 16, 1]⟩
abbrev S40960x16x15 : Shape := ⟨3, ![40960, 16, 15]⟩
abbrev S40960x16x144 : Shape := ⟨3, ![40960, 16, 144]⟩
abbrev S40960x2304 : Shape := ⟨2, ![40960, 2304]⟩
abbrev S2304x40960 : Shape := ⟨2, ![2304, 40960]⟩
abbrev S32768x2048 : Shape := ⟨2, ![32768, 2048]⟩
abbrev S256x2048 : Shape := ⟨2, ![256, 2048]⟩
abbrev S16384x256 : Shape := ⟨2, ![16384, 256]⟩
abbrev S144x16384 : Shape := ⟨2, ![144, 16384]⟩
abbrev S2048x128 : Shape := ⟨2, ![2048, 128]⟩
abbrev S512x2048 : Shape := ⟨2, ![512, 2048]⟩
abbrev S1x2048 : Shape := ⟨2, ![1, 2048]⟩
abbrev S144x2048 : Shape := ⟨2, ![144, 2048]⟩
abbrev S512x256 : Shape := ⟨2, ![512, 256]⟩
abbrev S1x256 : Shape := ⟨2, ![1, 256]⟩
abbrev S256 : Shape := ⟨1, ![256]⟩
abbrev S144x512 : Shape := ⟨2, ![144, 512]⟩
abbrev S128x2048 : Shape := ⟨2, ![128, 2048]⟩

abbrev nBuf : Space → Nat
  | .hbm => 35
  | .vmem => 16
  | .smem => 0
  | _ => 0

abbrev bufTy : (tb : Table) → Fin (tcTables nBuf tb) → BufTy
  | .hbm, ⟨0, _⟩ => ⟨S40960x16x128, .f32⟩
  | .hbm, ⟨1, _⟩ => ⟨S40960x16x64, .f32⟩
  | .hbm, ⟨2, _⟩ => ⟨S40960x16x128, .f32⟩
  | .hbm, ⟨3, _⟩ => ⟨S40960x64, .f32⟩
  | .hbm, ⟨4, _⟩ => ⟨S40960x16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S40960x16x192, .f32⟩
  | .hbm, ⟨11, _⟩ => ⟨S40960x16x192, .f32⟩
  | .hbm, ⟨12, _⟩ => ⟨S40960x16x192, .f32⟩
  | .hbm, ⟨13, _⟩ => ⟨S_, .f32⟩
  | .hbm, ⟨14, _⟩ => ⟨S40960x16x64, .f32⟩
  | .hbm, ⟨15, _⟩ => ⟨S40960x16x256, .f32⟩
  | .hbm, ⟨16, _⟩ => ⟨S40960x4096, .f32⟩
  | .hbm, ⟨17, _⟩ => ⟨S4096x40960, .f32⟩
  | .hbm, ⟨18, _⟩ => ⟨S4096x40960, .bf16⟩
  | .hbm, ⟨19, _⟩ => ⟨S40960x1x64, .f32⟩
  | .hbm, ⟨20, _⟩ => ⟨S40960x16x64, .f32⟩
  | .hbm, ⟨21, _⟩ => ⟨S_, .f32⟩
  | .hbm, ⟨22, _⟩ => ⟨S40960x16x64, .f32⟩
  | .hbm, ⟨23, _⟩ => ⟨S40960x16x256, .f32⟩
  | .hbm, ⟨24, _⟩ => ⟨S40960x4096, .f32⟩
  | .hbm, ⟨25, _⟩ => ⟨S40960x4096, .bf16⟩
  | .hbm, ⟨26, _⟩ => ⟨S_, .f32⟩
  | .hbm, ⟨27, _⟩ => ⟨S40960x16x1, .f32⟩
  | .hbm, ⟨28, _⟩ => ⟨S_, .f32⟩
  | .hbm, ⟨29, _⟩ => ⟨S40960x16x15, .f32⟩
  | .hbm, ⟨30, _⟩ => ⟨S40960x16x144, .f32⟩
  | .hbm, ⟨31, _⟩ => ⟨S40960x2304, .f32⟩
  | .hbm, ⟨32, _⟩ => ⟨S2304x40960, .f32⟩
  | .hbm, ⟨33, _⟩ => ⟨S2304x40960, .bf16⟩
  | .hbm, ⟨34, _⟩ => ⟨S32768x2048, .bf16⟩
  | .local _ .vmem, ⟨0, _⟩ => ⟨S256x2048, .bf16⟩
  | .local _ .vmem, ⟨1, _⟩ => ⟨S256x2048, .bf16⟩
  | .local _ .vmem, ⟨2, _⟩ => ⟨S16384x256, .bf16⟩
  | .local _ .vmem, ⟨3, _⟩ => ⟨S16384x256, .bf16⟩
  | .local _ .vmem, ⟨4, _⟩ => ⟨S144x16384, .bf16⟩
  | .local _ .vmem, ⟨5, _⟩ => ⟨S144x16384, .bf16⟩
  | .local _ .vmem, ⟨6, _⟩ => ⟨S2048x128, .bf16⟩
  | .local _ .vmem, ⟨7, _⟩ => ⟨S2048x128, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S144x2048, .f32⟩
  | _, _ => ⟨S40960x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 8], ![false, false, false]⟩

def k0_mult1 : BitVec 32 :=
  let c0_i32 : BitVec 32 := 0#32
  c0_i32
def k0_mult2 : BitVec 32 :=
  let c512_i32 : BitVec 32 := 512#32
  c512_i32
@[reducible] def k0_t1_loop : Scf.Loop 32 :=
  let c1_i32 : BitVec 32 := 1#32
  let c15_i32 : BitVec 32 := 15#32
  let v194 : BitVec 32 := Scalar.addi c1_i32 c15_i32
  let c1_i32_111 : BitVec 32 := 1#32
  ⟨c1_i32, v194, c1_i32_111⟩
def k0_mult3 (k0_t1 : Fin k0_t1_loop.trips) : BitVec 32 :=
  let c2_i32 : BitVec 32 := 2#32
  let c1_i32 : BitVec 32 := 1#32
  let c1_i32_111 : BitVec 32 := 1#32
  let arg15 : BitVec 32 := Scf.iv c1_i32 c1_i32_111 k0_t1
  let v399 : BitVec 32 := Scalar.muli c2_i32 arg15
  let c512_i32_241 : BitVec 32 := 512#32
  let v400 : BitVec 32 := Scalar.muli v399 c512_i32_241
  v400
def k0_off1 (k0_t1 : Fin k0_t1_loop.trips) : Fin 2 → Nat :=
  let c2_i32 : BitVec 32 := 2#32
  let c1_i32 : BitVec 32 := 1#32
  let c1_i32_111 : BitVec 32 := 1#32
  let arg15 : BitVec 32 := Scf.iv c1_i32 c1_i32_111 k0_t1
  let v399 : BitVec 32 := Scalar.muli c2_i32 arg15
  let c512_i32_241 : BitVec 32 := 512#32
  let v400 : BitVec 32 := Scalar.muli v399 c512_i32_241
  let v401 : BitVec 32 := v400
  let v402 : Index := Scalar.indexCast v401
  let c0_242 : Index := 0#32
  ![v402.toNat, 0]
def k0_mult4 (k0_t1 : Fin k0_t1_loop.trips) : BitVec 32 :=
  let c2_i32_350 : BitVec 32 := 2#32
  let c1_i32 : BitVec 32 := 1#32
  let c1_i32_111 : BitVec 32 := 1#32
  let arg15 : BitVec 32 := Scf.iv c1_i32 c1_i32_111 k0_t1
  let v577 : BitVec 32 := Scalar.muli c2_i32_350 arg15
  let c2_i32_351 : BitVec 32 := 2#32
  let v578 : BitVec 32 := Scalar.subi v577 c2_i32_351
  let c512_i32_352 : BitVec 32 := 512#32
  let v579 : BitVec 32 := Scalar.muli v578 c512_i32_352
  v579
def k0_off2 (k0_t1 : Fin k0_t1_loop.trips) (c2_i32_351 : BitVec 32) : Fin 2 → Nat :=
  let c0_357 : Index := 0#32
  let c2_i32_350 : BitVec 32 := 2#32
  let c1_i32 : BitVec 32 := 1#32
  let c1_i32_111 : BitVec 32 := 1#32
  let arg15 : BitVec 32 := Scf.iv c1_i32 c1_i32_111 k0_t1
  let v577 : BitVec 32 := Scalar.muli c2_i32_350 arg15
  let v578 : BitVec 32 := Scalar.subi v577 c2_i32_351
  let c512_i32_352 : BitVec 32 := 512#32
  let v579 : BitVec 32 := Scalar.muli v578 c512_i32_352
  let v580 : BitVec 32 := v579
  let v585 : Index := Scalar.indexCast v580
  ![0, v585.toNat]
def k0_mult5 (k0_t1 : Fin k0_t1_loop.trips) : BitVec 32 :=
  let c2_i32_363 : BitVec 32 := 2#32
  let c1_i32 : BitVec 32 := 1#32
  let c1_i32_111 : BitVec 32 := 1#32
  let arg15 : BitVec 32 := Scf.iv c1_i32 c1_i32_111 k0_t1
  let v594 : BitVec 32 := Scalar.muli c2_i32_363 arg15
  let c1_i32_364 : BitVec 32 := 1#32
  let v595 : BitVec 32 := Scalar.addi v594 c1_i32_364
  let c512_i32_365 : BitVec 32 := 512#32
  let v596 : BitVec 32 := Scalar.muli v595 c512_i32_365
  v596
def k0_off3 (k0_t1 : Fin k0_t1_loop.trips) : Fin 2 → Nat :=
  let c2_i32_363 : BitVec 32 := 2#32
  let c1_i32 : BitVec 32 := 1#32
  let c1_i32_111 : BitVec 32 := 1#32
  let arg15 : BitVec 32 := Scf.iv c1_i32 c1_i32_111 k0_t1
  let v594 : BitVec 32 := Scalar.muli c2_i32_363 arg15
  let c1_i32_364 : BitVec 32 := 1#32
  let v595 : BitVec 32 := Scalar.addi v594 c1_i32_364
  let c512_i32_365 : BitVec 32 := 512#32
  let v596 : BitVec 32 := Scalar.muli v595 c512_i32_365
  let v597 : BitVec 32 := v596
  let v598 : Index := Scalar.indexCast v597
  let c0_366 : Index := 0#32
  ![v598.toNat, 0]
def k0_mult6 (k0_t1 : Fin k0_t1_loop.trips) : BitVec 32 :=
  let c2_i32_474 : BitVec 32 := 2#32
  let c1_i32 : BitVec 32 := 1#32
  let c1_i32_111 : BitVec 32 := 1#32
  let arg15 : BitVec 32 := Scf.iv c1_i32 c1_i32_111 k0_t1
  let v773 : BitVec 32 := Scalar.muli c2_i32_474 arg15
  let c1_i32_475 : BitVec 32 := 1#32
  let v774 : BitVec 32 := Scalar.subi v773 c1_i32_475
  let c512_i32_476 : BitVec 32 := 512#32
  let v775 : BitVec 32 := Scalar.muli v774 c512_i32_476
  v775
def k0_mult7 : BitVec 32 :=
  let c15360_i32 : BitVec 32 := 15360#32
  c15360_i32
def k0_mult8 : BitVec 32 :=
  let c15872_i32 : BitVec 32 := 15872#32
  c15872_i32
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S144x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S40960x16x128 : Shape := ⟨3, ![40960, 16, 128]⟩
abbrev S40960x16x64 : Shape := ⟨3, ![40960, 16, 64]⟩
abbrev S40960x64 : Shape := ⟨2, ![40960, 64]⟩
abbrev S32768x16x128 : Shape := ⟨3, ![32768, 16, 128]⟩
abbrev S2x16384x16x128 : Shape := ⟨4, ![2, 16384, 16, 128]⟩
abbrev S32768x16x64 : Shape := ⟨3, ![32768, 16, 64]⟩
abbrev S2x16384x16x64 : Shape := ⟨4, ![2, 16384, 16, 64]⟩
abbrev S32768x64 : Shape := ⟨2, ![32768, 64]⟩
abbrev S2x16384x64 : Shape := ⟨3, ![2, 16384, 64]⟩
abbrev S2x16x16384x16384 : Shape := ⟨4, ![2, 16, 16384, 16384]⟩
abbrev S2x16384x16384x16 : Shape := ⟨4, ![2, 16384, 16384, 16]⟩
abbrev S_ : Shape := ⟨0, ![]⟩
abbrev S2x16x16384 : Shape := ⟨3, ![2, 16, 16384]⟩
abbrev S2x16x16384x1 : Shape := ⟨4, ![2, 16, 16384, 1]⟩
abbrev S2x16x128x16384 : Shape := ⟨4, ![2, 16, 128, 16384]⟩
abbrev S2x16384x2048 : Shape := ⟨3, ![2, 16384, 2048]⟩
abbrev S32768x2048 : Shape := ⟨2, ![32768, 2048]⟩

abbrev nBuf : Space → Nat
  | .hbm => 39
  | .vmem => 0
  | .smem => 0
  | _ => 0

abbrev bufTy : (tb : Table) → Fin (tcTables nBuf tb) → BufTy
  | .hbm, ⟨0, _⟩ => ⟨S40960x16x128, .f32⟩
  | .hbm, ⟨1, _⟩ => ⟨S40960x16x64, .f32⟩
  | .hbm, ⟨2, _⟩ => ⟨S40960x16x128, .f32⟩
  | .hbm, ⟨3, _⟩ => ⟨S40960x64, .f32⟩
  | .hbm, ⟨4, _⟩ => ⟨S40960x16x128, .f32⟩
  | .hbm, ⟨5, _⟩ => ⟨S32768x16x128, .f32⟩
  | .hbm, ⟨6, _⟩ => ⟨S2x16384x16x128, .f32⟩
  | .hbm, ⟨7, _⟩ => ⟨S32768x16x64, .f32⟩
  | .hbm, ⟨8, _⟩ => ⟨S2x16384x16x64, .f32⟩
  | .hbm, ⟨9, _⟩ => ⟨S32768x16x128, .f32⟩
  | .hbm, ⟨10, _⟩ => ⟨S2x16384x16x128, .f32⟩
  | .hbm, ⟨11, _⟩ => ⟨S32768x64, .f32⟩
  | .hbm, ⟨12, _⟩ => ⟨S2x16384x64, .f32⟩
  | .hbm, ⟨13, _⟩ => ⟨S32768x16x128, .f32⟩
  | .hbm, ⟨14, _⟩ => ⟨S2x16384x16x128, .f32⟩
  | .hbm, ⟨15, _⟩ => ⟨S2x16x16384x16384, .f32⟩
  | .hbm, ⟨16, _⟩ => ⟨S2x16384x16384x16, .f32⟩
  | .hbm, ⟨17, _⟩ => ⟨S2x16x16384x16384, .f32⟩
  | .hbm, ⟨18, _⟩ => ⟨S2x16x16384x16384, .f32⟩
  | .hbm, ⟨19, _⟩ => ⟨S_, .f32⟩
  | .hbm, ⟨20, _⟩ => ⟨S_, .f32⟩
  | .hbm, ⟨21, _⟩ => ⟨S2x16x16384x16384, .f32⟩
  | .hbm, ⟨22, _⟩ => ⟨S2x16x16384x16384, .f32⟩
  | .hbm, ⟨23, _⟩ => ⟨S_, .f32⟩
  | .hbm, ⟨24, _⟩ => ⟨S2x16x16384, .f32⟩
  | .hbm, ⟨25, _⟩ => ⟨S2x16x16384x1, .f32⟩
  | .hbm, ⟨26, _⟩ => ⟨S2x16x16384x16384, .f32⟩
  | .hbm, ⟨27, _⟩ => ⟨S2x16x16384x16384, .f32⟩
  | .hbm, ⟨28, _⟩ => ⟨S2x16x16384x16384, .f32⟩
  | .hbm, ⟨29, _⟩ => ⟨S_, .f32⟩
  | .hbm, ⟨30, _⟩ => ⟨S2x16x16384, .f32⟩
  | .hbm, ⟨31, _⟩ => ⟨S2x16x16384x1, .f32⟩
  | .hbm, ⟨32, _⟩ => ⟨S2x16x16384x16384, .f32⟩
  | .hbm, ⟨33, _⟩ => ⟨S2x16x16384x16384, .f32⟩
  | .hbm, ⟨34, _⟩ => ⟨S2x16x128x16384, .f32⟩
  | .hbm, ⟨35, _⟩ => ⟨S2x16384x16x128, .f32⟩
  | .hbm, ⟨36, _⟩ => ⟨S2x16384x2048, .f32⟩
  | .hbm, ⟨37, _⟩ => ⟨S32768x2048, .f32⟩
  | .hbm, ⟨38, _⟩ => ⟨S32768x2048, .bf16⟩
  | _, _ => ⟨S40960x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel2.lean ====
abbrev S2x16384x2048 : Shape := ⟨3, ![2, 16384, 2048]⟩
abbrev S4x2048x2048 : Shape := ⟨3, ![4, 2048, 2048]⟩
abbrev S1x2048 : Shape := ⟨2, ![1, 2048]⟩
abbrev S1x2048x11328 : Shape := ⟨3, ![1, 2048, 11328]⟩
abbrev S2048x11328 : Shape := ⟨2, ![2048, 11328]⟩
abbrev S2048x2048 : Shape := ⟨2, ![2048, 2048]⟩
abbrev S2048x512 : Shape := ⟨2, ![2048, 512]⟩
abbrev S2048x64 : Shape := ⟨2, ![2048, 64]⟩
abbrev S_ : Shape := ⟨0, ![]⟩
abbrev S2048x11264 : Shape := ⟨2, ![2048, 11264]⟩
abbrev S2048x32 : Shape := ⟨2, ![2048, 32]⟩
abbrev S2048x128 : Shape := ⟨2, ![2048, 128]⟩
abbrev S32768x2048 : Shape := ⟨2, ![32768, 2048]⟩
abbrev S8192x2048 : Shape := ⟨2, ![8192, 2048]⟩
abbrev S2048 : Shape := ⟨1, ![2048]⟩
abbrev S40960x11264 : Shape := ⟨2, ![40960, 11264]⟩
abbrev S40960x128 : Shape := ⟨2, ![40960, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 33
  | .vmem => 11
  | .smem => 0
  | _ => 0

abbrev bufTy : (tb : Table) → Fin (tcTables nBuf tb) → BufTy
  | .hbm, ⟨0, _⟩ => ⟨S2x16384x2048, .f32⟩
  | .hbm, ⟨1, _⟩ => ⟨S4x2048x2048, .f32⟩
  | .hbm, ⟨2, _⟩ => ⟨S1x2048, .f32⟩
  | .hbm, ⟨3, _⟩ => ⟨S1x2048x11328, .f32⟩
  | .hbm, ⟨4, _⟩ => ⟨S2048x11328, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x512, .f32⟩
  | .hbm, ⟨9, _⟩ => ⟨S2048x512, .f32⟩
  | .hbm, ⟨10, _⟩ => ⟨S2048x64, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x11264, .f32⟩
  | .hbm, ⟨21, _⟩ => ⟨S2048x11264, .bf16⟩
  | .hbm, ⟨22, _⟩ => ⟨S2048x32, .f32⟩
  | .hbm, ⟨23, _⟩ => ⟨S2048x32, .f32⟩
  | .hbm, ⟨24, _⟩ => ⟨S2048x64, .f32⟩
  | .hbm, ⟨25, _⟩ => ⟨S2048x128, .f32⟩
  | .hbm, ⟨26, _⟩ => ⟨S2048x128, .bf16⟩
  | .hbm, ⟨27, _⟩ => ⟨S32768x2048, .f32⟩
  | .hbm, ⟨28, _⟩ => ⟨S8192x2048, .f32⟩
  | .hbm, ⟨29, _⟩ => ⟨S2048, .f32⟩
  | .hbm, ⟨30, _⟩ => ⟨S1x2048, .f32⟩
  | .hbm, ⟨31, _⟩ => ⟨S40960x11264, .bf16⟩
  | .hbm, ⟨32, _⟩ => ⟨S40960x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25_0 : Ref sig .tc := ⟨.hbm, 31, rfl⟩
abbrev main_v25_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![40, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S2x16384x2048 : Shape := ⟨3, ![2, 16384, 2048]⟩
abbrev S4x2048x2048 : Shape := ⟨3, ![4, 2048, 2048]⟩
abbrev S1x2048 : Shape := ⟨2, ![1, 2048]⟩
abbrev S1x2048x11328 : Shape := ⟨3, ![1, 2048, 11328]⟩
abbrev S32768x2048 : Shape := ⟨2, ![32768, 2048]⟩
abbrev S8192x2048 : Shape := ⟨2, ![8192, 2048]⟩
abbrev S40960x2048 : Shape := ⟨2, ![40960, 2048]⟩
abbrev S2048 : Shape := ⟨1, ![2048]⟩
abbrev S_ : Shape := ⟨0, ![]⟩
abbrev S40960 : Shape := ⟨1, ![40960]⟩
abbrev S40960x1 : Shape := ⟨2, ![40960, 1]⟩
abbrev S2048x11328 : Shape := ⟨2, ![2048, 11328]⟩
abbrev S40960x11328 : Shape := ⟨2, ![40960, 11328]⟩
abbrev S40960x512 : Shape := ⟨2, ![40960, 512]⟩
abbrev S40960x64 : Shape := ⟨2, ![40960, 64]⟩
abbrev S40960x11264 : Shape := ⟨2, ![40960, 11264]⟩
abbrev S40960x32 : Shape := ⟨2, ![40960, 32]⟩
abbrev S40960x128 : Shape := ⟨2, ![40960, 128]⟩

abbrev nBuf : Space → Nat
  | .hbm => 46
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S4x2048x2048, .f32⟩
  | .hbm, ⟨2, _⟩ => ⟨S1x2048, .f32⟩
  | .hbm, ⟨3, _⟩ => ⟨S1x2048x11328, .f32⟩
  | .hbm, ⟨4, _⟩ => ⟨S32768x2048, .f32⟩
  | .hbm, ⟨5, _⟩ => ⟨S8192x2048, .f32⟩
  | .hbm, ⟨6, _⟩ => ⟨S40960x2048, .f32⟩
  | .hbm, ⟨7, _⟩ => ⟨S2048, .f32⟩
  | .hbm, ⟨8, _⟩ => ⟨S40960x2048, .f32⟩
  | .hbm, ⟨9, _⟩ => ⟨S_, .f32⟩
  | .hbm, ⟨10, _⟩ => ⟨S40960, .f32⟩
  | .hbm, ⟨11, _⟩ => ⟨S40960x1, .f32⟩
  | .hbm, ⟨12, _⟩ => ⟨S_, .f32⟩
  | .hbm, ⟨13, _⟩ => ⟨S40960x1, .f32⟩
  | .hbm, ⟨14, _⟩ => ⟨S40960x1, .f32⟩
  | .hbm, ⟨15, _⟩ => ⟨S_, .f32⟩
  | .hbm, ⟨16, _⟩ => ⟨S40960x1, .f32⟩
  | .hbm, ⟨17, _⟩ => ⟨S40960x1, .f32⟩
  | .hbm, ⟨18, _⟩ => ⟨S40960x1, .f32⟩
  | .hbm, ⟨19, _⟩ => ⟨S40960x2048, .f32⟩
  | .hbm, ⟨20, _⟩ => ⟨S40960x2048, .f32⟩
  | .hbm, ⟨21, _⟩ => ⟨S1x2048, .f32⟩
  | .hbm, ⟨22, _⟩ => ⟨S40960x2048, .f32⟩
  | .hbm, ⟨23, _⟩ => ⟨S40960x2048, .f32⟩
  | .hbm, ⟨24, _⟩ => ⟨S2048x11328, .f32⟩
  | .hbm, ⟨25, _⟩ => ⟨S40960x11328, .f32⟩
  | .hbm, ⟨26, _⟩ => ⟨S40960x2048, .f32⟩
  | .hbm, ⟨27, _⟩ => ⟨S40960x2048, .f32⟩
  | .hbm, ⟨28, _⟩ => ⟨S40960x2048, .f32⟩
  | .hbm, ⟨29, _⟩ => ⟨S40960x512, .f32⟩
  | .hbm, ⟨30, _⟩ => ⟨S40960x512, .f32⟩
  | .hbm, ⟨31, _⟩ => ⟨S40960x64, .f32⟩
  | .hbm, ⟨32, _⟩ => ⟨S40960x2048, .f32⟩
  | .hbm, ⟨33, _⟩ => ⟨S40960x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S40960x2048, .f32⟩
  | .hbm, ⟨40, _⟩ => ⟨S40960x2048, .f32⟩
  | .hbm, ⟨41, _⟩ => ⟨S40960x11264, .f32⟩
  | .hbm, ⟨42, _⟩ => ⟨S40960x11264, .bf16⟩
  | .hbm, ⟨43, _⟩ => ⟨S40960x32, .f32⟩
  | .hbm, ⟨44, _⟩ => ⟨S40960x32, .f32⟩
  | .hbm, ⟨45, _⟩ => ⟨S40960x128, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel3.lean ====
abbrev S352 : Shape := ⟨1, ![352]⟩
abbrev S1 : Shape := ⟨1, ![1]⟩
abbrev S180224x2048 : Shape := ⟨2, ![180224, 2048]⟩
abbrev S32x2048x2048 : Shape := ⟨3, ![32, 2048, 2048]⟩
abbrev S32x1x2048 : Shape := ⟨3, ![32, 1, 2048]⟩
abbrev S512x2048 : Shape := ⟨2, ![512, 2048]⟩
abbrev S1x2048x1024 : Shape := ⟨3, ![1, 2048, 1024]⟩
abbrev S1x1x1024 : Shape := ⟨3, ![1, 1, 1024]⟩
abbrev S1x1024x2048 : Shape := ⟨3, ![1, 1024, 2048]⟩
abbrev S1x1x2048 : Shape := ⟨3, ![1, 1, 2048]⟩
abbrev S1x2048 : Shape := ⟨2, ![1, 2048]⟩
abbrev S2048x1024 : Shape := ⟨2, ![2048, 1024]⟩
abbrev S512x1024 : Shape := ⟨2, ![512, 1024]⟩
abbrev S1x1024 : Shape := ⟨2, ![1, 1024]⟩
abbrev S1024x2048 : Shape := ⟨2, ![1024, 2048]⟩

abbrev nBuf : Space → Nat
  | .hbm => 8
  | .vmem => 18
  | .smem => 2
  | _ => 0

abbrev bufTy : (tb : Table) → Fin (tcTables nBuf tb) → BufTy
  | .hbm, ⟨0, _⟩ => ⟨S180224x2048, .bf16⟩
  | .hbm, ⟨1, _⟩ => ⟨S32x2048x2048, .bf16⟩
  | .hbm, ⟨2, _⟩ => ⟨S32x1x2048, .f32⟩
  | .hbm, ⟨3, _⟩ => ⟨S32x2048x2048, .bf16⟩
  | .hbm, ⟨4, _⟩ => ⟨S32x1x2048, .f32⟩
  | .hbm, ⟨5, _⟩ => ⟨S32x2048x2048, .bf16⟩
  | .hbm, ⟨6, _⟩ => ⟨S32x1x2048, .f32⟩
  | .hbm, ⟨7, _⟩ => ⟨S180224x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1x1x2048, .f32⟩
  | .local _ .vmem, ⟨13, _⟩ => ⟨S1x1x2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .f32⟩
  | .local _ .smem, ⟨0, _⟩ => ⟨S352, .i32⟩
  | .local _ .smem, ⟨1, _⟩ => ⟨S1, .i32⟩
  | _, _ => ⟨S180224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![352, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v4 : BitVec 1 := Scalar.cmpi .eq arg1 c1_i32
  let v5 : BitVec 32 := Scalar.extui v4
  let c0_i32_0 : BitVec 32 := 0#32
  let v6 : BitVec 1 := Scalar.cmpi .ne v5 c0_i32_0
  v6

def k0_cond4 (i : grid0.Coords) (v0 : BitVec 32) : BitVec 1 :=
  let arg0 : BitVec 32 := BitVec.ofNat 32 (i 0).val
  let v1 : BitVec 1 := Scalar.cmpi .slt arg0 v0
  let v7 : BitVec 32 := Scalar.extui v1
  let c0_i32_1 : BitVec 32 := 0#32
  let v8 : BitVec 1 := Scalar.cmpi .ne v7 c0_i32_1
  v8

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v9 : BitVec 1 := Scalar.xori v1 v_true
  let v10 : BitVec 32 := Scalar.extui v9
  let c0_i32_2 : BitVec 32 := 0#32
  let v11 : BitVec 1 := Scalar.cmpi .ne v10 c0_i32_2
  v11

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S352.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S352) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S352.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S352) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S352.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S352) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S352.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S352) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_5 (k0_off1_inb : ∀ i : grid0.Coords, ∀ a, (k0_off1 i) a + S1.size a ≤ S352.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S352) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_6 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S352 : Shape := ⟨1, ![352]⟩
abbrev S1 : Shape := ⟨1, ![1]⟩
abbrev S180224x2048 : Shape := ⟨2, ![180224, 2048]⟩
abbrev S32x2048x2048 : Shape := ⟨3, ![32, 2048, 2048]⟩
abbrev S32x1x2048 : Shape := ⟨3, ![32, 1, 2048]⟩
abbrev S352x512x2048 : Shape := ⟨3, ![352, 512, 2048]⟩
abbrev S_ : Shape := ⟨0, ![]⟩
abbrev S352x1 : Shape := ⟨2, ![352, 1]⟩
abbrev S352x2048x2048 : Shape := ⟨3, ![352, 2048, 2048]⟩
abbrev S352x1x2048 : Shape := ⟨3, ![352, 1, 2048]⟩
abbrev S352x1x1 : Shape := ⟨3, ![352, 1, 1]⟩

abbrev nBuf : Space → Nat
  | .hbm => 116
  | .vmem => 0
  | .smem => 0
  | _ => 0

abbrev bufTy : (tb : Table) → Fin (tcTables nBuf tb) → BufTy
  | .hbm, ⟨0, _⟩ => ⟨S352, .i32⟩
  | .hbm, ⟨1, _⟩ => ⟨S1, .i32⟩
  | .hbm, ⟨2, _⟩ => ⟨S180224x2048, .bf16⟩
  | .hbm, ⟨3, _⟩ => ⟨S32x2048x2048, .bf16⟩
  | .hbm, ⟨4, _⟩ => ⟨S32x1x2048, .f32⟩
  | .hbm, ⟨5, _⟩ => ⟨S32x2048x2048, .bf16⟩
  | .hbm, ⟨6, _⟩ => ⟨S32x1x2048, .f32⟩
  | .hbm, ⟨7, _⟩ => ⟨S32x2048x2048, .bf16⟩
  | .hbm, ⟨8, _⟩ => ⟨S32x1x2048, .f32⟩
  | .hbm, ⟨9, _⟩ => ⟨S180224x2048, .f32⟩
  | .hbm, ⟨10, _⟩ => ⟨S352x512x2048, .f32⟩
  | .hbm, ⟨11, _⟩ => ⟨S_, .i32⟩
  | .hbm, ⟨12, _⟩ => ⟨S352, .i32⟩
  | .hbm, ⟨13, _⟩ => ⟨S352, .i1⟩
  | .hbm, ⟨14, _⟩ => ⟨S_, .i32⟩
  | .hbm, ⟨15, _⟩ => ⟨S352, .i32⟩
  | .hbm, ⟨16, _⟩ => ⟨S352, .i32⟩
  | .hbm, ⟨17, _⟩ => ⟨S352, .i32⟩
  | .hbm, ⟨18, _⟩ => ⟨S352x1, .i32⟩
  | .hbm, ⟨19, _⟩ => ⟨S352x2048x2048, .bf16⟩
  | .hbm, ⟨20, _⟩ => ⟨S352x2048x2048, .f32⟩
  | .hbm, ⟨21, _⟩ => ⟨S352x512x2048, .f32⟩
  | .hbm, ⟨22, _⟩ => ⟨S_, .i32⟩
  | .hbm, ⟨23, _⟩ => ⟨S352, .i32⟩
  | .hbm, ⟨24, _⟩ => ⟨S352, .i1⟩
  | .hbm, ⟨25, _⟩ => ⟨S_, .i32⟩
  | .hbm, ⟨26, _⟩ => ⟨S352, .i32⟩
  | .hbm, ⟨27, _⟩ => ⟨S352, .i32⟩
  | .hbm, ⟨28, _⟩ => ⟨S352, .i32⟩
  | .hbm, ⟨29, _⟩ => ⟨S352x1, .i32⟩
  | .hbm, ⟨30, _⟩ => ⟨S352x1x2048, .f32⟩
  | .hbm, ⟨31, _⟩ => ⟨S352x512x2048, .f32⟩
  | .hbm, ⟨32, _⟩ => ⟨S352x512x2048, .f32⟩
  | .hbm, ⟨33, _⟩ => ⟨S_, .i32⟩
  | .hbm, ⟨34, _⟩ => ⟨S352, .i32⟩
  | .hbm, ⟨35, _⟩ => ⟨S352, .i1⟩
  | .hbm, ⟨36, _⟩ => ⟨S_, .i32⟩
  | .hbm, ⟨37, _⟩ => ⟨S352, .i32⟩
  | .hbm, ⟨38, _⟩ => ⟨S352, .i32⟩
  | .hbm, ⟨39, _⟩ => ⟨S352, .i32⟩
  | .hbm, ⟨40, _⟩ => ⟨S352x1, .i32⟩
  | .hbm, ⟨41, _⟩ => ⟨S352x2048x2048, .bf16⟩
  | .hbm, ⟨42, _⟩ => ⟨S352x2048x2048, .f32⟩
  | .hbm, ⟨43, _⟩ => ⟨S352x512x2048, .f32⟩
  | .hbm, ⟨44, _⟩ => ⟨S_, .i32⟩
  | .hbm, ⟨45, _⟩ => ⟨S352, .i32⟩
  | .hbm, ⟨46, _⟩ => ⟨S352, .i1⟩
  | .hbm, ⟨47, _⟩ => ⟨S_, .i32⟩
  | .hbm, ⟨48, _⟩ => ⟨S352, .i32⟩
  | .hbm, ⟨49, _⟩ => ⟨S352, .i32⟩
  | .hbm, ⟨50, _⟩ => ⟨S352, .i32⟩
  | .hbm, ⟨51, _⟩ => ⟨S352x1, .i32⟩
  | .hbm, ⟨52, _⟩ => ⟨S352x1x2048, .f32⟩
  | .hbm, ⟨53, _⟩ => ⟨S352x512x2048, .f32⟩
  | .hbm, ⟨54, _⟩ => ⟨S352x512x2048, .f32⟩
  | .hbm, ⟨55, _⟩ => ⟨S_, .f32⟩
  | .hbm, ⟨56, _⟩ => ⟨S352x512x2048, .f32⟩
  | .hbm, ⟨57, _⟩ => ⟨S352x512x2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S352x512x2048, .f32⟩
  | .hbm, ⟨62, _⟩ => ⟨S352x512x2048, .f32⟩
  | .hbm, ⟨63, _⟩ => ⟨S_, .f32⟩
  | .hbm, ⟨64, _⟩ => ⟨S352x512x2048, .f32⟩
  | .hbm, ⟨65, _⟩ => ⟨S352x512x2048, .f32⟩
  | .hbm, ⟨66, _⟩ => ⟨S_, .f32⟩
  | .hbm, ⟨67, _⟩ => ⟨S352x512x2048, .f32⟩
  | .hbm, ⟨68, _⟩ => ⟨S352x512x2048, .f32⟩
  | .hbm, ⟨69, _⟩ => ⟨S352x512x2048, .f32⟩
  | .hbm, ⟨70, _⟩ => ⟨S352x512x2048, .f32⟩
  | .hbm, ⟨71, _⟩ => ⟨S_, .f32⟩
  | .hbm, ⟨72, _⟩ => ⟨S352x512x2048, .f32⟩
  | .hbm, ⟨73, _⟩ => ⟨S352x512x2048, .f32⟩
  | .hbm, ⟨74, _⟩ => ⟨S_, .f32⟩
  | .hbm, ⟨75, _⟩ => ⟨S352x512x2048, .f32⟩
  | .hbm, ⟨76, _⟩ => ⟨S352x512x2048, .f32⟩
  | .hbm, ⟨77, _⟩ => ⟨S352x512x2048, .f32⟩
  | .hbm, ⟨78, _⟩ => ⟨S_, .f32⟩
  | .hbm, ⟨79, _⟩ => ⟨S352x512x2048, .f32⟩
  | .hbm, ⟨80, _⟩ => ⟨S352x512x2048, .f32⟩
  | .hbm, ⟨81, _⟩ => ⟨S352x512x2048, .f32⟩
  | .hbm, ⟨82, _⟩ => ⟨S_, .i32⟩
  | .hbm, ⟨83, _⟩ => ⟨S352, .i32⟩
  | .hbm, ⟨84, _⟩ => ⟨S352, .i1⟩
  | .hbm, ⟨85, _⟩ => ⟨S_, .i32⟩
  | .hbm, ⟨86, _⟩ => ⟨S352, .i32⟩
  | .hbm, ⟨87, _⟩ => ⟨S352, .i32⟩
  | .hbm, ⟨88, _⟩ => ⟨S352, .i32⟩
  | .hbm, ⟨89, _⟩ => ⟨S352x1, .i32⟩
  | .hbm, ⟨90, _⟩ => ⟨S352x2048x2048, .bf16⟩
  | .hbm, ⟨91, _⟩ => ⟨S352x2048x2048, .f32⟩
  | .hbm, ⟨92, _⟩ => ⟨S352x512x2048, .f32⟩
  | .hbm, ⟨93, _⟩ => ⟨S_, .i32⟩
  | .hbm, ⟨94, _⟩ => ⟨S352, .i32⟩
  | .hbm, ⟨95, _⟩ => ⟨S352, .i1⟩
  | .hbm, ⟨96, _⟩ => ⟨S_, .i32⟩
  | .hbm, ⟨97, _⟩ => ⟨S352, .i32⟩
  | .hbm, ⟨98, _⟩ => ⟨S352, .i32⟩
  | .hbm, ⟨99, _⟩ => ⟨S352, .i32⟩
  | .hbm, ⟨100, _⟩ => ⟨S352x1, .i32⟩
  | .hbm, ⟨101, _⟩ => ⟨S352x1x2048, .f32⟩
  | .hbm, ⟨102, _⟩ => ⟨S352x512x2048, .f32⟩
  | .hbm, ⟨103, _⟩ => ⟨S352x512x2048, .f32⟩
  | .hbm, ⟨104, _⟩ => ⟨S352, .i32⟩
  | .hbm, ⟨105, _⟩ => ⟨S352x1x1, .i32⟩
  | .hbm, ⟨106, _⟩ => ⟨S_, .i32⟩
  | .hbm, ⟨107, _⟩ => ⟨S352x1x1, .i32⟩
  | .hbm, ⟨108, _⟩ => ⟨S352x1x1, .i1⟩
  | .hbm, ⟨109, _⟩ => ⟨S_, .f32⟩
  | .hbm, ⟨110, _⟩ => ⟨S_, .f32⟩
  | .hbm, ⟨111, _⟩ => ⟨S352x512x2048, .i1⟩
  | .hbm, ⟨112, _⟩ => ⟨S352x512x2048, .f32⟩
  | .hbm, ⟨113, _⟩ => ⟨S352x512x2048, .f32⟩
  | .hbm, ⟨114, _⟩ => ⟨S180224x2048, .f32⟩
  | .hbm, ⟨115, _⟩ => ⟨S180224x2048, .bf16⟩
  | _, _ => ⟨S352, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_cst_8 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_12 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_v53 : Ref sig .tc := ⟨.hbm, 83, rfl⟩
abbrev main_v54 : Ref sig .tc := ⟨.hbm, 84, rfl⟩
abbrev main_c_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_15 : Ref sig .tc := ⟨.hbm, 93, rfl⟩
abbrev main_v62 : Ref sig .tc := ⟨.hbm, 94, rfl⟩
abbrev main_v63 : Ref sig .tc := ⟨.hbm, 95, rfl⟩
abbrev main_c_16 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_17 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]
-- ==== Kernel4.lean ====
abbrev S40960x2048 : Shape := ⟨2, ![40960, 2048]⟩
abbrev S32768x2048 : Shape := ⟨2, ![32768, 2048]⟩
abbrev S8192x2048 : Shape := ⟨2, ![8192, 2048]⟩
abbrev S40960x11264 : Shape := ⟨2, ![40960, 11264]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩
abbrev S40960x128 : Shape := ⟨2, ![40960, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 16
  | .vmem => 28
  | .smem => 0
  | _ => 0

abbrev bufTy : (tb : Table) → Fin (tcTables nBuf tb) → BufTy
  | .hbm, ⟨0, _⟩ => ⟨S40960x2048, .bf16⟩
  | .hbm, ⟨1, _⟩ => ⟨S32768x2048, .bf16⟩
  | .hbm, ⟨2, _⟩ => ⟨S8192x2048, .bf16⟩
  | .hbm, ⟨3, _⟩ => ⟨S40960x11264, .bf16⟩
  | .hbm, ⟨4, _⟩ => ⟨S32768x2048, .f32⟩
  | .hbm, ⟨5, _⟩ => ⟨S8192x2048, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S1x2048, .f32⟩
  | .hbm, ⟨10, _⟩ => ⟨S2048x128, .bf16⟩
  | .hbm, ⟨11, _⟩ => ⟨S1x128, .f32⟩
  | .hbm, ⟨12, _⟩ => ⟨S40960x2048, .f32⟩
  | .hbm, ⟨13, _⟩ => ⟨S40960x2048, .bf16⟩
  | .hbm, ⟨14, _⟩ => ⟨S40960x128, .i32⟩
  | .hbm, ⟨15, _⟩ => ⟨S40960x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S2048x2048, .bf16⟩
  | .local _ .vmem, ⟨15, _⟩ => ⟨S2048x2048, .bf16⟩
  | .local _ .vmem, ⟨16, _⟩ => ⟨S2048x2048, .bf16⟩
  | .local _ .vmem, ⟨17, _⟩ => ⟨S1x2048, .f32⟩
  | .local _ .vmem, ⟨18, _⟩ => ⟨S2048x128, .bf16⟩
  | .local _ .vmem, ⟨19, _⟩ => ⟨S1x128, .f32⟩
  | .local _ .vmem, ⟨20, _⟩ => ⟨S256x2048, .f32⟩
  | .local _ .vmem, ⟨21, _⟩ => ⟨S256x2048, .f32⟩
  | .local _ .vmem, ⟨22, _⟩ => ⟨S256x2048, .bf16⟩
  | .local _ .vmem, ⟨23, _⟩ => ⟨S256x2048, .bf16⟩
  | .local _ .vmem, ⟨24, _⟩ => ⟨S256x128, .i32⟩
  | .local _ .vmem, ⟨25, _⟩ => ⟨S256x128, .i32⟩
  | .local _ .vmem, ⟨26, _⟩ => ⟨S256x128, .f32⟩
  | .local _ .vmem, ⟨27, _⟩ => ⟨S256x128, .f32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S40960x2048 : Shape := ⟨2, ![40960, 2048]⟩
abbrev S32768x2048 : Shape := ⟨2, ![32768, 2048]⟩
abbrev S8192x2048 : Shape := ⟨2, ![8192, 2048]⟩
abbrev S40960x11264 : Shape := ⟨2, ![40960, 11264]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩
abbrev S_ : Shape := ⟨0, ![]⟩
abbrev S2048 : Shape := ⟨1, ![2048]⟩
abbrev S40960 : Shape := ⟨1, ![40960]⟩
abbrev S40960x1 : Shape := ⟨2, ![40960, 1]⟩

abbrev nBuf : Space → Nat
  | .hbm => 64
  | .vmem => 0
  | .smem => 0
  | _ => 0

abbrev bufTy : (tb : Table) → Fin (tcTables nBuf tb) → BufTy
  | .hbm, ⟨0, _⟩ => ⟨S40960x2048, .bf16⟩
  | .hbm, ⟨1, _⟩ => ⟨S32768x2048, .bf16⟩
  | .hbm, ⟨2, _⟩ => ⟨S8192x2048, .bf16⟩
  | .hbm, ⟨3, _⟩ => ⟨S40960x11264, .bf16⟩
  | .hbm, ⟨4, _⟩ => ⟨S32768x2048, .f32⟩
  | .hbm, ⟨5, _⟩ => ⟨S8192x2048, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S1x2048, .f32⟩
  | .hbm, ⟨10, _⟩ => ⟨S2048x128, .bf16⟩
  | .hbm, ⟨11, _⟩ => ⟨S1x128, .f32⟩
  | .hbm, ⟨12, _⟩ => ⟨S40960x2048, .f32⟩
  | .hbm, ⟨13, _⟩ => ⟨S40960x2048, .bf16⟩
  | .hbm, ⟨14, _⟩ => ⟨S40960x2048, .f32⟩
  | .hbm, ⟨15, _⟩ => ⟨S2048x2048, .f32⟩
  | .hbm, ⟨16, _⟩ => ⟨S40960x2048, .f32⟩
  | .hbm, ⟨17, _⟩ => ⟨S40960x2048, .bf16⟩
  | .hbm, ⟨18, _⟩ => ⟨S40960x2048, .f32⟩
  | .hbm, ⟨19, _⟩ => ⟨S40960x2048, .bf16⟩
  | .hbm, ⟨20, _⟩ => ⟨S40960x2048, .f32⟩
  | .hbm, ⟨21, _⟩ => ⟨S40960x2048, .f32⟩
  | .hbm, ⟨22, _⟩ => ⟨S40960x2048, .f32⟩
  | .hbm, ⟨23, _⟩ => ⟨S_, .f32⟩
  | .hbm, ⟨24, _⟩ => ⟨S40960x2048, .f32⟩
  | .hbm, ⟨25, _⟩ => ⟨S40960x2048, .f32⟩
  | .hbm, ⟨26, _⟩ => ⟨S_, .f32⟩
  | .hbm, ⟨27, _⟩ => ⟨S40960x2048, .f32⟩
  | .hbm, ⟨28, _⟩ => ⟨S40960x2048, .f32⟩
  | .hbm, ⟨29, _⟩ => ⟨S40960x2048, .f32⟩
  | .hbm, ⟨30, _⟩ => ⟨S2048x2048, .f32⟩
  | .hbm, ⟨31, _⟩ => ⟨S40960x2048, .f32⟩
  | .hbm, ⟨32, _⟩ => ⟨S40960x2048, .f32⟩
  | .hbm, ⟨33, _⟩ => ⟨S40960x2048, .f32⟩
  | .hbm, ⟨34, _⟩ => ⟨S40960x2048, .f32⟩
  | .hbm, ⟨35, _⟩ => ⟨S_, .f32⟩
  | .hbm, ⟨36, _⟩ => ⟨S40960x2048, .f32⟩
  | .hbm, ⟨37, _⟩ => ⟨S40960x2048, .f32⟩
  | .hbm, ⟨38, _⟩ => ⟨S_, .f32⟩
  | .hbm, ⟨39, _⟩ => ⟨S40960x2048, .f32⟩
  | .hbm, ⟨40, _⟩ => ⟨S40960x2048, .f32⟩
  | .hbm, ⟨41, _⟩ => ⟨S40960x2048, .f32⟩
  | .hbm, ⟨42, _⟩ => ⟨S40960x2048, .f32⟩
  | .hbm, ⟨43, _⟩ => ⟨S2048x2048, .f32⟩
  | .hbm, ⟨44, _⟩ => ⟨S40960x2048, .f32⟩
  | .hbm, ⟨45, _⟩ => ⟨S40960x2048, .f32⟩
  | .hbm, ⟨46, _⟩ => ⟨S2048, .f32⟩
  | .hbm, ⟨47, _⟩ => ⟨S40960x2048, .f32⟩
  | .hbm, ⟨48, _⟩ => ⟨S_, .f32⟩
  | .hbm, ⟨49, _⟩ => ⟨S40960, .f32⟩
  | .hbm, ⟨50, _⟩ => ⟨S40960x1, .f32⟩
  | .hbm, ⟨51, _⟩ => ⟨S_, .f32⟩
  | .hbm, ⟨52, _⟩ => ⟨S40960x1, .f32⟩
  | .hbm, ⟨53, _⟩ => ⟨S40960x1, .f32⟩
  | .hbm, ⟨54, _⟩ => ⟨S_, .f32⟩
  | .hbm, ⟨55, _⟩ => ⟨S40960x1, .f32⟩
  | .hbm, ⟨56, _⟩ => ⟨S40960x1, .f32⟩
  | .hbm, ⟨57, _⟩ => ⟨S40960x1, .f32⟩
  | .hbm, ⟨58, _⟩ => ⟨S40960x2048, .f32⟩
  | .hbm, ⟨59, _⟩ => ⟨S40960x2048, .f32⟩
  | .hbm, ⟨60, _⟩ => ⟨S1x2048, .f32⟩
  | .hbm, ⟨61, _⟩ => ⟨S40960x2048, .f32⟩
  | .hbm, ⟨62, _⟩ => ⟨S40960x2048, .f32⟩
  | .hbm, ⟨63, _⟩ => ⟨S40960x2048, .bf16⟩
  | _, _ => ⟨S40960x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Proof.Trip.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.Proof.Latent

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole buffer of core `c` with its contents. -/
abbrev held (c : Dev nD) {sp : Space} {s : Shape} {e : EltTy} (m : Memref sig .tc sp s e) (f : BufTy.Contents (Elt F) m.view.ty) : sProp 𝕄 :=
  m.view.loc (c : Thread nD τ) ↦{fullShare} f

/-- The buffers one trip of the loop touches: keys and values, then the two score tiles, the two weight tiles, the two rows of factors, the row of maxima and the accumulator. -/
abbrev Trip (c : Dev nD) (arg4 : Memref sig .tc .vmem S16384x256 .bf16) (arg5 : Memref sig .tc .vmem S144x16384 .bf16) (arg7 : Memref sig .tc .vmem S512x2048 .f32) (arg8 : Memref sig .tc .vmem S512x2048 .f32) (arg9 : Memref sig .tc .vmem S512x2048 .bf16) (arg10 : Memref sig .tc .vmem S512x2048 .bf16) (arg11 : Memref sig .tc .vmem S1x2048 .f32) (arg12 : Memref sig .tc .vmem S1x2048 .f32) (arg13 : Memref sig .tc .vmem S1x2048 .f32) (arg14 : Memref sig .tc .vmem S144x2048 .f32)
    (f4 : BufTy.Contents (Elt F) arg4.view.ty) (f5 : BufTy.Contents (Elt F) arg5.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) : sProp 𝕄 :=
  iprop(held c arg4 f4 ∗ held c arg5 f5 ∗ held c arg7 f7 ∗ held c arg8 f8 ∗ held c arg9 f9 ∗ held c arg10 f10 ∗ held c arg11 f11 ∗ held c arg12 f12 ∗ held c arg13 f13 ∗ held c arg14 f14)

set_option maxHeartbeats 4000000 in
/-- One trip of the loop: what it leaves in each buffer is the list of the pieces it stores. -/
@[irreducible] def trip (c : Dev nD) (i : grid0.Coords) (arg3 : Memref sig .tc .vmem S256x2048 .bf16) (harg3 : arg3.IsWhole) (arg4 : Memref sig .tc .vmem S16384x256 .bf16) (harg4 : arg4.IsWhole) (arg5 : Memref sig .tc .vmem S144x16384 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S144x2048 .f32) (harg14 : arg14.IsWhole)
    (v1 : FVec F S256x2048 .bf16) (v156 : FVec F S1x256 .f32) (v166 : FVec F S512x256 .bf16)
    (f4 : BufTy.Contents (Elt F) arg4.view.ty) (f5 : BufTy.Contents (Elt F) arg5.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (k : Fin k0_t1_loop.trips) :
    Σ' (L7 : List (View.Piece (Elt F) S512x2048 .f32)) (L8 : List (View.Piece (Elt F) S512x2048 .f32)) (L9 : List (View.Piece (Elt F) S512x2048 .bf16))
      (L10 : List (View.Piece (Elt F) S512x2048 .bf16)) (L11 : List (View.Piece (Elt F) S1x2048 .f32)) (L12 : List (View.Piece (Elt F) S1x2048 .f32))
      (L13 : List (View.Piece (Elt F) S1x2048 .f32)),
    { L14 : List (View.Piece (Elt F) S144x2048 .f32) //
      Trip (F := F) c arg4 arg5 arg7 arg8 arg9 arg10 arg11 arg12 arg13 arg14 f4 f5 f7 f8 f9 f10 f11 f12 f13 f14
      ⊢ wp frame (wpE defs₀ Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 v1 v156 v166 k ())
          (fun _ => Trip (F := F) c arg4 arg5 arg7 arg8 arg9 arg10 arg11 arg12 arg13 arg14 f4 f5 (arg7.view.writes (Elt F) f7 L7) (arg8.view.writes (Elt F) f8 L8) (arg9.view.writes (Elt F) f9 L9) (arg10.view.writes (Elt F) f10 L10) (arg11.view.writes (Elt F) f11 L11) (arg12.view.writes (Elt F) f12 L12) (arg13.view.writes (Elt F) f13 L13) (arg14.view.writes (Elt F) f14 L14)) } := by
  refine ⟨?_, ?_, ?_, ?_, ?_, ?_, ?_, ?_, ?run⟩
  case run =>
    unfold k0_t1_body
    iintro ⟨H4, H5, H7, H8, H9, H10, H11, H12, H13, H14⟩
    sl_exec_parts
    sl_step
    sl_close

end Cert.Proof.Latent

end
-- ==== Proof.Loop.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Trip

@[expose] public section

set_option maxRecDepth 16384

noncomputable section

namespace Cert.Proof.Latent

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Per buffer the loop writes, the pieces stored so far, newest first. -/
structure Ls (F : FTy → Type) [FloatOps F] where
  L7 : List (View.Piece (Elt F) S512x2048 .f32)
  L8 : List (View.Piece (Elt F) S512x2048 .f32)
  L9 : List (View.Piece (Elt F) S512x2048 .bf16)
  L10 : List (View.Piece (Elt F) S512x2048 .bf16)
  L11 : List (View.Piece (Elt F) S1x2048 .f32)
  L12 : List (View.Piece (Elt F) S1x2048 .f32)
  L13 : List (View.Piece (Elt F) S1x2048 .f32)
  L14 : List (View.Piece (Elt F) S144x2048 .f32)

/-- What trip `k` adds to the pieces stored before it. -/
@[irreducible] def stepLs (c : Dev nD) (i : grid0.Coords) (arg3 : Memref sig .tc .vmem S256x2048 .bf16) (harg3 : arg3.IsWhole) (arg4 : Memref sig .tc .vmem S16384x256 .bf16) (harg4 : arg4.IsWhole) (arg5 : Memref sig .tc .vmem S144x16384 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S144x2048 .f32) (harg14 : arg14.IsWhole)
    (v1 : FVec F S256x2048 .bf16) (v156 : FVec F S1x256 .f32) (v166 : FVec F S512x256 .bf16)
    (f4 : BufTy.Contents (Elt F) arg4.view.ty) (f5 : BufTy.Contents (Elt F) arg5.view.ty)
    (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty)
    (k : ℕ) (l : Ls F) : Ls F :=
  if h : k < k0_t1_loop.trips then
    ⟨(trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 l.L7) (arg8.view.writes (Elt F) g8 l.L8) (arg9.view.writes (Elt F) g9 l.L9) (arg10.view.writes (Elt F) g10 l.L10) (arg11.view.writes (Elt F) g11 l.L11) (arg12.view.writes (Elt F) g12 l.L12) (arg13.view.writes (Elt F) g13 l.L13) (arg14.view.writes (Elt F) g14 l.L14) ⟨k, h⟩).1 ++ l.L7,
      (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 l.L7) (arg8.view.writes (Elt F) g8 l.L8) (arg9.view.writes (Elt F) g9 l.L9) (arg10.view.writes (Elt F) g10 l.L10) (arg11.view.writes (Elt F) g11 l.L11) (arg12.view.writes (Elt F) g12 l.L12) (arg13.view.writes (Elt F) g13 l.L13) (arg14.view.writes (Elt F) g14 l.L14) ⟨k, h⟩).2.1 ++ l.L8,
      (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 l.L7) (arg8.view.writes (Elt F) g8 l.L8) (arg9.view.writes (Elt F) g9 l.L9) (arg10.view.writes (Elt F) g10 l.L10) (arg11.view.writes (Elt F) g11 l.L11) (arg12.view.writes (Elt F) g12 l.L12) (arg13.view.writes (Elt F) g13 l.L13) (arg14.view.writes (Elt F) g14 l.L14) ⟨k, h⟩).2.2.1 ++ l.L9,
      (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 l.L7) (arg8.view.writes (Elt F) g8 l.L8) (arg9.view.writes (Elt F) g9 l.L9) (arg10.view.writes (Elt F) g10 l.L10) (arg11.view.writes (Elt F) g11 l.L11) (arg12.view.writes (Elt F) g12 l.L12) (arg13.view.writes (Elt F) g13 l.L13) (arg14.view.writes (Elt F) g14 l.L14) ⟨k, h⟩).2.2.2.1 ++ l.L10,
      (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 l.L7) (arg8.view.writes (Elt F) g8 l.L8) (arg9.view.writes (Elt F) g9 l.L9) (arg10.view.writes (Elt F) g10 l.L10) (arg11.view.writes (Elt F) g11 l.L11) (arg12.view.writes (Elt F) g12 l.L12) (arg13.view.writes (Elt F) g13 l.L13) (arg14.view.writes (Elt F) g14 l.L14) ⟨k, h⟩).2.2.2.2.1 ++ l.L11,
      (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 l.L7) (arg8.view.writes (Elt F) g8 l.L8) (arg9.view.writes (Elt F) g9 l.L9) (arg10.view.writes (Elt F) g10 l.L10) (arg11.view.writes (Elt F) g11 l.L11) (arg12.view.writes (Elt F) g12 l.L12) (arg13.view.writes (Elt F) g13 l.L13) (arg14.view.writes (Elt F) g14 l.L14) ⟨k, h⟩).2.2.2.2.2.1 ++ l.L12,
      (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 l.L7) (arg8.view.writes (Elt F) g8 l.L8) (arg9.view.writes (Elt F) g9 l.L9) (arg10.view.writes (Elt F) g10 l.L10) (arg11.view.writes (Elt F) g11 l.L11) (arg12.view.writes (Elt F) g12 l.L12) (arg13.view.writes (Elt F) g13 l.L13) (arg14.view.writes (Elt F) g14 l.L14) ⟨k, h⟩).2.2.2.2.2.2.1 ++ l.L13,
      (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 l.L7) (arg8.view.writes (Elt F) g8 l.L8) (arg9.view.writes (Elt F) g9 l.L9) (arg10.view.writes (Elt F) g10 l.L10) (arg11.view.writes (Elt F) g11 l.L11) (arg12.view.writes (Elt F) g12 l.L12) (arg13.view.writes (Elt F) g13 l.L13) (arg14.view.writes (Elt F) g14 l.L14) ⟨k, h⟩).2.2.2.2.2.2.2.1 ++ l.L14⟩
  else l

/-- The pieces stored before trip `k`. -/
def ls (c : Dev nD) (i : grid0.Coords) (arg3 : Memref sig .tc .vmem S256x2048 .bf16) (harg3 : arg3.IsWhole) (arg4 : Memref sig .tc .vmem S16384x256 .bf16) (harg4 : arg4.IsWhole) (arg5 : Memref sig .tc .vmem S144x16384 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S144x2048 .f32) (harg14 : arg14.IsWhole)
    (v1 : FVec F S256x2048 .bf16) (v156 : FVec F S1x256 .f32) (v166 : FVec F S512x256 .bf16)
    (f4 : BufTy.Contents (Elt F) arg4.view.ty) (f5 : BufTy.Contents (Elt F) arg5.view.ty)
    (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty) : ℕ → Ls F
  | 0 => ⟨[], [], [], [], [], [], [], []⟩
  | k + 1 => stepLs c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k)

/-- One trip adds its own pieces. -/
theorem ls_succ (c : Dev nD) (i : grid0.Coords) (arg3 : Memref sig .tc .vmem S256x2048 .bf16) (harg3 : arg3.IsWhole) (arg4 : Memref sig .tc .vmem S16384x256 .bf16) (harg4 : arg4.IsWhole) (arg5 : Memref sig .tc .vmem S144x16384 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S144x2048 .f32) (harg14 : arg14.IsWhole)
    (v1 : FVec F S256x2048 .bf16) (v156 : FVec F S1x256 .f32) (v166 : FVec F S512x256 .bf16)
    (f4 : BufTy.Contents (Elt F) arg4.view.ty) (f5 : BufTy.Contents (Elt F) arg5.view.ty)
    (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty) (k : Fin k0_t1_loop.trips) :
    ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 (k.val + 1) =
      ⟨(trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L7) (arg8.view.writes (Elt F) g8 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L8) (arg9.view.writes (Elt F) g9 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L9) (arg10.view.writes (Elt F) g10 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L10) (arg11.view.writes (Elt F) g11 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L11) (arg12.view.writes (Elt F) g12 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L12) (arg13.view.writes (Elt F) g13 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L13) (arg14.view.writes (Elt F) g14 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L14) k).1 ++ (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L7,
       (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L7) (arg8.view.writes (Elt F) g8 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L8) (arg9.view.writes (Elt F) g9 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L9) (arg10.view.writes (Elt F) g10 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L10) (arg11.view.writes (Elt F) g11 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L11) (arg12.view.writes (Elt F) g12 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L12) (arg13.view.writes (Elt F) g13 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L13) (arg14.view.writes (Elt F) g14 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L14) k).2.1 ++ (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L8,
       (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L7) (arg8.view.writes (Elt F) g8 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L8) (arg9.view.writes (Elt F) g9 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L9) (arg10.view.writes (Elt F) g10 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L10) (arg11.view.writes (Elt F) g11 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L11) (arg12.view.writes (Elt F) g12 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L12) (arg13.view.writes (Elt F) g13 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L13) (arg14.view.writes (Elt F) g14 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L14) k).2.2.1 ++ (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L9,
       (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L7) (arg8.view.writes (Elt F) g8 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L8) (arg9.view.writes (Elt F) g9 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L9) (arg10.view.writes (Elt F) g10 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L10) (arg11.view.writes (Elt F) g11 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L11) (arg12.view.writes (Elt F) g12 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L12) (arg13.view.writes (Elt F) g13 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L13) (arg14.view.writes (Elt F) g14 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L14) k).2.2.2.1 ++ (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L10,
       (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L7) (arg8.view.writes (Elt F) g8 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L8) (arg9.view.writes (Elt F) g9 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L9) (arg10.view.writes (Elt F) g10 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L10) (arg11.view.writes (Elt F) g11 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L11) (arg12.view.writes (Elt F) g12 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L12) (arg13.view.writes (Elt F) g13 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L13) (arg14.view.writes (Elt F) g14 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L14) k).2.2.2.2.1 ++ (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L11,
       (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L7) (arg8.view.writes (Elt F) g8 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L8) (arg9.view.writes (Elt F) g9 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L9) (arg10.view.writes (Elt F) g10 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L10) (arg11.view.writes (Elt F) g11 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L11) (arg12.view.writes (Elt F) g12 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L12) (arg13.view.writes (Elt F) g13 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L13) (arg14.view.writes (Elt F) g14 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L14) k).2.2.2.2.2.1 ++ (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L12,
       (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L7) (arg8.view.writes (Elt F) g8 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L8) (arg9.view.writes (Elt F) g9 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L9) (arg10.view.writes (Elt F) g10 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L10) (arg11.view.writes (Elt F) g11 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L11) (arg12.view.writes (Elt F) g12 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L12) (arg13.view.writes (Elt F) g13 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L13) (arg14.view.writes (Elt F) g14 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L14) k).2.2.2.2.2.2.1 ++ (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L13,
       (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L7) (arg8.view.writes (Elt F) g8 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L8) (arg9.view.writes (Elt F) g9 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L9) (arg10.view.writes (Elt F) g10 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L10) (arg11.view.writes (Elt F) g11 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L11) (arg12.view.writes (Elt F) g12 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L12) (arg13.view.writes (Elt F) g13 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L13) (arg14.view.writes (Elt F) g14 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L14) k).2.2.2.2.2.2.2.1 ++ (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L14⟩ := by
  show stepLs c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val) = _
  unfold stepLs
  exact dif_pos k.isLt

set_option maxHeartbeats 4000000 in
set_option warn.classDefReducibility false in
/-- The loop, its invariant naming the contents of every buffer before each trip. -/
@[sl_loop] def loopInv (c : Dev nD) (i : grid0.Coords) (arg3 : Memref sig .tc .vmem S256x2048 .bf16) (harg3 : arg3.IsWhole) (arg4 : Memref sig .tc .vmem S16384x256 .bf16) (harg4 : arg4.IsWhole) (arg5 : Memref sig .tc .vmem S144x16384 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S144x2048 .f32) (harg14 : arg14.IsWhole)
    (v1 : FVec F S256x2048 .bf16) (v156 : FVec F S1x256 .f32) (v166 : FVec F S512x256 .bf16)
    (f4 : BufTy.Contents (Elt F) arg4.view.ty) (f5 : BufTy.Contents (Elt F) arg5.view.ty)
    (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty) :
    Gen.LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 v1 v156 v166 where
  inv k _ := iprop(held c arg4 f4 ∗ held c arg5 f5 ∗ (∃ f, held c arg7 f ∗ ⌜f = arg7.view.writes (Elt F) g7 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k).L7⌝) ∗ (∃ f, held c arg8 f ∗ ⌜f = arg8.view.writes (Elt F) g8 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k).L8⌝) ∗ (∃ f, held c arg9 f ∗ ⌜f = arg9.view.writes (Elt F) g9 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k).L9⌝) ∗ (∃ f, held c arg10 f ∗ ⌜f = arg10.view.writes (Elt F) g10 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k).L10⌝) ∗ (∃ f, held c arg11 f ∗ ⌜f = arg11.view.writes (Elt F) g11 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k).L11⌝) ∗ (∃ f, held c arg12 f ∗ ⌜f = arg12.view.writes (Elt F) g12 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k).L12⌝) ∗ (∃ f, held c arg13 f ∗ ⌜f = arg13.view.writes (Elt F) g13 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k).L13⌝) ∗ (∃ f, held c arg14 f ∗ ⌜f = arg14.view.writes (Elt F) g14 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k).L14⌝))
  step k acc := by
    iintro ⟨H4, H5, ⟨%f7, H7, %h7⟩, ⟨%f8, H8, %h8⟩, ⟨%f9, H9, %h9⟩, ⟨%f10, H10, %h10⟩, ⟨%f11, H11, %h11⟩, ⟨%f12, H12, %h12⟩, ⟨%f13, H13, %h13⟩, ⟨%f14, H14, %h14⟩⟩
    subst h7 h8 h9 h10 h11 h12 h13 h14
    iapply (wp_wand_r frame (wpE defs₀ Variants.none (c : Thread nD τ) none) Set.univ)
    isplitl [H4 H5 H7 H8 H9 H10 H11 H12 H13 H14]
    · iapply (trip c i arg3 harg3 arg4 harg4 arg5 harg5 arg6 harg6 arg7 harg7 arg8 harg8 arg9 harg9 arg10 harg10 arg11 harg11 arg12 harg12 arg13 harg13 arg14 harg14 v1 v156 v166 f4 f5 (arg7.view.writes (Elt F) g7 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L7) (arg8.view.writes (Elt F) g8 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L8) (arg9.view.writes (Elt F) g9 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L9) (arg10.view.writes (Elt F) g10 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L10) (arg11.view.writes (Elt F) g11 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L11) (arg12.view.writes (Elt F) g12 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L12) (arg13.view.writes (Elt F) g13 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L13) (arg14.view.writes (Elt F) g14 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k.val).L14) k).2.2.2.2.2.2.2.2
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iintro %_ ⟨H4, H5, H7, H8, H9, H10, H11, H12, H13, H14⟩
      have hs := ls_succ c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k
      isplitl [H4]; · iexact H4
      isplitl [H5]; · iexact H5
      isplitl [H7]
      · iexists _; isplitl [H7]; · iexact H7
        ipureintro; rw [← View.writes_append]; exact congrArg (arg7.view.writes (Elt F) g7) (congrArg Ls.L7 hs).symm
      isplitl [H8]
      · iexists _; isplitl [H8]; · iexact H8
        ipureintro; rw [← View.writes_append]; exact congrArg (arg8.view.writes (Elt F) g8) (congrArg Ls.L8 hs).symm
      isplitl [H9]
      · iexists _; isplitl [H9]; · iexact H9
        ipureintro; rw [← View.writes_append]; exact congrArg (arg9.view.writes (Elt F) g9) (congrArg Ls.L9 hs).symm
      isplitl [H10]
      · iexists _; isplitl [H10]; · iexact H10
        ipureintro; rw [← View.writes_append]; exact congrArg (arg10.view.writes (Elt F) g10) (congrArg Ls.L10 hs).symm
      isplitl [H11]
      · iexists _; isplitl [H11]; · iexact H11
        ipureintro; rw [← View.writes_append]; exact congrArg (arg11.view.writes (Elt F) g11) (congrArg Ls.L11 hs).symm
      isplitl [H12]
      · iexists _; isplitl [H12]; · iexact H12
        ipureintro; rw [← View.writes_append]; exact congrArg (arg12.view.writes (Elt F) g12) (congrArg Ls.L12 hs).symm
      isplitl [H13]
      · iexists _; isplitl [H13]; · iexact H13
        ipureintro; rw [← View.writes_append]; exact congrArg (arg13.view.writes (Elt F) g13) (congrArg Ls.L13 hs).symm
      iexists _; isplitl [H14]; · iexact H14
      ipureintro; rw [← View.writes_append]; exact congrArg (arg14.view.writes (Elt F) g14) (congrArg Ls.L14 hs).symm

end Cert.Proof.Latent

end
-- ==== Proof.Body.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Loop

@[expose] public section

set_option maxRecDepth 16384

noncomputable section

namespace Cert.Proof.Latent

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- The kernel's body at one grid point: the operands stay, the result's block is the list of the pieces stored, the scratch is left at some contents. -/
@[irreducible] def bodyRun (c : Dev nD) (i : grid0.Coords) (arg3 : Memref sig .tc .vmem S256x2048 .bf16) (harg3 : arg3.IsWhole) (arg4 : Memref sig .tc .vmem S16384x256 .bf16) (harg4 : arg4.IsWhole) (arg5 : Memref sig .tc .vmem S144x16384 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S144x2048 .f32) (harg14 : arg14.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    { L6 : List (View.Piece (Elt F) S2048x128 .bf16) //
      (iprop(held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ held c arg13 f13 ∗ held c arg14 f14) : sProp 𝕄)
      ⊢ wp frame (wpE defs₀ Variants.none (c : Thread nD τ) none) Set.univ
          (cc0_mla_attn (F := F) i arg3 harg3 arg4 harg4 arg5 harg5 arg6 harg6 arg7 harg7 arg8 harg8 arg9 harg9 arg10 harg10 arg11 harg11 arg12 harg12 arg13 harg13 arg14 harg14)
          (fun _ => (iprop(held c arg3 f3 ∗ held c arg4 f4 ∗ held c arg5 f5 ∗ held c arg6 (arg6.view.writes (Elt F) f6 L6) ∗ (∃ f, held c arg7 f) ∗ (∃ f, held c arg8 f) ∗ (∃ f, held c arg9 f) ∗ (∃ f, held c arg10 f) ∗ (∃ f, held c arg11 f) ∗ (∃ f, held c arg12 f) ∗ (∃ f, held c arg13 f) ∗ (∃ f, held c arg14 f)) : sProp 𝕄)) } := by
  refine ⟨?_, ?run⟩
  case run =>
    rw [cc0_mla_attn_eq_skeleton]
    unfold cc0_mla_attn_skel
    iintro ⟨H3, H4, H5, H6, H7, H8, H9, H10, H11, H12, H13, H14⟩
    sl_exec_parts
    sl_step
    sl_close

end Cert.Proof.Latent

end
-- ==== Proof.Tiles.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pointwise
public import Idealize.ShloMosaic.Lib.Pipeline.ReadBack

@[expose] public section

set_option maxRecDepth 16384

noncomputable section

namespace Cert.Proof.Latent

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Strips of 256 columns -/

/-- The column `256 j + l` of a row of 2048. -/
abbrev lane (j : Fin 8) (l : Fin 256) : Fin 2048 := ⟨256 * j.val + l.val, by omega⟩

/-- Strip `j` of a row. -/
def stripRow (j : Fin 8) (M : FVec F S1x2048 .f32) : FVec F S1x256 .f32 := fun y => M (ix2 0 (lane j (y 1)))
/-- Strip `j` of a tile. -/
def stripTile {α : Type} (j : Fin 8) (S : S512x2048.Idx → α) : S512x256.Idx → α := fun y => S (ix2 (y 0) (lane j (y 1)))
/-- The row of which the eight strips are given. -/
def rowOf (w : Fin 8 → FVec F S1x256 .f32) : FVec F S1x2048 .f32 :=
  fun i => w ⟨(i 1).val / 256, by have : (i 1).val < 2048 := (i 1).isLt; omega⟩ (ix2 0 ⟨(i 1).val % 256, Nat.mod_lt _ (by decide)⟩)
/-- The tile of which the eight strips are given. -/
def tileOf {α : Type} (w : Fin 8 → S512x256.Idx → α) : S512x2048.Idx → α :=
  fun i => w ⟨(i 1).val / 256, by have : (i 1).val < 2048 := (i 1).isLt; omega⟩ (ix2 (i 0) ⟨(i 1).val % 256, Nat.mod_lt _ (by decide)⟩)

theorem rowOf_lane (w : Fin 8 → FVec F S1x256 .f32) (j : Fin 8) (l : Fin 256) : rowOf w (ix2 0 (lane j l)) = w j (ix2 0 l) := by
  show w ⟨(256 * j.val + l.val) / 256, _⟩ (ix2 0 ⟨(256 * j.val + l.val) % 256, _⟩) = _
  have hj := j.isLt; have hl := l.isLt
  have e1 : (⟨(256 * j.val + l.val) / 256, by omega⟩ : Fin 8) = j := Fin.ext (by show _ / 256 = _; omega)
  have e2 : (⟨(256 * j.val + l.val) % 256, Nat.mod_lt _ (by decide)⟩ : Fin 256) = l := Fin.ext (by show _ % 256 = _; omega)
  rw [e1, e2]
theorem tileOf_lane {α : Type} (w : Fin 8 → S512x256.Idx → α) (r : Fin 512) (j : Fin 8) (l : Fin 256) :
    tileOf w (ix2 r (lane j l)) = w j (ix2 r l) := by
  show w ⟨(256 * j.val + l.val) / 256, _⟩ (ix2 r ⟨(256 * j.val + l.val) % 256, _⟩) = _
  have hj := j.isLt; have hl := l.isLt
  have e1 : (⟨(256 * j.val + l.val) / 256, by omega⟩ : Fin 8) = j := Fin.ext (by show _ / 256 = _; omega)
  have e2 : (⟨(256 * j.val + l.val) % 256, Nat.mod_lt _ (by decide)⟩ : Fin 256) = l := Fin.ext (by show _ % 256 = _; omega)
  rw [e1, e2]
theorem stripRow_rowOf (j : Fin 8) (w : Fin 8 → FVec F S1x256 .f32) : stripRow j (rowOf w) = w j := by
  funext y
  have e : y = ix2 0 (y 1) := by rw [eq_ix2 y]; have h : y 0 = (0 : Fin 1) := Subsingleton.elim (α := Fin 1) _ _; rw [h]; rfl
  rw [e]; exact rowOf_lane w j (y 1)
theorem stripTile_tileOf {α : Type} (j : Fin 8) (w : Fin 8 → S512x256.Idx → α) : stripTile j (tileOf w) = w j := by
  funext y
  rw [eq_ix2 y]; exact tileOf_lane w (y 0) j (y 1)

/-! ## Eight stores, strip by strip -/

theorem exists_lane (l : Fin 2048) : ∃ (j : Fin 8) (r : Fin 256), l = lane j r :=
  ⟨⟨l.val / 256, by omega⟩, ⟨l.val % 256, Nat.mod_lt _ (by decide)⟩, Fin.ext (by show l.val = 256 * (l.val / 256) + l.val % 256; omega)⟩

theorem emb_row (j : Fin 8) {o : ℕ} (h : o = 256 * j.val) (inb : ∀ a, (![0, o] : Fin 2 → ℕ) a + S1x256.size a ≤ S1x2048.size a) (l : Fin 256) :
    (Rect.unit (s := S1x2048) ![0, o] S1x256.size inb).emb (ix2 0 l : S1x256.Idx) = ix2 0 (lane j l) := by
  subst h; funext a; refine Fin.cases ?_ (fun a => ?_) a
  · exact Subsingleton.elim (α := Fin 1) _ _
  · refine Fin.cases ?_ (fun a => a.elim0) a; apply Fin.ext; show 256 * j.val + 1 * l.val = 256 * j.val + l.val; omega
theorem emb_tile (j : Fin 8) {o : ℕ} (h : o = 256 * j.val) (inb : ∀ a, (![0, o] : Fin 2 → ℕ) a + S512x256.size a ≤ S512x2048.size a)
    (r : Fin 512) (l : Fin 256) :
    (Rect.unit (s := S512x2048) ![0, o] S512x256.size inb).emb (ix2 r l : S512x256.Idx) = ix2 r (lane j l) := by
  subst h; funext a; refine Fin.cases ?_ (fun a => ?_) a
  · apply Fin.ext; show 0 + 1 * r.val = r.val; omega
  · refine Fin.cases ?_ (fun a => a.elim0) a; apply Fin.ext; show 256 * j.val + 1 * l.val = 256 * j.val + l.val; omega

theorem eq_row (y : S1x256.Idx) : y = ix2 0 (y 1) := by
  funext a; refine Fin.cases ?_ (fun a => ?_) a
  · exact Subsingleton.elim (α := Fin 1) _ _
  · refine Fin.cases ?_ (fun a => a.elim0) a; rfl

/-- A load of strip `j` of a row. -/
theorem readAt_row {sp : Space} (v : View sig .tc sp S1x2048 .f32) (f : BufTy.Contents (Elt F) v.ty) (j : Fin 8) {o : ℕ} (h : o = 256 * j.val)
    (inb : ∀ a, (![0, o] : Fin 2 → ℕ) a + S1x256.size a ≤ S1x2048.size a) :
    v.readAt (Elt F) (Rect.unit (s := S1x2048) ![0, o] S1x256.size inb).toLoadRect f = stripRow j (v.read (Elt F) f) := by
  funext y
  show v.read (Elt F) f ((Rect.unit (s := S1x2048) ![0, o] S1x256.size inb).emb y) = v.read (Elt F) f (ix2 0 (lane j (y 1)))
  rw [← emb_row j h inb (y 1)]
  exact congrArg (fun z => v.read (Elt F) f ((Rect.unit (s := S1x2048) ![0, o] S1x256.size inb).emb z)) (eq_row y)
/-- A load of strip `j` of a tile. -/
theorem readAt_tile {e : EltTy} {sp : Space} (v : View sig .tc sp S512x2048 e) (f : BufTy.Contents (Elt F) v.ty) (j : Fin 8) {o : ℕ} (h : o = 256 * j.val)
    (inb : ∀ a, (![0, o] : Fin 2 → ℕ) a + S512x256.size a ≤ S512x2048.size a) :
    v.readAt (Elt F) (Rect.unit (s := S512x2048) ![0, o] S512x256.size inb).toLoadRect f = stripTile j (v.read (Elt F) f) := by
  funext y
  show v.read (Elt F) f ((Rect.unit (s := S512x2048) ![0, o] S512x256.size inb).emb y) = v.read (Elt F) f (ix2 (y 0) (lane j (y 1)))
  rw [← emb_tile j h inb (y 0) (y 1)]
  exact congrArg (fun z => v.read (Elt F) f ((Rect.unit (s := S512x2048) ![0, o] S512x256.size inb).emb z)) (eq_ix2 y)
/-- Strip `j` of a tile. -/
theorem ld_tile {e : EltTy} (Z : S512x2048.Idx → Elt F e) (j : Fin 8) {o : ℕ} (h : o = 256 * j.val)
    (inb : ∀ a, (![0, o] : Fin 2 → ℕ) a + S512x256.size a ≤ S512x2048.size a) :
    View.ld (Val := Elt F) (e' := e) Z (Rect.unit (s := S512x2048) ![0, o] S512x256.size inb) = stripTile j Z := by
  funext y
  show Z ((Rect.unit (s := S512x2048) ![0, o] S512x256.size inb).emb y) = Z (ix2 (y 0) (lane j (y 1)))
  rw [← emb_tile j h inb (y 0) (y 1)]
  exact congrArg (fun z => Z ((Rect.unit (s := S512x2048) ![0, o] S512x256.size inb).emb z)) (eq_ix2 y)

theorem rowOf_emb (w : Fin 8 → FVec F S1x256 .f32) (j : Fin 8) {o : ℕ} (h : o = 256 * j.val)
    (inb : ∀ a, (![0, o] : Fin 2 → ℕ) a + S1x256.size a ≤ S1x2048.size a) (x : S1x256.Idx) :
    w j x = rowOf w ((Rect.unit (s := S1x2048) ![0, o] S1x256.size inb).emb x) := by
  refine Eq.trans ?_ (congrArg (fun z => rowOf w ((Rect.unit (s := S1x2048) ![0, o] S1x256.size inb).emb z)) (eq_row x)).symm
  show w j x = rowOf w ((Rect.unit (s := S1x2048) ![0, o] S1x256.size inb).emb (ix2 0 (x 1)))
  rw [emb_row j h inb (x 1)]
  exact (congrArg (w j) (eq_row x)).trans (rowOf_lane w j (x 1)).symm
theorem tileOf_emb {α : Type} (w : Fin 8 → S512x256.Idx → α) (j : Fin 8) {o : ℕ} (h : o = 256 * j.val)
    (inb : ∀ a, (![0, o] : Fin 2 → ℕ) a + S512x256.size a ≤ S512x2048.size a) (x : S512x256.Idx) :
    w j x = tileOf w ((Rect.unit (s := S512x2048) ![0, o] S512x256.size inb).emb x) := by
  refine Eq.trans ?_ (congrArg (fun z => tileOf w ((Rect.unit (s := S512x2048) ![0, o] S512x256.size inb).emb z)) (eq_ix2 x)).symm
  show w j x = tileOf w ((Rect.unit (s := S512x2048) ![0, o] S512x256.size inb).emb (ix2 (x 0) (x 1)))
  rw [emb_tile j h inb (x 0) (x 1)]
  exact (congrArg (w j) (eq_ix2 x)).trans (tileOf_lane w (x 0) j (x 1)).symm

theorem mem_row (j : Fin 8) {o : ℕ} (h : o = 256 * j.val) (inb : ∀ a, (![0, o] : Fin 2 → ℕ) a + S1x256.size a ≤ S1x2048.size a) (l : Fin 256) :
    (ix2 0 (lane j l) : S1x2048.Idx) ∈ (Rect.unit (s := S1x2048) ![0, o] S1x256.size inb).set := by
  rw [← emb_row j h inb l]; exact LoadRect.idx_mem _ _
theorem mem_tile (j : Fin 8) {o : ℕ} (h : o = 256 * j.val) (inb : ∀ a, (![0, o] : Fin 2 → ℕ) a + S512x256.size a ≤ S512x2048.size a)
    (r : Fin 512) (l : Fin 256) :
    (ix2 r (lane j l) : S512x2048.Idx) ∈ (Rect.unit (s := S512x2048) ![0, o] S512x256.size inb).set := by
  rw [← emb_tile j h inb r l]; exact LoadRect.idx_mem _ _

/-- Eight stores to a row, one to each strip, over whatever was stored before. -/
theorem read_row {sp : Space} (v : View sig .tc sp S1x2048 .f32) (f : BufTy.Contents (Elt F) v.ty)
    (w0 w1 w2 w3 w4 w5 w6 w7 : FVec F S1x256 .f32) (L : List (View.Piece (Elt F) S1x2048 .f32)) :
    v.read (Elt F) (v.writes (Elt F) f
      (⟨Rect.unit (s := S1x2048) ![0, 1792] S1x256.size inb_S1x2048_S1x256_0_1792, w7⟩ ::
        ⟨Rect.unit (s := S1x2048) ![0, 1536] S1x256.size inb_S1x2048_S1x256_0_1536, w6⟩ ::
        ⟨Rect.unit (s := S1x2048) ![0, 1280] S1x256.size inb_S1x2048_S1x256_0_1280, w5⟩ ::
        ⟨Rect.unit (s := S1x2048) ![0, 1024] S1x256.size inb_S1x2048_S1x256_0_1024, w4⟩ ::
        ⟨Rect.unit (s := S1x2048) ![0, 768] S1x256.size inb_S1x2048_S1x256_0_768, w3⟩ ::
        ⟨Rect.unit (s := S1x2048) ![0, 512] S1x256.size inb_S1x2048_S1x256_0_512, w2⟩ ::
        ⟨Rect.unit (s := S1x2048) ![0, 256] S1x256.size inb_S1x2048_S1x256_0_256, w1⟩ ::
        ⟨Rect.unit (s := S1x2048) ![0, 0] S1x256.size inb_S1x2048_S1x256_0_0, w0⟩ :: L)) = rowOf ![w0, w1, w2, w3, w4, w5, w6, w7] := by
  rw [show (⟨Rect.unit (s := S1x2048) ![0, 1792] S1x256.size inb_S1x2048_S1x256_0_1792, w7⟩ ::
        ⟨Rect.unit (s := S1x2048) ![0, 1536] S1x256.size inb_S1x2048_S1x256_0_1536, w6⟩ ::
        ⟨Rect.unit (s := S1x2048) ![0, 1280] S1x256.size inb_S1x2048_S1x256_0_1280, w5⟩ ::
        ⟨Rect.unit (s := S1x2048) ![0, 1024] S1x256.size inb_S1x2048_S1x256_0_1024, w4⟩ ::
        ⟨Rect.unit (s := S1x2048) ![0, 768] S1x256.size inb_S1x2048_S1x256_0_768, w3⟩ ::
        ⟨Rect.unit (s := S1x2048) ![0, 512] S1x256.size inb_S1x2048_S1x256_0_512, w2⟩ ::
        ⟨Rect.unit (s := S1x2048) ![0, 256] S1x256.size inb_S1x2048_S1x256_0_256, w1⟩ ::
        ⟨Rect.unit (s := S1x2048) ![0, 0] S1x256.size inb_S1x2048_S1x256_0_0, w0⟩ :: L : List (View.Piece (Elt F) S1x2048 .f32)) = (⟨Rect.unit (s := S1x2048) ![0, 1792] S1x256.size inb_S1x2048_S1x256_0_1792, w7⟩ ::
        ⟨Rect.unit (s := S1x2048) ![0, 1536] S1x256.size inb_S1x2048_S1x256_0_1536, w6⟩ ::
        ⟨Rect.unit (s := S1x2048) ![0, 1280] S1x256.size inb_S1x2048_S1x256_0_1280, w5⟩ ::
        ⟨Rect.unit (s := S1x2048) ![0, 1024] S1x256.size inb_S1x2048_S1x256_0_1024, w4⟩ ::
        ⟨Rect.unit (s := S1x2048) ![0, 768] S1x256.size inb_S1x2048_S1x256_0_768, w3⟩ ::
        ⟨Rect.unit (s := S1x2048) ![0, 512] S1x256.size inb_S1x2048_S1x256_0_512, w2⟩ ::
        ⟨Rect.unit (s := S1x2048) ![0, 256] S1x256.size inb_S1x2048_S1x256_0_256, w1⟩ ::
        ⟨Rect.unit (s := S1x2048) ![0, 0] S1x256.size inb_S1x2048_S1x256_0_0, w0⟩ :: []) ++ L from rfl, View.writes_append]
  funext i
  refine View.read_writes_apply_of_pieces (Val := Elt F) v _ (rowOf ![w0, w1, w2, w3, w4, w5, w6, w7]) _ (View.PiecesOf.mem ?_) i ?_
  · refine ⟨?_, ?_, ?_, ?_, ?_, ?_, ?_, ?_, trivial⟩
    all_goals intro x
    · exact rowOf_emb ![w0, w1, w2, w3, w4, w5, w6, w7] 7 (o := 1792) rfl inb_S1x2048_S1x256_0_1792 x
    · exact rowOf_emb ![w0, w1, w2, w3, w4, w5, w6, w7] 6 (o := 1536) rfl inb_S1x2048_S1x256_0_1536 x
    · exact rowOf_emb ![w0, w1, w2, w3, w4, w5, w6, w7] 5 (o := 1280) rfl inb_S1x2048_S1x256_0_1280 x
    · exact rowOf_emb ![w0, w1, w2, w3, w4, w5, w6, w7] 4 (o := 1024) rfl inb_S1x2048_S1x256_0_1024 x
    · exact rowOf_emb ![w0, w1, w2, w3, w4, w5, w6, w7] 3 (o := 768) rfl inb_S1x2048_S1x256_0_768 x
    · exact rowOf_emb ![w0, w1, w2, w3, w4, w5, w6, w7] 2 (o := 512) rfl inb_S1x2048_S1x256_0_512 x
    · exact rowOf_emb ![w0, w1, w2, w3, w4, w5, w6, w7] 1 (o := 256) rfl inb_S1x2048_S1x256_0_256 x
    · exact rowOf_emb ![w0, w1, w2, w3, w4, w5, w6, w7] 0 (o := 0) rfl inb_S1x2048_S1x256_0_0 x
  · obtain ⟨j, l, hl⟩ := exists_lane (i 1)
    have hi : i = ix2 0 (lane j l) := by
      rw [← hl]; funext a; refine Fin.cases ?_ (fun a => ?_) a
      · exact Subsingleton.elim (α := Fin 1) _ _
      · refine Fin.cases ?_ (fun a => a.elim0) a; rfl
    rw [hi]
    fin_cases j
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩; exact mem_row 0 (o := 0) rfl inb_S1x2048_S1x256_0_0 l
    · refine ⟨_, (List.mem_cons_of_mem _ (List.mem_cons_of_mem _ (List.mem_cons_of_mem _ (List.mem_cons_of_mem _ (List.mem_cons_of_mem _ (List.mem_cons_of_mem _ List.mem_cons_self)))))), ?_⟩; exact mem_row 1 (o := 256) rfl inb_S1x2048_S1x256_0_256 l
    · refine ⟨_, (List.mem_cons_of_mem _ (List.mem_cons_of_mem _ (List.mem_cons_of_mem _ (List.mem_cons_of_mem _ (List.mem_cons_of_mem _ List.mem_cons_self))))), ?_⟩; exact mem_row 2 (o := 512) rfl inb_S1x2048_S1x256_0_512 l
    · refine ⟨_, (List.mem_cons_of_mem _ (List.mem_cons_of_mem _ (List.mem_cons_of_mem _ (List.mem_cons_of_mem _ List.mem_cons_self)))), ?_⟩; exact mem_row 3 (o := 768) rfl inb_S1x2048_S1x256_0_768 l
    · refine ⟨_, (List.mem_cons_of_mem _ (List.mem_cons_of_mem _ (List.mem_cons_of_mem _ List.mem_cons_self))), ?_⟩; exact mem_row 4 (o := 1024) rfl inb_S1x2048_S1x256_0_1024 l
    · refine ⟨_, (List.mem_cons_of_mem _ (List.mem_cons_of_mem _ List.mem_cons_self)), ?_⟩; exact mem_row 5 (o := 1280) rfl inb_S1x2048_S1x256_0_1280 l
    · refine ⟨_, (List.mem_cons_of_mem _ List.mem_cons_self), ?_⟩; exact mem_row 6 (o := 1536) rfl inb_S1x2048_S1x256_0_1536 l
    · refine ⟨_, List.mem_cons_self, ?_⟩; exact mem_row 7 (o := 1792) rfl inb_S1x2048_S1x256_0_1792 l

/-- Eight stores to a tile, one to each strip, over whatever was stored before. -/
theorem read_tile {e : EltTy} {sp : Space} (v : View sig .tc sp S512x2048 e) (f : BufTy.Contents (Elt F) v.ty)
    (w0 w1 w2 w3 w4 w5 w6 w7 : (S512x256.Idx → Elt F e)) (L : List (View.Piece (Elt F) S512x2048 e)) :
    v.read (Elt F) (v.writes (Elt F) f
      (⟨Rect.unit (s := S512x2048) ![0, 1792] S512x256.size inb_S512x2048_S512x256_0_1792, w7⟩ ::
        ⟨Rect.unit (s := S512x2048) ![0, 1536] S512x256.size inb_S512x2048_S512x256_0_1536, w6⟩ ::
        ⟨Rect.unit (s := S512x2048) ![0, 1280] S512x256.size inb_S512x2048_S512x256_0_1280, w5⟩ ::
        ⟨Rect.unit (s := S512x2048) ![0, 1024] S512x256.size inb_S512x2048_S512x256_0_1024, w4⟩ ::
        ⟨Rect.unit (s := S512x2048) ![0, 768] S512x256.size inb_S512x2048_S512x256_0_768, w3⟩ ::
        ⟨Rect.unit (s := S512x2048) ![0, 512] S512x256.size inb_S512x2048_S512x256_0_512, w2⟩ ::
        ⟨Rect.unit (s := S512x2048) ![0, 256] S512x256.size inb_S512x2048_S512x256_0_256, w1⟩ ::
        ⟨Rect.unit (s := S512x2048) ![0, 0] S512x256.size inb_S512x2048_S512x256_0_0, w0⟩ :: L)) = tileOf ![w0, w1, w2, w3, w4, w5, w6, w7] := by
  rw [show (⟨Rect.unit (s := S512x2048) ![0, 1792] S512x256.size inb_S512x2048_S512x256_0_1792, w7⟩ ::
        ⟨Rect.unit (s := S512x2048) ![0, 1536] S512x256.size inb_S512x2048_S512x256_0_1536, w6⟩ ::
        ⟨Rect.unit (s := S512x2048) ![0, 1280] S512x256.size inb_S512x2048_S512x256_0_1280, w5⟩ ::
        ⟨Rect.unit (s := S512x2048) ![0, 1024] S512x256.size inb_S512x2048_S512x256_0_1024, w4⟩ ::
        ⟨Rect.unit (s := S512x2048) ![0, 768] S512x256.size inb_S512x2048_S512x256_0_768, w3⟩ ::
        ⟨Rect.unit (s := S512x2048) ![0, 512] S512x256.size inb_S512x2048_S512x256_0_512, w2⟩ ::
        ⟨Rect.unit (s := S512x2048) ![0, 256] S512x256.size inb_S512x2048_S512x256_0_256, w1⟩ ::
        ⟨Rect.unit (s := S512x2048) ![0, 0] S512x256.size inb_S512x2048_S512x256_0_0, w0⟩ :: L : List (View.Piece (Elt F) S512x2048 e)) = (⟨Rect.unit (s := S512x2048) ![0, 1792] S512x256.size inb_S512x2048_S512x256_0_1792, w7⟩ ::
        ⟨Rect.unit (s := S512x2048) ![0, 1536] S512x256.size inb_S512x2048_S512x256_0_1536, w6⟩ ::
        ⟨Rect.unit (s := S512x2048) ![0, 1280] S512x256.size inb_S512x2048_S512x256_0_1280, w5⟩ ::
        ⟨Rect.unit (s := S512x2048) ![0, 1024] S512x256.size inb_S512x2048_S512x256_0_1024, w4⟩ ::
        ⟨Rect.unit (s := S512x2048) ![0, 768] S512x256.size inb_S512x2048_S512x256_0_768, w3⟩ ::
        ⟨Rect.unit (s := S512x2048) ![0, 512] S512x256.size inb_S512x2048_S512x256_0_512, w2⟩ ::
        ⟨Rect.unit (s := S512x2048) ![0, 256] S512x256.size inb_S512x2048_S512x256_0_256, w1⟩ ::
        ⟨Rect.unit (s := S512x2048) ![0, 0] S512x256.size inb_S512x2048_S512x256_0_0, w0⟩ :: []) ++ L from rfl, View.writes_append]
  funext i
  refine View.read_writes_apply_of_pieces (Val := Elt F) v _ (tileOf ![w0, w1, w2, w3, w4, w5, w6, w7]) _ (View.PiecesOf.mem ?_) i ?_
  · refine ⟨?_, ?_, ?_, ?_, ?_, ?_, ?_, ?_, trivial⟩
    all_goals intro x
    · exact tileOf_emb ![w0, w1, w2, w3, w4, w5, w6, w7] 7 (o := 1792) rfl inb_S512x2048_S512x256_0_1792 x
    · exact tileOf_emb ![w0, w1, w2, w3, w4, w5, w6, w7] 6 (o := 1536) rfl inb_S512x2048_S512x256_0_1536 x
    · exact tileOf_emb ![w0, w1, w2, w3, w4, w5, w6, w7] 5 (o := 1280) rfl inb_S512x2048_S512x256_0_1280 x
    · exact tileOf_emb ![w0, w1, w2, w3, w4, w5, w6, w7] 4 (o := 1024) rfl inb_S512x2048_S512x256_0_1024 x
    · exact tileOf_emb ![w0, w1, w2, w3, w4, w5, w6, w7] 3 (o := 768) rfl inb_S512x2048_S512x256_0_768 x
    · exact tileOf_emb ![w0, w1, w2, w3, w4, w5, w6, w7] 2 (o := 512) rfl inb_S512x2048_S512x256_0_512 x
    · exact tileOf_emb ![w0, w1, w2, w3, w4, w5, w6, w7] 1 (o := 256) rfl inb_S512x2048_S512x256_0_256 x
    · exact tileOf_emb ![w0, w1, w2, w3, w4, w5, w6, w7] 0 (o := 0) rfl inb_S512x2048_S512x256_0_0 x
  · obtain ⟨j, l, hl⟩ := exists_lane (i 1)
    have hi : i = ix2 (i 0) (lane j l) := by
      rw [← hl]; exact eq_ix2 i
    rw [hi]
    fin_cases j
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩; exact mem_tile 0 (o := 0) rfl inb_S512x2048_S512x256_0_0 (i 0) l
    · refine ⟨_, (List.mem_cons_of_mem _ (List.mem_cons_of_mem _ (List.mem_cons_of_mem _ (List.mem_cons_of_mem _ (List.mem_cons_of_mem _ (List.mem_cons_of_mem _ List.mem_cons_self)))))), ?_⟩; exact mem_tile 1 (o := 256) rfl inb_S512x2048_S512x256_0_256 (i 0) l
    · refine ⟨_, (List.mem_cons_of_mem _ (List.mem_cons_of_mem _ (List.mem_cons_of_mem _ (List.mem_cons_of_mem _ (List.mem_cons_of_mem _ List.mem_cons_self))))), ?_⟩; exact mem_tile 2 (o := 512) rfl inb_S512x2048_S512x256_0_512 (i 0) l
    · refine ⟨_, (List.mem_cons_of_mem _ (List.mem_cons_of_mem _ (List.mem_cons_of_mem _ (List.mem_cons_of_mem _ List.mem_cons_self)))), ?_⟩; exact mem_tile 3 (o := 768) rfl inb_S512x2048_S512x256_0_768 (i 0) l
    · refine ⟨_, (List.mem_cons_of_mem _ (List.mem_cons_of_mem _ (List.mem_cons_of_mem _ List.mem_cons_self))), ?_⟩; exact mem_tile 4 (o := 1024) rfl inb_S512x2048_S512x256_0_1024 (i 0) l
    · refine ⟨_, (List.mem_cons_of_mem _ (List.mem_cons_of_mem _ List.mem_cons_self)), ?_⟩; exact mem_tile 5 (o := 1280) rfl inb_S512x2048_S512x256_0_1280 (i 0) l
    · refine ⟨_, (List.mem_cons_of_mem _ List.mem_cons_self), ?_⟩; exact mem_tile 6 (o := 1536) rfl inb_S512x2048_S512x256_0_1536 (i 0) l
    · refine ⟨_, List.mem_cons_self, ?_⟩; exact mem_tile 7 (o := 1792) rfl inb_S512x2048_S512x256_0_1792 (i 0) l

/-! ## One step of the online softmax, over a tile of scores and the row of maxima so far -/

/-- The new row of maxima. -/
def smM (S : FVec F S512x2048 .f32) (M : FVec F S1x2048 .f32) : FVec F S1x2048 .f32 := rowOf fun j => k0_pay6 (stripRow j M) (stripTile j S)
/-- The row of factors for what was accumulated so far. -/
def smA (S : FVec F S512x2048 .f32) (M : FVec F S1x2048 .f32) : FVec F S1x2048 .f32 := rowOf fun j => k0_pay4 (stripRow j M) (stripTile j S)
/-- The tile of weights. -/
def smP (S : FVec F S512x2048 .f32) (M : FVec F S1x2048 .f32) : FVec F S512x2048 .bf16 :=
  tileOf fun j => k0_pay5 (stripRow j M) (stripTile j S) (stripTile j S)

end Cert.Proof.Latent

end
-- ==== Proof.TripValue.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Tiles
public import proofs.«01_k».proof.Proof.Trip
public import Idealize.ShloMosaic.Lib.Pointwise
public import Idealize.ShloMosaic.Lib.VecWindow
public import Idealize.ShloMosaic.Lib.Pipeline.ReadBack

@[expose] public section

set_option maxRecDepth 16384

noncomputable section

namespace Cert.Proof.Latent

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Keys `512 c … 512 c + 511` of the key buffer. -/
def slabK {α : Type} (K : S16384x256.Idx → α) (c : ℕ) : S512x256.Idx → α :=
  fun y => K (ix2 ⟨(512 * c + (y 0).val) % 16384, Nat.mod_lt _ (by decide)⟩ (y 1))
/-- Columns `512 c … 512 c + 511` of the value buffer. -/
def slabV {α : Type} (V : S144x16384.Idx → α) (c : ℕ) : S144x512.Idx → α :=
  fun y => V (ix2 (y 0) ⟨(512 * c + (y 1).val) % 16384, Nat.mod_lt _ (by decide)⟩)

/-- A load of `512` keys. -/
theorem readAt_K {sp : Space} (v : View sig .tc sp S16384x256 .bf16) (f : BufTy.Contents (Elt F) v.ty) (n : ℕ) (off : Fin 2 → ℕ) (h : off = ![512 * n, 0]) (hn : n < 32)
    (inb : ∀ a, off a + S512x256.size a ≤ S16384x256.size a) :
    v.readAt (Elt F) (Rect.unit (s := S16384x256) off S512x256.size inb).toLoadRect f = slabK (v.read (Elt F) f) n := by
  subst h
  funext y
  refine congrArg (v.read (Elt F) f) (funext fun a => Fin.ext ?_)
  have h0 : (y 0).val < 512 := (y 0).isLt
  match a with
  | ⟨0, _⟩ =>
    show 512 * n + 1 * (y 0).val = (512 * n + (y 0).val) % 16384
    omega
  | ⟨1, _⟩ =>
    show 0 + 1 * (y 1).val = (y 1).val
    omega
/-- A load of `512` columns of values. -/
theorem readAt_V {sp : Space} (v : View sig .tc sp S144x16384 .bf16) (f : BufTy.Contents (Elt F) v.ty) (n : ℕ) (off : Fin 2 → ℕ) (h : off = ![0, 512 * n]) (hn : n < 32)
    (inb : ∀ a, off a + S144x512.size a ≤ S144x16384.size a) :
    v.readAt (Elt F) (Rect.unit (s := S144x16384) off S144x512.size inb).toLoadRect f = slabV (v.read (Elt F) f) n := by
  subst h
  funext y
  refine congrArg (v.read (Elt F) f) (funext fun a => Fin.ext ?_)
  have h0 : (y 1).val < 512 := (y 1).isLt
  match a with
  | ⟨0, _⟩ =>
    show 0 + 1 * (y 0).val = (y 0).val
    omega
  | ⟨1, _⟩ =>
    show 512 * n + 1 * (y 1).val = (512 * n + (y 1).val) % 16384
    omega

/-- The loop makes fifteen trips. -/
theorem trips_lt (k : Fin k0_t1_loop.trips) : k.val < 15 := k.isLt
theorem off1_chunk (k : Fin k0_t1_loop.trips) : k0_off1 k = ![512 * (2 * k.val + 2), 0] := by
  revert k; decide +kernel
theorem off3_chunk (k : Fin k0_t1_loop.trips) : k0_off3 k = ![512 * (2 * k.val + 3), 0] := by
  revert k; decide +kernel
theorem off2_chunk (k : Fin k0_t1_loop.trips) : k0_off2 k 2#32 = ![0, 512 * (2 * k.val)] := by
  revert k; decide +kernel
theorem off2_chunk' (k : Fin k0_t1_loop.trips) : k0_off2 k 1#32 = ![0, 512 * (2 * k.val + 1)] := by
  revert k; decide +kernel

section
variable {arg4 : Memref sig .tc .vmem S16384x256 .bf16} {arg5 : Memref sig .tc .vmem S144x16384 .bf16} {arg7 arg8 : Memref sig .tc .vmem S512x2048 .f32}
  {arg9 arg10 : Memref sig .tc .vmem S512x2048 .bf16} {arg11 arg12 arg13 : Memref sig .tc .vmem S1x2048 .f32} {arg14 : Memref sig .tc .vmem S144x2048 .f32}
variable (v1 : FVec F S256x2048 .bf16)
    (f4 : BufTy.Contents (Elt F) arg4.view.ty) (f8 : BufTy.Contents (Elt F) arg8.view.ty) (f13 : BufTy.Contents (Elt F) arg13.view.ty) (k : Fin k0_t1_loop.trips)

/-- The row of factors the first softmax step leaves. -/
theorem L12_value (f12 : BufTy.Contents (Elt F) arg12.view.ty) :
    arg12.view.read (Elt F) (arg12.view.writes (Elt F) f12 (trip.sl.H12_8 arg8 arg13 f8 f13)) = smA (arg8.view.read (Elt F) f8) (arg13.view.read (Elt F) f13) := by
  sl_unfold_words
  rw [read_row]
  rw [readAt_row _ _ 0 (o := 0) rfl, readAt_row _ _ 1 (o := 256) rfl, readAt_row _ _ 2 (o := 512) rfl, readAt_row _ _ 3 (o := 768) rfl, readAt_row _ _ 4 (o := 1024) rfl, readAt_row _ _ 5 (o := 1280) rfl, readAt_row _ _ 6 (o := 1536) rfl, readAt_row _ _ 7 (o := 1792) rfl,
    readAt_tile _ _ 0 (o := 0) rfl, readAt_tile _ _ 1 (o := 256) rfl, readAt_tile _ _ 2 (o := 512) rfl, readAt_tile _ _ 3 (o := 768) rfl, readAt_tile _ _ 4 (o := 1024) rfl, readAt_tile _ _ 5 (o := 1280) rfl, readAt_tile _ _ 6 (o := 1536) rfl, readAt_tile _ _ 7 (o := 1792) rfl]
  refine congrArg rowOf (funext fun j => ?_)
  fin_cases j <;> rfl

/-- The tile of weights the first softmax step leaves. -/
theorem L10_value (f10 : BufTy.Contents (Elt F) arg10.view.ty) :
    arg10.view.read (Elt F) (arg10.view.writes (Elt F) f10 (trip.sl.H10_8 arg8 arg13 f8 f13)) = smP (arg8.view.read (Elt F) f8) (arg13.view.read (Elt F) f13) := by
  sl_unfold_words
  rw [read_tile]
  rw [readAt_row _ _ 0 (o := 0) rfl, readAt_row _ _ 1 (o := 256) rfl, readAt_row _ _ 2 (o := 512) rfl, readAt_row _ _ 3 (o := 768) rfl, readAt_row _ _ 4 (o := 1024) rfl, readAt_row _ _ 5 (o := 1280) rfl, readAt_row _ _ 6 (o := 1536) rfl, readAt_row _ _ 7 (o := 1792) rfl,
    readAt_tile _ _ 0 (o := 0) rfl, readAt_tile _ _ 1 (o := 256) rfl, readAt_tile _ _ 2 (o := 512) rfl, readAt_tile _ _ 3 (o := 768) rfl, readAt_tile _ _ 4 (o := 1024) rfl, readAt_tile _ _ 5 (o := 1280) rfl, readAt_tile _ _ 6 (o := 1536) rfl, readAt_tile _ _ 7 (o := 1792) rfl]
  refine congrArg tileOf (funext fun j => ?_)
  fin_cases j <;> rfl

/-- The row of maxima the first softmax step leaves. -/
theorem H13_value :
    arg13.view.read (Elt F) (arg13.view.writes (Elt F) f13 (trip.sl.H13_8 arg8 arg13 f8 f13)) = smM (arg8.view.read (Elt F) f8) (arg13.view.read (Elt F) f13) := by
  sl_unfold_words
  rw [read_row]
  rw [readAt_row _ _ 0 (o := 0) rfl, readAt_row _ _ 1 (o := 256) rfl, readAt_row _ _ 2 (o := 512) rfl, readAt_row _ _ 3 (o := 768) rfl, readAt_row _ _ 4 (o := 1024) rfl, readAt_row _ _ 5 (o := 1280) rfl, readAt_row _ _ 6 (o := 1536) rfl, readAt_row _ _ 7 (o := 1792) rfl,
    readAt_tile _ _ 0 (o := 0) rfl, readAt_tile _ _ 1 (o := 256) rfl, readAt_tile _ _ 2 (o := 512) rfl, readAt_tile _ _ 3 (o := 768) rfl, readAt_tile _ _ 4 (o := 1024) rfl, readAt_tile _ _ 5 (o := 1280) rfl, readAt_tile _ _ 6 (o := 1536) rfl, readAt_tile _ _ 7 (o := 1792) rfl]
  refine congrArg rowOf (funext fun j => ?_)
  fin_cases j <;> rfl

end

section
variable (c : Dev nD) (i : grid0.Coords) (arg3 : Memref sig .tc .vmem S256x2048 .bf16) (harg3 : arg3.IsWhole) (arg4 : Memref sig .tc .vmem S16384x256 .bf16) (harg4 : arg4.IsWhole) (arg5 : Memref sig .tc .vmem S144x16384 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S144x2048 .f32) (harg14 : arg14.IsWhole)
    (v1 : FVec F S256x2048 .bf16) (v156 : FVec F S1x256 .f32) (v166 : FVec F S512x256 .bf16)
    (f4 : BufTy.Contents (Elt F) arg4.view.ty) (f5 : BufTy.Contents (Elt F) arg5.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (k : Fin k0_t1_loop.trips)

/-- Strip 0 of the maxima, loaded in the second softmax step. -/
theorem m_0 : trip.sl.v605 arg8 arg13 f8 f13 = stripRow 0 (smM (arg8.view.read (Elt F) f8) (arg13.view.read (Elt F) f13)) := by
  unfold trip.sl.v605
  sl_unfold_words
  simp (disch := decide) only [↓ View.readCov_skip, ↓ View.readCov_cons_toLoadRect]
  rw [readAt_row _ _ 0 (o := 0) rfl, readAt_tile _ _ 0 (o := 0) rfl, smM, stripRow_rowOf]
/-- Strip 0 of the scores, loaded in the second softmax step. -/
theorem s_0 : trip.sl.v606 arg4 arg7 v1 f4 k = stripTile 0 (k0_pay2 v1 (slabK (arg4.view.read (Elt F) f4) (2 * k.val + 2))) := by
  unfold trip.sl.v606 trip.sl.H7_1
  simp (disch := decide) only [View.readCov_fill]
  rw [ld_tile _ 0 (o := 0) rfl]
  refine congrArg (stripTile 0) (congrArg (k0_pay2 v1) ?_)
  exact readAt_K arg4.view f4 _ _ (off1_chunk k) (by have := trips_lt k; omega) _

/-- Strip 1 of the maxima, loaded in the second softmax step. -/
theorem m_1 : trip.sl.v626 arg4 arg7 arg8 arg13 v1 f4 f8 f13 k = stripRow 1 (smM (arg8.view.read (Elt F) f8) (arg13.view.read (Elt F) f13)) := by
  unfold trip.sl.v626
  sl_unfold_words
  simp (disch := decide) only [↓ View.readCov_skip, ↓ View.readCov_cons_toLoadRect]
  rw [readAt_row _ _ 1 (o := 256) rfl, readAt_tile _ _ 1 (o := 256) rfl, smM, stripRow_rowOf]
  rfl
/-- Strip 1 of the scores, loaded in the second softmax step. -/
theorem s_1 : trip.sl.v627 arg4 arg7 v1 f4 k = stripTile 1 (k0_pay2 v1 (slabK (arg4.view.read (Elt F) f4) (2 * k.val + 2))) := by
  unfold trip.sl.v627 trip.sl.H7_1
  simp (disch := decide) only [View.readCov_fill]
  rw [ld_tile _ 1 (o := 256) rfl]
  refine congrArg (stripTile 1) (congrArg (k0_pay2 v1) ?_)
  exact readAt_K arg4.view f4 _ _ (off1_chunk k) (by have := trips_lt k; omega) _

/-- Strip 2 of the maxima, loaded in the second softmax step. -/
theorem m_2 : trip.sl.v647 arg4 arg7 arg8 arg13 v1 f4 f8 f13 k = stripRow 2 (smM (arg8.view.read (Elt F) f8) (arg13.view.read (Elt F) f13)) := by
  unfold trip.sl.v647
  sl_unfold_words
  simp (disch := decide) only [↓ View.readCov_skip, ↓ View.readCov_cons_toLoadRect]
  rw [readAt_row _ _ 2 (o := 512) rfl, readAt_tile _ _ 2 (o := 512) rfl, smM, stripRow_rowOf]
  rfl
/-- Strip 2 of the scores, loaded in the second softmax step. -/
theorem s_2 : trip.sl.v648 arg4 arg7 v1 f4 k = stripTile 2 (k0_pay2 v1 (slabK (arg4.view.read (Elt F) f4) (2 * k.val + 2))) := by
  unfold trip.sl.v648 trip.sl.H7_1
  simp (disch := decide) only [View.readCov_fill]
  rw [ld_tile _ 2 (o := 512) rfl]
  refine congrArg (stripTile 2) (congrArg (k0_pay2 v1) ?_)
  exact readAt_K arg4.view f4 _ _ (off1_chunk k) (by have := trips_lt k; omega) _

/-- Strip 3 of the maxima, loaded in the second softmax step. -/
theorem m_3 : trip.sl.v668 arg4 arg7 arg8 arg13 v1 f4 f8 f13 k = stripRow 3 (smM (arg8.view.read (Elt F) f8) (arg13.view.read (Elt F) f13)) := by
  unfold trip.sl.v668
  sl_unfold_words
  simp (disch := decide) only [↓ View.readCov_skip, ↓ View.readCov_cons_toLoadRect]
  rw [readAt_row _ _ 3 (o := 768) rfl, readAt_tile _ _ 3 (o := 768) rfl, smM, stripRow_rowOf]
  rfl
/-- Strip 3 of the scores, loaded in the second softmax step. -/
theorem s_3 : trip.sl.v669 arg4 arg7 v1 f4 k = stripTile 3 (k0_pay2 v1 (slabK (arg4.view.read (Elt F) f4) (2 * k.val + 2))) := by
  unfold trip.sl.v669 trip.sl.H7_1
  simp (disch := decide) only [View.readCov_fill]
  rw [ld_tile _ 3 (o := 768) rfl]
  refine congrArg (stripTile 3) (congrArg (k0_pay2 v1) ?_)
  exact readAt_K arg4.view f4 _ _ (off1_chunk k) (by have := trips_lt k; omega) _

/-- Strip 4 of the maxima, loaded in the second softmax step. -/
theorem m_4 : trip.sl.v689 arg4 arg7 arg8 arg13 v1 f4 f8 f13 k = stripRow 4 (smM (arg8.view.read (Elt F) f8) (arg13.view.read (Elt F) f13)) := by
  unfold trip.sl.v689
  sl_unfold_words
  simp (disch := decide) only [↓ View.readCov_skip, ↓ View.readCov_cons_toLoadRect]
  rw [readAt_row _ _ 4 (o := 1024) rfl, readAt_tile _ _ 4 (o := 1024) rfl, smM, stripRow_rowOf]
  rfl
/-- Strip 4 of the scores, loaded in the second softmax step. -/
theorem s_4 : trip.sl.v690 arg4 arg7 v1 f4 k = stripTile 4 (k0_pay2 v1 (slabK (arg4.view.read (Elt F) f4) (2 * k.val + 2))) := by
  unfold trip.sl.v690 trip.sl.H7_1
  simp (disch := decide) only [View.readCov_fill]
  rw [ld_tile _ 4 (o := 1024) rfl]
  refine congrArg (stripTile 4) (congrArg (k0_pay2 v1) ?_)
  exact readAt_K arg4.view f4 _ _ (off1_chunk k) (by have := trips_lt k; omega) _

/-- Strip 5 of the maxima, loaded in the second softmax step. -/
theorem m_5 : trip.sl.v710 arg4 arg7 arg8 arg13 v1 f4 f8 f13 k = stripRow 5 (smM (arg8.view.read (Elt F) f8) (arg13.view.read (Elt F) f13)) := by
  unfold trip.sl.v710
  sl_unfold_words
  simp (disch := decide) only [↓ View.readCov_skip, ↓ View.readCov_cons_toLoadRect]
  rw [readAt_row _ _ 5 (o := 1280) rfl, readAt_tile _ _ 5 (o := 1280) rfl, smM, stripRow_rowOf]
  rfl
/-- Strip 5 of the scores, loaded in the second softmax step. -/
theorem s_5 : trip.sl.v711 arg4 arg7 v1 f4 k = stripTile 5 (k0_pay2 v1 (slabK (arg4.view.read (Elt F) f4) (2 * k.val + 2))) := by
  unfold trip.sl.v711 trip.sl.H7_1
  simp (disch := decide) only [View.readCov_fill]
  rw [ld_tile _ 5 (o := 1280) rfl]
  refine congrArg (stripTile 5) (congrArg (k0_pay2 v1) ?_)
  exact readAt_K arg4.view f4 _ _ (off1_chunk k) (by have := trips_lt k; omega) _

/-- Strip 6 of the maxima, loaded in the second softmax step. -/
theorem m_6 : trip.sl.v731 arg4 arg7 arg8 arg13 v1 f4 f8 f13 k = stripRow 6 (smM (arg8.view.read (Elt F) f8) (arg13.view.read (Elt F) f13)) := by
  unfold trip.sl.v731
  sl_unfold_words
  simp (disch := decide) only [↓ View.readCov_skip, ↓ View.readCov_cons_toLoadRect]
  rw [readAt_row _ _ 6 (o := 1536) rfl, readAt_tile _ _ 6 (o := 1536) rfl, smM, stripRow_rowOf]
  rfl
/-- Strip 6 of the scores, loaded in the second softmax step. -/
theorem s_6 : trip.sl.v732 arg4 arg7 v1 f4 k = stripTile 6 (k0_pay2 v1 (slabK (arg4.view.read (Elt F) f4) (2 * k.val + 2))) := by
  unfold trip.sl.v732 trip.sl.H7_1
  simp (disch := decide) only [View.readCov_fill]
  rw [ld_tile _ 6 (o := 1536) rfl]
  refine congrArg (stripTile 6) (congrArg (k0_pay2 v1) ?_)
  exact readAt_K arg4.view f4 _ _ (off1_chunk k) (by have := trips_lt k; omega) _

/-- Strip 7 of the maxima, loaded in the second softmax step. -/
theorem m_7 : trip.sl.v752 arg4 arg7 arg8 arg13 v1 f4 f8 f13 k = stripRow 7 (smM (arg8.view.read (Elt F) f8) (arg13.view.read (Elt F) f13)) := by
  unfold trip.sl.v752
  sl_unfold_words
  simp (disch := decide) only [↓ View.readCov_skip, ↓ View.readCov_cons_toLoadRect]
  rw [readAt_row _ _ 7 (o := 1792) rfl, readAt_tile _ _ 7 (o := 1792) rfl, smM, stripRow_rowOf]
  rfl
/-- Strip 7 of the scores, loaded in the second softmax step. -/
theorem s_7 : trip.sl.v753 arg4 arg7 v1 f4 k = stripTile 7 (k0_pay2 v1 (slabK (arg4.view.read (Elt F) f4) (2 * k.val + 2))) := by
  unfold trip.sl.v753 trip.sl.H7_1
  simp (disch := decide) only [View.readCov_fill]
  rw [ld_tile _ 7 (o := 1792) rfl]
  refine congrArg (stripTile 7) (congrArg (k0_pay2 v1) ?_)
  exact readAt_K arg4.view f4 _ _ (off1_chunk k) (by have := trips_lt k; omega) _

/-- The tile of weights the second softmax step leaves. -/
theorem L9_value : arg9.view.read (Elt F) (arg9.view.writes (Elt F) f9 (trip c i arg3 harg3 arg4 harg4 arg5 harg5 arg6 harg6 arg7 harg7 arg8 harg8 arg9 harg9 arg10 harg10 arg11 harg11 arg12 harg12 arg13 harg13 arg14 harg14 v1 v156 v166 f4 f5 f7 f8 f9 f10 f11 f12 f13 f14 k).2.2.1) = smP (k0_pay2 v1 (slabK (arg4.view.read (Elt F) f4) (2 * k.val + 2))) (smM (arg8.view.read (Elt F) f8) (arg13.view.read (Elt F) f13)) := by
  unfold trip
  dsimp only
  refine (read_tile arg9.view f9 _ _ _ _ _ _ _ _ _).trans ?_
  refine congrArg tileOf (funext fun j => ?_)
  fin_cases j
  · show k0_pay5 (trip.sl.v605 arg8 arg13 f8 f13) (trip.sl.v606 arg4 arg7 v1 f4 k) (trip.sl.v606 arg4 arg7 v1 f4 k) = _
    rw [m_0, s_0]
    rfl
  · show k0_pay5 (trip.sl.v626 arg4 arg7 arg8 arg13 v1 f4 f8 f13 k) (trip.sl.v627 arg4 arg7 v1 f4 k) (trip.sl.v627 arg4 arg7 v1 f4 k) = _
    rw [m_1, s_1]
    rfl
  · show k0_pay5 (trip.sl.v647 arg4 arg7 arg8 arg13 v1 f4 f8 f13 k) (trip.sl.v648 arg4 arg7 v1 f4 k) (trip.sl.v648 arg4 arg7 v1 f4 k) = _
    rw [m_2, s_2]
    rfl
  · show k0_pay5 (trip.sl.v668 arg4 arg7 arg8 arg13 v1 f4 f8 f13 k) (trip.sl.v669 arg4 arg7 v1 f4 k) (trip.sl.v669 arg4 arg7 v1 f4 k) = _
    rw [m_3, s_3]
    rfl
  · show k0_pay5 (trip.sl.v689 arg4 arg7 arg8 arg13 v1 f4 f8 f13 k) (trip.sl.v690 arg4 arg7 v1 f4 k) (trip.sl.v690 arg4 arg7 v1 f4 k) = _
    rw [m_4, s_4]
    rfl
  · show k0_pay5 (trip.sl.v710 arg4 arg7 arg8 arg13 v1 f4 f8 f13 k) (trip.sl.v711 arg4 arg7 v1 f4 k) (trip.sl.v711 arg4 arg7 v1 f4 k) = _
    rw [m_5, s_5]
    rfl
  · show k0_pay5 (trip.sl.v731 arg4 arg7 arg8 arg13 v1 f4 f8 f13 k) (trip.sl.v732 arg4 arg7 v1 f4 k) (trip.sl.v732 arg4 arg7 v1 f4 k) = _
    rw [m_6, s_6]
    rfl
  · show k0_pay5 (trip.sl.v752 arg4 arg7 arg8 arg13 v1 f4 f8 f13 k) (trip.sl.v753 arg4 arg7 v1 f4 k) (trip.sl.v753 arg4 arg7 v1 f4 k) = _
    rw [m_7, s_7]
    rfl

/-- The row of factors the second softmax step leaves. -/
theorem L11_value : arg11.view.read (Elt F) (arg11.view.writes (Elt F) f11 (trip c i arg3 harg3 arg4 harg4 arg5 harg5 arg6 harg6 arg7 harg7 arg8 harg8 arg9 harg9 arg10 harg10 arg11 harg11 arg12 harg12 arg13 harg13 arg14 harg14 v1 v156 v166 f4 f5 f7 f8 f9 f10 f11 f12 f13 f14 k).2.2.2.2.1) = smA (k0_pay2 v1 (slabK (arg4.view.read (Elt F) f4) (2 * k.val + 2))) (smM (arg8.view.read (Elt F) f8) (arg13.view.read (Elt F) f13)) := by
  unfold trip
  dsimp only
  refine (read_row arg11.view f11 _ _ _ _ _ _ _ _ _).trans ?_
  refine congrArg rowOf (funext fun j => ?_)
  fin_cases j
  · show k0_pay4 (trip.sl.v605 arg8 arg13 f8 f13) (trip.sl.v606 arg4 arg7 v1 f4 k) = _
    rw [m_0, s_0]
    rfl
  · show k0_pay4 (trip.sl.v626 arg4 arg7 arg8 arg13 v1 f4 f8 f13 k) (trip.sl.v627 arg4 arg7 v1 f4 k) = _
    rw [m_1, s_1]
    rfl
  · show k0_pay4 (trip.sl.v647 arg4 arg7 arg8 arg13 v1 f4 f8 f13 k) (trip.sl.v648 arg4 arg7 v1 f4 k) = _
    rw [m_2, s_2]
    rfl
  · show k0_pay4 (trip.sl.v668 arg4 arg7 arg8 arg13 v1 f4 f8 f13 k) (trip.sl.v669 arg4 arg7 v1 f4 k) = _
    rw [m_3, s_3]
    rfl
  · show k0_pay4 (trip.sl.v689 arg4 arg7 arg8 arg13 v1 f4 f8 f13 k) (trip.sl.v690 arg4 arg7 v1 f4 k) = _
    rw [m_4, s_4]
    rfl
  · show k0_pay4 (trip.sl.v710 arg4 arg7 arg8 arg13 v1 f4 f8 f13 k) (trip.sl.v711 arg4 arg7 v1 f4 k) = _
    rw [m_5, s_5]
    rfl
  · show k0_pay4 (trip.sl.v731 arg4 arg7 arg8 arg13 v1 f4 f8 f13 k) (trip.sl.v732 arg4 arg7 v1 f4 k) = _
    rw [m_6, s_6]
    rfl
  · show k0_pay4 (trip.sl.v752 arg4 arg7 arg8 arg13 v1 f4 f8 f13 k) (trip.sl.v753 arg4 arg7 v1 f4 k) = _
    rw [m_7, s_7]
    rfl

/-- The row of maxima the second softmax step leaves. -/
theorem L13_value : arg13.view.read (Elt F) (arg13.view.writes (Elt F) f13 (trip c i arg3 harg3 arg4 harg4 arg5 harg5 arg6 harg6 arg7 harg7 arg8 harg8 arg9 harg9 arg10 harg10 arg11 harg11 arg12 harg12 arg13 harg13 arg14 harg14 v1 v156 v166 f4 f5 f7 f8 f9 f10 f11 f12 f13 f14 k).2.2.2.2.2.2.1) = smM (k0_pay2 v1 (slabK (arg4.view.read (Elt F) f4) (2 * k.val + 2))) (smM (arg8.view.read (Elt F) f8) (arg13.view.read (Elt F) f13)) := by
  unfold trip
  dsimp only
  refine (read_row arg13.view f13 _ _ _ _ _ _ _ _ _).trans ?_
  refine congrArg rowOf (funext fun j => ?_)
  fin_cases j
  · show k0_pay6 (trip.sl.v605 arg8 arg13 f8 f13) (trip.sl.v606 arg4 arg7 v1 f4 k) = _
    rw [m_0, s_0]
    rfl
  · show k0_pay6 (trip.sl.v626 arg4 arg7 arg8 arg13 v1 f4 f8 f13 k) (trip.sl.v627 arg4 arg7 v1 f4 k) = _
    rw [m_1, s_1]
    rfl
  · show k0_pay6 (trip.sl.v647 arg4 arg7 arg8 arg13 v1 f4 f8 f13 k) (trip.sl.v648 arg4 arg7 v1 f4 k) = _
    rw [m_2, s_2]
    rfl
  · show k0_pay6 (trip.sl.v668 arg4 arg7 arg8 arg13 v1 f4 f8 f13 k) (trip.sl.v669 arg4 arg7 v1 f4 k) = _
    rw [m_3, s_3]
    rfl
  · show k0_pay6 (trip.sl.v689 arg4 arg7 arg8 arg13 v1 f4 f8 f13 k) (trip.sl.v690 arg4 arg7 v1 f4 k) = _
    rw [m_4, s_4]
    rfl
  · show k0_pay6 (trip.sl.v710 arg4 arg7 arg8 arg13 v1 f4 f8 f13 k) (trip.sl.v711 arg4 arg7 v1 f4 k) = _
    rw [m_5, s_5]
    rfl
  · show k0_pay6 (trip.sl.v731 arg4 arg7 arg8 arg13 v1 f4 f8 f13 k) (trip.sl.v732 arg4 arg7 v1 f4 k) = _
    rw [m_6, s_6]
    rfl
  · show k0_pay6 (trip.sl.v752 arg4 arg7 arg8 arg13 v1 f4 f8 f13 k) (trip.sl.v753 arg4 arg7 v1 f4 k) = _
    rw [m_7, s_7]
    rfl

/-- The scores of the trip's first chunk. -/
theorem L7_value : arg7.view.read (Elt F) (arg7.view.writes (Elt F) f7 (trip c i arg3 harg3 arg4 harg4 arg5 harg5 arg6 harg6 arg7 harg7 arg8 harg8 arg9 harg9 arg10 harg10 arg11 harg11 arg12 harg12 arg13 harg13 arg14 harg14 v1 v156 v166 f4 f5 f7 f8 f9 f10 f11 f12 f13 f14 k).1) = (k0_pay2 v1 (slabK (arg4.view.read (Elt F) f4) (2 * k.val + 2))) := by
  unfold trip
  dsimp only
  refine (View.read_writes_full arg7.view f7 _ _ _).trans ?_
  exact congrArg (k0_pay2 v1) (readAt_K arg4.view f4 _ _ (off1_chunk k) (by have := trips_lt k; omega) _)
/-- The scores of the trip's second chunk. -/
theorem L8_value : arg8.view.read (Elt F) (arg8.view.writes (Elt F) f8 (trip c i arg3 harg3 arg4 harg4 arg5 harg5 arg6 harg6 arg7 harg7 arg8 harg8 arg9 harg9 arg10 harg10 arg11 harg11 arg12 harg12 arg13 harg13 arg14 harg14 v1 v156 v166 f4 f5 f7 f8 f9 f10 f11 f12 f13 f14 k).2.1) = k0_pay2 v1 (slabK (arg4.view.read (Elt F) f4) (2 * k.val + 3)) := by
  unfold trip
  dsimp only
  refine (View.read_writes_full arg8.view f8 _ _ _).trans ?_
  exact congrArg (k0_pay2 v1) (readAt_K arg4.view f4 _ _ (off3_chunk k) (by have := trips_lt k; omega) _)
/-- The accumulator after the trip: two chunks added, each with its factors. -/
theorem L14_value : arg14.view.read (Elt F) (arg14.view.writes (Elt F) f14 (trip c i arg3 harg3 arg4 harg4 arg5 harg5 arg6 harg6 arg7 harg7 arg8 harg8 arg9 harg9 arg10 harg10 arg11 harg11 arg12 harg12 arg13 harg13 arg14 harg14 v1 v156 v166 f4 f5 f7 f8 f9 f10 f11 f12 f13 f14 k).2.2.2.2.2.2.2.1) =
    k0_pay38 (k0_pay38 (arg14.view.read (Elt F) f14) (arg11.view.read (Elt F) f11) (slabV (arg5.view.read (Elt F) f5) (2 * k.val)) (arg9.view.read (Elt F) f9))
      (smA (arg8.view.read (Elt F) f8) (arg13.view.read (Elt F) f13)) (slabV (arg5.view.read (Elt F) f5) (2 * k.val + 1))
      (smP (arg8.view.read (Elt F) f8) (arg13.view.read (Elt F) f13)) := by
  unfold trip
  dsimp only
  refine (View.read_writes_full arg14.view f14 _ _ _).trans ?_
  have h1 : trip.sl.v777 arg5 arg9 arg11 arg14 f5 f9 f11 f14 k = k0_pay38 (arg14.view.read (Elt F) f14) (arg11.view.read (Elt F) f11) (slabV (arg5.view.read (Elt F) f5) (2 * k.val)) (arg9.view.read (Elt F) f9) := by
    unfold trip.sl.v777
    sl_unfold_words
    refine (View.readCov_full arg14.view _ _ _ _).trans ?_
    rw [View.readAt_full, View.readAt_full, View.readAt_full]
    exact congrArg (fun z => k0_pay38 (arg14.view.read (Elt F) f14) (arg11.view.read (Elt F) f11) z (arg9.view.read (Elt F) f9)) (readAt_V arg5.view f5 _ _ (off2_chunk k) (by have := trips_lt k; omega) _)
  have h2 : trip.sl.v778 arg8 arg12 arg13 f8 f13 = smA (arg8.view.read (Elt F) f8) (arg13.view.read (Elt F) f13) := by
    unfold trip.sl.v778
    exact (View.readAt_full arg12.view _ _).trans (L12_value f8 f13 _)
  have h3 : trip.sl.v784 arg8 arg10 arg13 f8 f13 = smP (arg8.view.read (Elt F) f8) (arg13.view.read (Elt F) f13) := by
    unfold trip.sl.v784
    exact (View.readAt_full arg10.view _ _).trans (L10_value f8 f13 _)
  rw [h1, h2, h3, readAt_V arg5.view f5 _ _ (off2_chunk' k) (by have := trips_lt k; omega) _]
  rfl

end

end Cert.Proof.Latent

end
-- ==== Proof.State.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Loop
public import proofs.«01_k».proof.Proof.TripValue

@[expose] public section

set_option maxRecDepth 16384

noncomputable section

namespace Cert.Proof.Latent

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scores of chunk `n` of the keys against the block of queries. -/
def scores (q : FVec F S256x2048 .bf16) (K : FVec F S16384x256 .bf16) (n : ℕ) : FVec F S512x2048 .f32 := k0_pay2 q (slabK K n)
/-- The running maximum of every query before chunk `n`. -/
def maxR (q : FVec F S256x2048 .bf16) (K : FVec F S16384x256 .bf16) : ℕ → FVec F S1x2048 .f32
  | 0 => k0_pay76
  | n + 1 => smM (scores q K n) (maxR q K n)
/-- What chunk `n` multiplies the sums before it by. -/
def fac (q : FVec F S256x2048 .bf16) (K : FVec F S16384x256 .bf16) (n : ℕ) : FVec F S1x2048 .f32 := smA (scores q K n) (maxR q K n)
/-- The weights of chunk `n`. -/
def wt (q : FVec F S256x2048 .bf16) (K : FVec F S16384x256 .bf16) (n : ℕ) : FVec F S512x2048 .bf16 := smP (scores q K n) (maxR q K n)
/-- The sums before chunk `n`. -/
def acc (q : FVec F S256x2048 .bf16) (K : FVec F S16384x256 .bf16) (V : FVec F S144x16384 .bf16) : ℕ → FVec F S144x2048 .f32
  | 0 => k0_pay77
  | n + 1 => k0_pay38 (acc q K V n) (fac q K n) (slabV V n) (wt q K n)
/-- What the kernel's body leaves in the block of results. -/
def outBlk (Q : FVec F S256x2048 .bf16) (K : FVec F S16384x256 .bf16) (V : FVec F S144x16384 .bf16) : FVec F S2048x128 .bf16 :=
  k0_pay1 (k0_pay152 (acc (k0_pay75 Q) K V 32))

set_option maxHeartbeats 4000000 in
/-- What the buffers hold before trip `k`, if they hold the first of it on entry. -/
theorem ls_state (c : Dev nD) (i : grid0.Coords) (arg3 : Memref sig .tc .vmem S256x2048 .bf16) (harg3 : arg3.IsWhole) (arg4 : Memref sig .tc .vmem S16384x256 .bf16) (harg4 : arg4.IsWhole) (arg5 : Memref sig .tc .vmem S144x16384 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S144x2048 .f32) (harg14 : arg14.IsWhole)
    (v1 : FVec F S256x2048 .bf16) (v156 : FVec F S1x256 .f32) (v166 : FVec F S512x256 .bf16)
    (f4 : BufTy.Contents (Elt F) arg4.view.ty) (f5 : BufTy.Contents (Elt F) arg5.view.ty)
    (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty)
    (h8 : arg8.view.read (Elt F) g8 = scores v1 (arg4.view.read (Elt F) f4) 1)
    (h13 : arg13.view.read (Elt F) g13 = maxR v1 (arg4.view.read (Elt F) f4) 1)
    (h11 : arg11.view.read (Elt F) g11 = fac v1 (arg4.view.read (Elt F) f4) 0)
    (h9 : arg9.view.read (Elt F) g9 = wt v1 (arg4.view.read (Elt F) f4) 0)
    (h14 : arg14.view.read (Elt F) g14 = acc v1 (arg4.view.read (Elt F) f4) (arg5.view.read (Elt F) f5) 0)
    (k : ℕ) (hk : k ≤ 15) : arg8.view.read (Elt F) (arg8.view.writes (Elt F) g8 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k).L8) = scores v1 (arg4.view.read (Elt F) f4) (2 * k + 1) ∧
    arg13.view.read (Elt F) (arg13.view.writes (Elt F) g13 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k).L13) = maxR v1 (arg4.view.read (Elt F) f4) (2 * k + 1) ∧
    arg11.view.read (Elt F) (arg11.view.writes (Elt F) g11 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k).L11) = fac v1 (arg4.view.read (Elt F) f4) (2 * k) ∧
    arg9.view.read (Elt F) (arg9.view.writes (Elt F) g9 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k).L9) = wt v1 (arg4.view.read (Elt F) f4) (2 * k) ∧
    arg14.view.read (Elt F) (arg14.view.writes (Elt F) g14 (ls c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 k).L14) = acc v1 (arg4.view.read (Elt F) f4) (arg5.view.read (Elt F) f5) (2 * k) := by
  induction k with
  | zero => exact ⟨h8, h13, h11, h9, h14⟩
  | succ k ih =>
    obtain ⟨i8, i13, i11, i9, i14⟩ := ih (by omega)
    have hs := ls_succ c i arg3 harg3 arg4 harg4 arg5 harg5 arg6 harg6 arg7 harg7 arg8 harg8 arg9 harg9 arg10 harg10 arg11 harg11 arg12 harg12 arg13 harg13 arg14 harg14 v1 v156 v166 f4 f5 g7 g8 g9 g10 g11 g12 g13 g14 ⟨k, (show k < 15 by omega)⟩
    rw [hs]
    refine ⟨?_, ?_, ?_, ?_, ?_⟩
    · refine (congrArg (arg8.view.read (Elt F)) (View.writes_append ..)).trans ((L8_value ..).trans ?_)
      rfl
    · refine (congrArg (arg13.view.read (Elt F)) (View.writes_append ..)).trans ((L13_value ..).trans ?_)
      rw [i8, i13]
      rfl
    · refine (congrArg (arg11.view.read (Elt F)) (View.writes_append ..)).trans ((L11_value ..).trans ?_)
      rw [i8, i13]
      rfl
    · refine (congrArg (arg9.view.read (Elt F)) (View.writes_append ..)).trans ((L9_value ..).trans ?_)
      rw [i8, i13]
      rfl
    · refine (congrArg (arg14.view.read (Elt F)) (View.writes_append ..)).trans ((L14_value ..).trans ?_)
      rw [i8, i13, i11, i9, i14]
      rfl

end Cert.Proof.Latent
end
-- ==== Proof.BodyValue.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Body
public import proofs.«01_k».proof.Proof.State

@[expose] public section

set_option maxRecDepth 16384

noncomputable section

namespace Cert.Proof.Latent

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000
variable (c : Dev nD) (i : grid0.Coords) (arg3 : Memref sig .tc .vmem S256x2048 .bf16) (harg3 : arg3.IsWhole) (arg4 : Memref sig .tc .vmem S16384x256 .bf16) (harg4 : arg4.IsWhole) (arg5 : Memref sig .tc .vmem S144x16384 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S144x2048 .f32) (harg14 : arg14.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)

/-- A strip of a row. -/
theorem ld_row (Z : FVec F S1x2048 .f32) (j : Fin 8) {o : ℕ} (h : o = 256 * j.val)
    (inb : ∀ a, (![0, o] : Fin 2 → ℕ) a + S1x256.size a ≤ S1x2048.size a) :
    View.ld (Val := Elt F) (e' := .f32) Z (Rect.unit (s := S1x2048) ![0, o] S1x256.size inb) = stripRow j Z := by
  funext y
  show Z ((Rect.unit (s := S1x2048) ![0, o] S1x256.size inb).emb y) = Z (ix2 0 (lane j (y 1)))
  rw [← emb_row j h inb (y 1)]
  exact congrArg (fun z => Z ((Rect.unit (s := S1x2048) ![0, o] S1x256.size inb).emb z)) (eq_row y)

/-- The queries the body multiplies the keys with. -/
theorem q_eq : (bodyRun.sl.r arg3 f3) = k0_pay75 (arg3.view.read (Elt F) f3) := by
  show k0_pay75 _ = _
  rw [View.readAt_full]

/-- The scores of the first chunk. -/
theorem s0_eq : k0_pay78 (View.readAt (Elt F) arg3.view (Rect.unit (s := S256x2048) ![0, 0] S256x2048.size inb_S256x2048_S256x2048_0_0).toLoadRect f3)
    (View.readAt (Elt F) arg4.view (Rect.unit (s := S16384x256) ![0, 0] S512x256.size inb_S16384x256_S512x256_0_0).toLoadRect f4) = scores (bodyRun.sl.r arg3 f3) (arg4.view.read (Elt F) f4) 0 :=
  congrArg (k0_pay2 (bodyRun.sl.r arg3 f3)) (readAt_K arg4.view f4 0 _ rfl (by decide) _)

/-- Strip 0 of the maxima before the first chunk. -/
theorem pm_0 : (bodyRun.sl.v26 (F := F) arg13) = stripRow 0 (maxR (bodyRun.sl.r arg3 f3) (arg4.view.read (Elt F) f4) 0) := by
  unfold bodyRun.sl.v26
  sl_unfold_words
  simp (disch := decide) only [↓ View.readCov_skip]
  simp (disch := decide) only [View.readCov_fill]
  exact ld_row _ 0 (o := 0) rfl _
/-- Strip 0 of the scores of the first chunk. -/
theorem ps_0 : (bodyRun.sl.v27 arg3 arg4 arg7 f3 f4) = stripTile 0 (scores (bodyRun.sl.r arg3 f3) (arg4.view.read (Elt F) f4) 0) := by
  unfold bodyRun.sl.v27 bodyRun.sl.H7_1
  simp (disch := decide) only [View.readCov_fill]
  rw [s0_eq]
  exact ld_tile _ 0 (o := 0) rfl _

/-- Strip 1 of the maxima before the first chunk. -/
theorem pm_1 : (bodyRun.sl.v47 arg3 arg4 arg7 arg13 f3 f4) = stripRow 1 (maxR (bodyRun.sl.r arg3 f3) (arg4.view.read (Elt F) f4) 0) := by
  unfold bodyRun.sl.v47
  sl_unfold_words
  simp (disch := decide) only [↓ View.readCov_skip]
  simp (disch := decide) only [View.readCov_fill]
  exact ld_row _ 1 (o := 256) rfl _
/-- Strip 1 of the scores of the first chunk. -/
theorem ps_1 : (bodyRun.sl.v48 arg3 arg4 arg7 f3 f4) = stripTile 1 (scores (bodyRun.sl.r arg3 f3) (arg4.view.read (Elt F) f4) 0) := by
  unfold bodyRun.sl.v48 bodyRun.sl.H7_1
  simp (disch := decide) only [View.readCov_fill]
  rw [s0_eq]
  exact ld_tile _ 1 (o := 256) rfl _

/-- Strip 2 of the maxima before the first chunk. -/
theorem pm_2 : (bodyRun.sl.v68 arg3 arg4 arg7 arg13 f3 f4) = stripRow 2 (maxR (bodyRun.sl.r arg3 f3) (arg4.view.read (Elt F) f4) 0) := by
  unfold bodyRun.sl.v68
  sl_unfold_words
  simp (disch := decide) only [↓ View.readCov_skip]
  simp (disch := decide) only [View.readCov_fill]
  exact ld_row _ 2 (o := 512) rfl _
/-- Strip 2 of the scores of the first chunk. -/
theorem ps_2 : (bodyRun.sl.v69 arg3 arg4 arg7 f3 f4) = stripTile 2 (scores (bodyRun.sl.r arg3 f3) (arg4.view.read (Elt F) f4) 0) := by
  unfold bodyRun.sl.v69 bodyRun.sl.H7_1
  simp (disch := decide) only [View.readCov_fill]
  rw [s0_eq]
  exact ld_tile _ 2 (o := 512) rfl _

/-- Strip 3 of the maxima before the first chunk. -/
theorem pm_3 : (bodyRun.sl.v89 arg3 arg4 arg7 arg13 f3 f4) = stripRow 3 (maxR (bodyRun.sl.r arg3 f3) (arg4.view.read (Elt F) f4) 0) := by
  unfold bodyRun.sl.v89
  sl_unfold_words
  simp (disch := decide) only [↓ View.readCov_skip]
  simp (disch := decide) only [View.readCov_fill]
  exact ld_row _ 3 (o := 768) rfl _
/-- Strip 3 of the scores of the first chunk. -/
theorem ps_3 : (bodyRun.sl.v90 arg3 arg4 arg7 f3 f4) = stripTile 3 (scores (bodyRun.sl.r arg3 f3) (arg4.view.read (Elt F) f4) 0) := by
  unfold bodyRun.sl.v90 bodyRun.sl.H7_1
  simp (disch := decide) only [View.readCov_fill]
  rw [s0_eq]
  exact ld_tile _ 3 (o := 768) rfl _

/-- Strip 4 of the maxima before the first chunk. -/
theorem pm_4 : (bodyRun.sl.v110 arg3 arg4 arg7 arg13 f3 f4) = stripRow 4 (maxR (bodyRun.sl.r arg3 f3) (arg4.view.read (Elt F) f4) 0) := by
  unfold bodyRun.sl.v110
  sl_unfold_words
  simp (disch := decide) only [↓ View.readCov_skip]
  simp (disch := decide) only [View.readCov_fill]
  exact ld_row _ 4 (o := 1024) rfl _
/-- Strip 4 of the scores of the first chunk. -/
theorem ps_4 : (bodyRun.sl.v111 arg3 arg4 arg7 f3 f4) = stripTile 4 (scores (bodyRun.sl.r arg3 f3) (arg4.view.read (Elt F) f4) 0) := by
  unfold bodyRun.sl.v111 bodyRun.sl.H7_1
  simp (disch := decide) only [View.readCov_fill]
  rw [s0_eq]
  exact ld_tile _ 4 (o := 1024) rfl _

/-- Strip 5 of the maxima before the first chunk. -/
theorem pm_5 : (bodyRun.sl.v131 arg3 arg4 arg7 arg13 f3 f4) = stripRow 5 (maxR (bodyRun.sl.r arg3 f3) (arg4.view.read (Elt F) f4) 0) := by
  unfold bodyRun.sl.v131
  sl_unfold_words
  simp (disch := decide) only [↓ View.readCov_skip]
  simp (disch := decide) only [View.readCov_fill]
  exact ld_row _ 5 (o := 1280) rfl _
/-- Strip 5 of the scores of the first chunk. -/
theorem ps_5 : (bodyRun.sl.v132 arg3 arg4 arg7 f3 f4) = stripTile 5 (scores (bodyRun.sl.r arg3 f3) (arg4.view.read (Elt F) f4) 0) := by
  unfold bodyRun.sl.v132 bodyRun.sl.H7_1
  simp (disch := decide) only [View.readCov_fill]
  rw [s0_eq]
  exact ld_tile _ 5 (o := 1280) rfl _

/-- Strip 6 of the maxima before the first chunk. -/
theorem pm_6 : (bodyRun.sl.v152 arg3 arg4 arg7 arg13 f3 f4) = stripRow 6 (maxR (bodyRun.sl.r arg3 f3) (arg4.view.read (Elt F) f4) 0) := by
  unfold bodyRun.sl.v152
  sl_unfold_words
  simp (disch := decide) only [↓ View.readCov_skip]
  simp (disch := decide) only [View.readCov_fill]
  exact ld_row _ 6 (o := 1536) rfl _
/-- Strip 6 of the scores of the first chunk. -/
theorem ps_6 : (bodyRun.sl.v153 arg3 arg4 arg7 f3 f4) = stripTile 6 (scores (bodyRun.sl.r arg3 f3) (arg4.view.read (Elt F) f4) 0) := by
  unfold bodyRun.sl.v153 bodyRun.sl.H7_1
  simp (disch := decide) only [View.readCov_fill]
  rw [s0_eq]
  exact ld_tile _ 6 (o := 1536) rfl _

/-- Strip 7 of the maxima before the first chunk. -/
theorem pm_7 : (bodyRun.sl.v173 arg3 arg4 arg7 arg13 f3 f4) = stripRow 7 (maxR (bodyRun.sl.r arg3 f3) (arg4.view.read (Elt F) f4) 0) := by
  unfold bodyRun.sl.v173
  sl_unfold_words
  simp (disch := decide) only [↓ View.readCov_skip]
  simp (disch := decide) only [View.readCov_fill]
  exact ld_row _ 7 (o := 1792) rfl _
/-- Strip 7 of the scores of the first chunk. -/
theorem ps_7 : (bodyRun.sl.v174 arg3 arg4 arg7 f3 f4) = stripTile 7 (scores (bodyRun.sl.r arg3 f3) (arg4.view.read (Elt F) f4) 0) := by
  unfold bodyRun.sl.v174 bodyRun.sl.H7_1
  simp (disch := decide) only [View.readCov_fill]
  rw [s0_eq]
  exact ld_tile _ 7 (o := 1792) rfl _

/-- What buffer 9 holds when the loop begins. -/
theorem entry9 : arg9.view.read (Elt F) (arg9.view.writes (Elt F) arg9.view.junk (bodyRun.sl.H9_8 arg3 arg4 arg7 arg13 f3 f4)) = wt (bodyRun.sl.r arg3 f3) (arg4.view.read (Elt F) f4) 0 := by
  refine (read_tile arg9.view arg9.view.junk _ _ _ _ _ _ _ _ _).trans ?_
  show _ = tileOf fun j => k0_pay5 (stripRow j (maxR (bodyRun.sl.r arg3 f3) (arg4.view.read (Elt F) f4) 0)) (stripTile j (scores (bodyRun.sl.r arg3 f3) (arg4.view.read (Elt F) f4) 0)) (stripTile j (scores (bodyRun.sl.r arg3 f3) (arg4.view.read (Elt F) f4) 0))
  refine congrArg tileOf (funext fun j => ?_)
  fin_cases j
  · show k0_pay5 (bodyRun.sl.v26 (F := F) arg13) (bodyRun.sl.v27 arg3 arg4 arg7 f3 f4) (bodyRun.sl.v27 arg3 arg4 arg7 f3 f4) = _
    rw [pm_0, ps_0]
    rfl
  · show k0_pay5 (bodyRun.sl.v47 arg3 arg4 arg7 arg13 f3 f4) (bodyRun.sl.v48 arg3 arg4 arg7 f3 f4) (bodyRun.sl.v48 arg3 arg4 arg7 f3 f4) = _
    rw [pm_1, ps_1]
    rfl
  · show k0_pay5 (bodyRun.sl.v68 arg3 arg4 arg7 arg13 f3 f4) (bodyRun.sl.v69 arg3 arg4 arg7 f3 f4) (bodyRun.sl.v69 arg3 arg4 arg7 f3 f4) = _
    rw [pm_2, ps_2]
    rfl
  · show k0_pay5 (bodyRun.sl.v89 arg3 arg4 arg7 arg13 f3 f4) (bodyRun.sl.v90 arg3 arg4 arg7 f3 f4) (bodyRun.sl.v90 arg3 arg4 arg7 f3 f4) = _
    rw [pm_3, ps_3]
    rfl
  · show k0_pay5 (bodyRun.sl.v110 arg3 arg4 arg7 arg13 f3 f4) (bodyRun.sl.v111 arg3 arg4 arg7 f3 f4) (bodyRun.sl.v111 arg3 arg4 arg7 f3 f4) = _
    rw [pm_4, ps_4]
    rfl
  · show k0_pay5 (bodyRun.sl.v131 arg3 arg4 arg7 arg13 f3 f4) (bodyRun.sl.v132 arg3 arg4 arg7 f3 f4) (bodyRun.sl.v132 arg3 arg4 arg7 f3 f4) = _
    rw [pm_5, ps_5]
    rfl
  · show k0_pay5 (bodyRun.sl.v152 arg3 arg4 arg7 arg13 f3 f4) (bodyRun.sl.v153 arg3 arg4 arg7 f3 f4) (bodyRun.sl.v153 arg3 arg4 arg7 f3 f4) = _
    rw [pm_6, ps_6]
    rfl
  · show k0_pay5 (bodyRun.sl.v173 arg3 arg4 arg7 arg13 f3 f4) (bodyRun.sl.v174 arg3 arg4 arg7 f3 f4) (bodyRun.sl.v174 arg3 arg4 arg7 f3 f4) = _
    rw [pm_7, ps_7]
    rfl

/-- What buffer 11 holds when the loop begins. -/
theorem entry11 : arg11.view.read (Elt F) (arg11.view.writes (Elt F) arg11.view.junk (bodyRun.sl.H11_8 arg3 arg4 arg7 arg13 f3 f4)) = fac (bodyRun.sl.r arg3 f3) (arg4.view.read (Elt F) f4) 0 := by
  refine (read_row arg11.view arg11.view.junk _ _ _ _ _ _ _ _ _).trans ?_
  show _ = rowOf fun j => k0_pay4 (stripRow j (maxR (bodyRun.sl.r arg3 f3) (arg4.view.read (Elt F) f4) 0)) (stripTile j (scores (bodyRun.sl.r arg3 f3) (arg4.view.read (Elt F) f4) 0))
  refine congrArg rowOf (funext fun j => ?_)
  fin_cases j
  · show k0_pay4 (bodyRun.sl.v26 (F := F) arg13) (bodyRun.sl.v27 arg3 arg4 arg7 f3 f4) = _
    rw [pm_0, ps_0]
    rfl
  · show k0_pay4 (bodyRun.sl.v47 arg3 arg4 arg7 arg13 f3 f4) (bodyRun.sl.v48 arg3 arg4 arg7 f3 f4) = _
    rw [pm_1, ps_1]
    rfl
  · show k0_pay4 (bodyRun.sl.v68 arg3 arg4 arg7 arg13 f3 f4) (bodyRun.sl.v69 arg3 arg4 arg7 f3 f4) = _
    rw [pm_2, ps_2]
    rfl
  · show k0_pay4 (bodyRun.sl.v89 arg3 arg4 arg7 arg13 f3 f4) (bodyRun.sl.v90 arg3 arg4 arg7 f3 f4) = _
    rw [pm_3, ps_3]
    rfl
  · show k0_pay4 (bodyRun.sl.v110 arg3 arg4 arg7 arg13 f3 f4) (bodyRun.sl.v111 arg3 arg4 arg7 f3 f4) = _
    rw [pm_4, ps_4]
    rfl
  · show k0_pay4 (bodyRun.sl.v131 arg3 arg4 arg7 arg13 f3 f4) (bodyRun.sl.v132 arg3 arg4 arg7 f3 f4) = _
    rw [pm_5, ps_5]
    rfl
  · show k0_pay4 (bodyRun.sl.v152 arg3 arg4 arg7 arg13 f3 f4) (bodyRun.sl.v153 arg3 arg4 arg7 f3 f4) = _
    rw [pm_6, ps_6]
    rfl
  · show k0_pay4 (bodyRun.sl.v173 arg3 arg4 arg7 arg13 f3 f4) (bodyRun.sl.v174 arg3 arg4 arg7 f3 f4) = _
    rw [pm_7, ps_7]
    rfl

/-- What buffer 13 holds when the loop begins. -/
theorem entry13 : arg13.view.read (Elt F) (arg13.view.writes (Elt F) arg13.view.junk (bodyRun.sl.H13_9 arg3 arg4 arg7 arg13 f3 f4)) = maxR (bodyRun.sl.r arg3 f3) (arg4.view.read (Elt F) f4) 1 := by
  refine (read_row arg13.view arg13.view.junk _ _ _ _ _ _ _ _ _).trans ?_
  show _ = rowOf fun j => k0_pay6 (stripRow j (maxR (bodyRun.sl.r arg3 f3) (arg4.view.read (Elt F) f4) 0)) (stripTile j (scores (bodyRun.sl.r arg3 f3) (arg4.view.read (Elt F) f4) 0))
  refine congrArg rowOf (funext fun j => ?_)
  fin_cases j
  · show k0_pay6 (bodyRun.sl.v26 (F := F) arg13) (bodyRun.sl.v27 arg3 arg4 arg7 f3 f4) = _
    rw [pm_0, ps_0]
    rfl
  · show k0_pay6 (bodyRun.sl.v47 arg3 arg4 arg7 arg13 f3 f4) (bodyRun.sl.v48 arg3 arg4 arg7 f3 f4) = _
    rw [pm_1, ps_1]
    rfl
  · show k0_pay6 (bodyRun.sl.v68 arg3 arg4 arg7 arg13 f3 f4) (bodyRun.sl.v69 arg3 arg4 arg7 f3 f4) = _
    rw [pm_2, ps_2]
    rfl
  · show k0_pay6 (bodyRun.sl.v89 arg3 arg4 arg7 arg13 f3 f4) (bodyRun.sl.v90 arg3 arg4 arg7 f3 f4) = _
    rw [pm_3, ps_3]
    rfl
  · show k0_pay6 (bodyRun.sl.v110 arg3 arg4 arg7 arg13 f3 f4) (bodyRun.sl.v111 arg3 arg4 arg7 f3 f4) = _
    rw [pm_4, ps_4]
    rfl
  · show k0_pay6 (bodyRun.sl.v131 arg3 arg4 arg7 arg13 f3 f4) (bodyRun.sl.v132 arg3 arg4 arg7 f3 f4) = _
    rw [pm_5, ps_5]
    rfl
  · show k0_pay6 (bodyRun.sl.v152 arg3 arg4 arg7 arg13 f3 f4) (bodyRun.sl.v153 arg3 arg4 arg7 f3 f4) = _
    rw [pm_6, ps_6]
    rfl
  · show k0_pay6 (bodyRun.sl.v173 arg3 arg4 arg7 arg13 f3 f4) (bodyRun.sl.v174 arg3 arg4 arg7 f3 f4) = _
    rw [pm_7, ps_7]
    rfl

/-- What buffer 8 holds when the loop begins. -/
theorem entry8 : arg8.view.read (Elt F) (arg8.view.writes (Elt F) arg8.view.junk (bodyRun.sl.H8_1 arg3 arg4 f3 f4)) = scores (bodyRun.sl.r arg3 f3) (arg4.view.read (Elt F) f4) 1 := by
  refine (View.read_writes_full arg8.view arg8.view.junk _ _ []).trans ?_
  exact congrArg₂ (fun q k => k0_pay2 (k0_pay75 q) k) rfl (readAt_K arg4.view f4 1 _ rfl (by decide) _)
/-- What buffer 14 holds when the loop begins. -/
theorem entry14 : arg14.view.read (Elt F) (arg14.view.writes (Elt F) arg14.view.junk bodyRun.sl.H14_1) = acc (bodyRun.sl.r arg3 f3) (arg4.view.read (Elt F) f4) (arg5.view.read (Elt F) f5) 0 := by
  exact View.read_writes_full arg14.view arg14.view.junk _ _ []

/-- What the buffers hold after the loop. -/
theorem after_loop : arg8.view.read (Elt F) (arg8.view.writes (Elt F) arg8.view.junk ((ls c i arg3 harg3 arg4 harg4 arg5 harg5 arg6 harg6 arg7 harg7 arg8 harg8 arg9 harg9 arg10 harg10 arg11 harg11 arg12 harg12 arg13 harg13 arg14 harg14 (bodyRun.sl.r arg3 f3) (bodyRun.sl.r_4 arg3 arg4 arg7 arg13 f3 f4) (bodyRun.sl.r_5 arg3 arg4 arg7 arg13 f3 f4) f4 f5 (arg7.view.writes (Elt F) arg7.view.junk (bodyRun.sl.H7_1 arg3 arg4 f3 f4)) (arg8.view.writes (Elt F) arg8.view.junk (bodyRun.sl.H8_1 arg3 arg4 f3 f4)) (arg9.view.writes (Elt F) arg9.view.junk (bodyRun.sl.H9_8 arg3 arg4 arg7 arg13 f3 f4)) f10 (arg11.view.writes (Elt F) arg11.view.junk (bodyRun.sl.H11_8 arg3 arg4 arg7 arg13 f3 f4)) f12 (arg13.view.writes (Elt F) arg13.view.junk (bodyRun.sl.H13_9 arg3 arg4 arg7 arg13 f3 f4)) (arg14.view.writes (Elt F) arg14.view.junk bodyRun.sl.H14_1) (Scf.trips k0_t1_loop.lb k0_t1_loop.ub k0_t1_loop.st)).L8 ++ (bodyRun.sl.H8_1 arg3 arg4 f3 f4))) = scores (bodyRun.sl.r arg3 f3) (arg4.view.read (Elt F) f4) 31 ∧
    arg13.view.read (Elt F) (arg13.view.writes (Elt F) arg13.view.junk ((ls c i arg3 harg3 arg4 harg4 arg5 harg5 arg6 harg6 arg7 harg7 arg8 harg8 arg9 harg9 arg10 harg10 arg11 harg11 arg12 harg12 arg13 harg13 arg14 harg14 (bodyRun.sl.r arg3 f3) (bodyRun.sl.r_4 arg3 arg4 arg7 arg13 f3 f4) (bodyRun.sl.r_5 arg3 arg4 arg7 arg13 f3 f4) f4 f5 (arg7.view.writes (Elt F) arg7.view.junk (bodyRun.sl.H7_1 arg3 arg4 f3 f4)) (arg8.view.writes (Elt F) arg8.view.junk (bodyRun.sl.H8_1 arg3 arg4 f3 f4)) (arg9.view.writes (Elt F) arg9.view.junk (bodyRun.sl.H9_8 arg3 arg4 arg7 arg13 f3 f4)) f10 (arg11.view.writes (Elt F) arg11.view.junk (bodyRun.sl.H11_8 arg3 arg4 arg7 arg13 f3 f4)) f12 (arg13.view.writes (Elt F) arg13.view.junk (bodyRun.sl.H13_9 arg3 arg4 arg7 arg13 f3 f4)) (arg14.view.writes (Elt F) arg14.view.junk bodyRun.sl.H14_1) (Scf.trips k0_t1_loop.lb k0_t1_loop.ub k0_t1_loop.st)).L13 ++ (bodyRun.sl.H13_9 arg3 arg4 arg7 arg13 f3 f4))) = maxR (bodyRun.sl.r arg3 f3) (arg4.view.read (Elt F) f4) 31 ∧
    arg11.view.read (Elt F) (arg11.view.writes (Elt F) arg11.view.junk ((ls c i arg3 harg3 arg4 harg4 arg5 harg5 arg6 harg6 arg7 harg7 arg8 harg8 arg9 harg9 arg10 harg10 arg11 harg11 arg12 harg12 arg13 harg13 arg14 harg14 (bodyRun.sl.r arg3 f3) (bodyRun.sl.r_4 arg3 arg4 arg7 arg13 f3 f4) (bodyRun.sl.r_5 arg3 arg4 arg7 arg13 f3 f4) f4 f5 (arg7.view.writes (Elt F) arg7.view.junk (bodyRun.sl.H7_1 arg3 arg4 f3 f4)) (arg8.view.writes (Elt F) arg8.view.junk (bodyRun.sl.H8_1 arg3 arg4 f3 f4)) (arg9.view.writes (Elt F) arg9.view.junk (bodyRun.sl.H9_8 arg3 arg4 arg7 arg13 f3 f4)) f10 (arg11.view.writes (Elt F) arg11.view.junk (bodyRun.sl.H11_8 arg3 arg4 arg7 arg13 f3 f4)) f12 (arg13.view.writes (Elt F) arg13.view.junk (bodyRun.sl.H13_9 arg3 arg4 arg7 arg13 f3 f4)) (arg14.view.writes (Elt F) arg14.view.junk bodyRun.sl.H14_1) (Scf.trips k0_t1_loop.lb k0_t1_loop.ub k0_t1_loop.st)).L11 ++ (bodyRun.sl.H11_8 arg3 arg4 arg7 arg13 f3 f4))) = fac (bodyRun.sl.r arg3 f3) (arg4.view.read (Elt F) f4) 30 ∧
    arg9.view.read (Elt F) (arg9.view.writes (Elt F) arg9.view.junk ((ls c i arg3 harg3 arg4 harg4 arg5 harg5 arg6 harg6 arg7 harg7 arg8 harg8 arg9 harg9 arg10 harg10 arg11 harg11 arg12 harg12 arg13 harg13 arg14 harg14 (bodyRun.sl.r arg3 f3) (bodyRun.sl.r_4 arg3 arg4 arg7 arg13 f3 f4) (bodyRun.sl.r_5 arg3 arg4 arg7 arg13 f3 f4) f4 f5 (arg7.view.writes (Elt F) arg7.view.junk (bodyRun.sl.H7_1 arg3 arg4 f3 f4)) (arg8.view.writes (Elt F) arg8.view.junk (bodyRun.sl.H8_1 arg3 arg4 f3 f4)) (arg9.view.writes (Elt F) arg9.view.junk (bodyRun.sl.H9_8 arg3 arg4 arg7 arg13 f3 f4)) f10 (arg11.view.writes (Elt F) arg11.view.junk (bodyRun.sl.H11_8 arg3 arg4 arg7 arg13 f3 f4)) f12 (arg13.view.writes (Elt F) arg13.view.junk (bodyRun.sl.H13_9 arg3 arg4 arg7 arg13 f3 f4)) (arg14.view.writes (Elt F) arg14.view.junk bodyRun.sl.H14_1) (Scf.trips k0_t1_loop.lb k0_t1_loop.ub k0_t1_loop.st)).L9 ++ (bodyRun.sl.H9_8 arg3 arg4 arg7 arg13 f3 f4))) = wt (bodyRun.sl.r arg3 f3) (arg4.view.read (Elt F) f4) 30 ∧
    arg14.view.read (Elt F) (arg14.view.writes (Elt F) arg14.view.junk ((ls c i arg3 harg3 arg4 harg4 arg5 harg5 arg6 harg6 arg7 harg7 arg8 harg8 arg9 harg9 arg10 harg10 arg11 harg11 arg12 harg12 arg13 harg13 arg14 harg14 (bodyRun.sl.r arg3 f3) (bodyRun.sl.r_4 arg3 arg4 arg7 arg13 f3 f4) (bodyRun.sl.r_5 arg3 arg4 arg7 arg13 f3 f4) f4 f5 (arg7.view.writes (Elt F) arg7.view.junk (bodyRun.sl.H7_1 arg3 arg4 f3 f4)) (arg8.view.writes (Elt F) arg8.view.junk (bodyRun.sl.H8_1 arg3 arg4 f3 f4)) (arg9.view.writes (Elt F) arg9.view.junk (bodyRun.sl.H9_8 arg3 arg4 arg7 arg13 f3 f4)) f10 (arg11.view.writes (Elt F) arg11.view.junk (bodyRun.sl.H11_8 arg3 arg4 arg7 arg13 f3 f4)) f12 (arg13.view.writes (Elt F) arg13.view.junk (bodyRun.sl.H13_9 arg3 arg4 arg7 arg13 f3 f4)) (arg14.view.writes (Elt F) arg14.view.junk bodyRun.sl.H14_1) (Scf.trips k0_t1_loop.lb k0_t1_loop.ub k0_t1_loop.st)).L14 ++ bodyRun.sl.H14_1)) = acc (bodyRun.sl.r arg3 f3) (arg4.view.read (Elt F) f4) (arg5.view.read (Elt F) f5) 30 := by
  rw [View.writes_append, View.writes_append, View.writes_append, View.writes_append, View.writes_append]
  exact ls_state c i arg3 harg3 arg4 harg4 arg5 harg5 arg6 harg6 arg7 harg7 arg8 harg8 arg9 harg9 arg10 harg10 arg11 harg11 arg12 harg12 arg13 harg13 arg14 harg14 (bodyRun.sl.r arg3 f3) (bodyRun.sl.r_4 arg3 arg4 arg7 arg13 f3 f4) (bodyRun.sl.r_5 arg3 arg4 arg7 arg13 f3 f4) f4 f5 (arg7.view.writes (Elt F) arg7.view.junk (bodyRun.sl.H7_1 arg3 arg4 f3 f4)) (arg8.view.writes (Elt F) arg8.view.junk (bodyRun.sl.H8_1 arg3 arg4 f3 f4)) (arg9.view.writes (Elt F) arg9.view.junk (bodyRun.sl.H9_8 arg3 arg4 arg7 arg13 f3 f4)) f10 (arg11.view.writes (Elt F) arg11.view.junk (bodyRun.sl.H11_8 arg3 arg4 arg7 arg13 f3 f4)) f12 (arg13.view.writes (Elt F) arg13.view.junk (bodyRun.sl.H13_9 arg3 arg4 arg7 arg13 f3 f4)) (arg14.view.writes (Elt F) arg14.view.junk bodyRun.sl.H14_1)
    (entry8 ..) (entry13 ..) (entry11 ..) (entry9 ..) (entry14 ..) 15 le_rfl

/-- Strip 0 of the maxima before the last chunk. -/
theorem tm_0 : (bodyRun.sl.v195 c i arg3 harg3 arg4 harg4 arg5 harg5 arg6 harg6 arg7 harg7 arg8 harg8 arg9 harg9 arg10 harg10 arg11 harg11 arg12 harg12 arg13 harg13 arg14 harg14 f3 f4 f5 f10 f12) = stripRow 0 (maxR (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).2.1]
  unfold bodyRun.sl.v195
  exact readAt_row arg13.view _ 0 (o := 0) rfl _
/-- Strip 0 of the scores of the last chunk. -/
theorem ts_0 : (bodyRun.sl.v196 c i arg3 harg3 arg4 harg4 arg5 harg5 arg6 harg6 arg7 harg7 arg8 harg8 arg9 harg9 arg10 harg10 arg11 harg11 arg12 harg12 arg13 harg13 arg14 harg14 f3 f4 f5 f10 f12) = stripTile 0 (scores (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).1]
  unfold bodyRun.sl.v196
  exact readAt_tile arg8.view _ 0 (o := 0) rfl _

/-- Strip 1 of the maxima before the last chunk. -/
theorem tm_1 : (bodyRun.sl.v216 c i arg3 harg3 arg4 harg4 arg5 harg5 arg6 harg6 arg7 harg7 arg8 harg8 arg9 harg9 arg10 harg10 arg11 harg11 arg12 harg12 arg13 harg13 arg14 harg14 f3 f4 f5 f10 f12) = stripRow 1 (maxR (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).2.1]
  unfold bodyRun.sl.v216
  sl_unfold_words
  simp (disch := decide) only [↓ View.readCov_skip]
  exact readAt_row arg13.view _ 1 (o := 256) rfl _
/-- Strip 1 of the scores of the last chunk. -/
theorem ts_1 : (bodyRun.sl.v217 c i arg3 harg3 arg4 harg4 arg5 harg5 arg6 harg6 arg7 harg7 arg8 harg8 arg9 harg9 arg10 harg10 arg11 harg11 arg12 harg12 arg13 harg13 arg14 harg14 f3 f4 f5 f10 f12) = stripTile 1 (scores (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).1]
  unfold bodyRun.sl.v217
  exact readAt_tile arg8.view _ 1 (o := 256) rfl _

/-- Strip 2 of the maxima before the last chunk. -/
theorem tm_2 : (bodyRun.sl.v237 c i arg3 harg3 arg4 harg4 arg5 harg5 arg6 harg6 arg7 harg7 arg8 harg8 arg9 harg9 arg10 harg10 arg11 harg11 arg12 harg12 arg13 harg13 arg14 harg14 f3 f4 f5 f10 f12) = stripRow 2 (maxR (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).2.1]
  unfold bodyRun.sl.v237
  sl_unfold_words
  simp (disch := decide) only [↓ View.readCov_skip]
  exact readAt_row arg13.view _ 2 (o := 512) rfl _
/-- Strip 2 of the scores of the last chunk. -/
theorem ts_2 : (bodyRun.sl.v238 c i arg3 harg3 arg4 harg4 arg5 harg5 arg6 harg6 arg7 harg7 arg8 harg8 arg9 harg9 arg10 harg10 arg11 harg11 arg12 harg12 arg13 harg13 arg14 harg14 f3 f4 f5 f10 f12) = stripTile 2 (scores (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).1]
  unfold bodyRun.sl.v238
  exact readAt_tile arg8.view _ 2 (o := 512) rfl _

/-- Strip 3 of the maxima before the last chunk. -/
theorem tm_3 : (bodyRun.sl.v258 c i arg3 harg3 arg4 harg4 arg5 harg5 arg6 harg6 arg7 harg7 arg8 harg8 arg9 harg9 arg10 harg10 arg11 harg11 arg12 harg12 arg13 harg13 arg14 harg14 f3 f4 f5 f10 f12) = stripRow 3 (maxR (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).2.1]
  unfold bodyRun.sl.v258
  sl_unfold_words
  simp (disch := decide) only [↓ View.readCov_skip]
  exact readAt_row arg13.view _ 3 (o := 768) rfl _
/-- Strip 3 of the scores of the last chunk. -/
theorem ts_3 : (bodyRun.sl.v259 c i arg3 harg3 arg4 harg4 arg5 harg5 arg6 harg6 arg7 harg7 arg8 harg8 arg9 harg9 arg10 harg10 arg11 harg11 arg12 harg12 arg13 harg13 arg14 harg14 f3 f4 f5 f10 f12) = stripTile 3 (scores (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).1]
  unfold bodyRun.sl.v259
  exact readAt_tile arg8.view _ 3 (o := 768) rfl _

/-- Strip 4 of the maxima before the last chunk. -/
theorem tm_4 : (bodyRun.sl.v279 c i arg3 harg3 arg4 harg4 arg5 harg5 arg6 harg6 arg7 harg7 arg8 harg8 arg9 harg9 arg10 harg10 arg11 harg11 arg12 harg12 arg13 harg13 arg14 harg14 f3 f4 f5 f10 f12) = stripRow 4 (maxR (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).2.1]
  unfold bodyRun.sl.v279
  sl_unfold_words
  simp (disch := decide) only [↓ View.readCov_skip]
  exact readAt_row arg13.view _ 4 (o := 1024) rfl _
/-- Strip 4 of the scores of the last chunk. -/
theorem ts_4 : (bodyRun.sl.v280 c i arg3 harg3 arg4 harg4 arg5 harg5 arg6 harg6 arg7 harg7 arg8 harg8 arg9 harg9 arg10 harg10 arg11 harg11 arg12 harg12 arg13 harg13 arg14 harg14 f3 f4 f5 f10 f12) = stripTile 4 (scores (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).1]
  unfold bodyRun.sl.v280
  exact readAt_tile arg8.view _ 4 (o := 1024) rfl _

/-- Strip 5 of the maxima before the last chunk. -/
theorem tm_5 : (bodyRun.sl.v300 c i arg3 harg3 arg4 harg4 arg5 harg5 arg6 harg6 arg7 harg7 arg8 harg8 arg9 harg9 arg10 harg10 arg11 harg11 arg12 harg12 arg13 harg13 arg14 harg14 f3 f4 f5 f10 f12) = stripRow 5 (maxR (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).2.1]
  unfold bodyRun.sl.v300
  sl_unfold_words
  simp (disch := decide) only [↓ View.readCov_skip]
  exact readAt_row arg13.view _ 5 (o := 1280) rfl _
/-- Strip 5 of the scores of the last chunk. -/
theorem ts_5 : (bodyRun.sl.v301 c i arg3 harg3 arg4 harg4 arg5 harg5 arg6 harg6 arg7 harg7 arg8 harg8 arg9 harg9 arg10 harg10 arg11 harg11 arg12 harg12 arg13 harg13 arg14 harg14 f3 f4 f5 f10 f12) = stripTile 5 (scores (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).1]
  unfold bodyRun.sl.v301
  exact readAt_tile arg8.view _ 5 (o := 1280) rfl _

/-- Strip 6 of the maxima before the last chunk. -/
theorem tm_6 : (bodyRun.sl.v321 c i arg3 harg3 arg4 harg4 arg5 harg5 arg6 harg6 arg7 harg7 arg8 harg8 arg9 harg9 arg10 harg10 arg11 harg11 arg12 harg12 arg13 harg13 arg14 harg14 f3 f4 f5 f10 f12) = stripRow 6 (maxR (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).2.1]
  unfold bodyRun.sl.v321
  sl_unfold_words
  simp (disch := decide) only [↓ View.readCov_skip]
  exact readAt_row arg13.view _ 6 (o := 1536) rfl _
/-- Strip 6 of the scores of the last chunk. -/
theorem ts_6 : (bodyRun.sl.v322 c i arg3 harg3 arg4 harg4 arg5 harg5 arg6 harg6 arg7 harg7 arg8 harg8 arg9 harg9 arg10 harg10 arg11 harg11 arg12 harg12 arg13 harg13 arg14 harg14 f3 f4 f5 f10 f12) = stripTile 6 (scores (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).1]
  unfold bodyRun.sl.v322
  exact readAt_tile arg8.view _ 6 (o := 1536) rfl _

/-- Strip 7 of the maxima before the last chunk. -/
theorem tm_7 : (bodyRun.sl.v342 c i arg3 harg3 arg4 harg4 arg5 harg5 arg6 harg6 arg7 harg7 arg8 harg8 arg9 harg9 arg10 harg10 arg11 harg11 arg12 harg12 arg13 harg13 arg14 harg14 f3 f4 f5 f10 f12) = stripRow 7 (maxR (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).2.1]
  unfold bodyRun.sl.v342
  sl_unfold_words
  simp (disch := decide) only [↓ View.readCov_skip]
  exact readAt_row arg13.view _ 7 (o := 1792) rfl _
/-- Strip 7 of the scores of the last chunk. -/
theorem ts_7 : (bodyRun.sl.v343 c i arg3 harg3 arg4 harg4 arg5 harg5 arg6 harg6 arg7 harg7 arg8 harg8 arg9 harg9 arg10 harg10 arg11 harg11 arg12 harg12 arg13 harg13 arg14 harg14 f3 f4 f5 f10 f12) = stripTile 7 (scores (bodyRun.sl.r arg3 f3) (arg4.view.read (Elt F) f4) 31) := by
  rw [← (after_loop c i arg3 harg3 arg4 harg4 arg5 harg5 arg6 harg6 arg7 harg7 arg8 harg8 arg9 harg9 arg10 harg10 arg11 harg11 arg12 harg12 arg13 harg13 arg14 harg14 f3 f4 f5 f10 f12).1]
  unfold bodyRun.sl.v343
  exact readAt_tile arg8.view _ 7 (o := 1792) rfl _

/-- The weights of the last chunk. -/
theorem tail10 : (bodyRun.sl.v385 c i arg3 harg3 arg4 harg4 arg5 harg5 arg6 harg6 arg7 harg7 arg8 harg8 arg9 harg9 arg10 harg10 arg11 harg11 arg12 harg12 arg13 harg13 arg14 harg14 f3 f4 f5 f10 f12) = wt (bodyRun.sl.r arg3 f3) (arg4.view.read (Elt F) f4) 31 := by
  unfold bodyRun.sl.v385
  refine (View.readAt_full ..).trans ?_
  refine (read_tile arg10.view _ _ _ _ _ _ _ _ _ _).trans ?_
  show _ = tileOf fun j => k0_pay5 (stripRow j (maxR (bodyRun.sl.r arg3 f3) (arg4.view.read (Elt F) f4) 31)) (stripTile j (scores (bodyRun.sl.r arg3 f3) (arg4.view.read (Elt F) f4) 31)) (stripTile j (scores (bodyRun.sl.r arg3 f3) (arg4.view.read (Elt F) f4) 31))
  refine congrArg tileOf (funext fun j => ?_)
  fin_cases j
  · show k0_pay5 (bodyRun.sl.v195 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v196 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v196 c i arg3 harg3 arg4 harg4 arg5 harg5 arg6 harg6 arg7 harg7 arg8 harg8 arg9 harg9 arg10 harg10 arg11 harg11 arg12 harg12 arg13 harg13 arg14 harg14 f3 f4 f5 f10 f12) = _
    rw [tm_0, ts_0]
    rfl
  · show k0_pay5 (bodyRun.sl.v216 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v217 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v217 c i arg3 harg3 arg4 harg4 arg5 harg5 arg6 harg6 arg7 harg7 arg8 harg8 arg9 harg9 arg10 harg10 arg11 harg11 arg12 harg12 arg13 harg13 arg14 harg14 f3 f4 f5 f10 f12) = _
    rw [tm_1, ts_1]
    rfl
  · show k0_pay5 (bodyRun.sl.v237 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v238 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v238 c i arg3 harg3 arg4 harg4 arg5 harg5 arg6 harg6 arg7 harg7 arg8 harg8 arg9 harg9 arg10 harg10 arg11 harg11 arg12 harg12 arg13 harg13 arg14 harg14 f3 f4 f5 f10 f12) = _
    rw [tm_2, ts_2]
    rfl
  · show k0_pay5 (bodyRun.sl.v258 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v259 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v259 c i arg3 harg3 arg4 harg4 arg5 harg5 arg6 harg6 arg7 harg7 arg8 harg8 arg9 harg9 arg10 harg10 arg11 harg11 arg12 harg12 arg13 harg13 arg14 harg14 f3 f4 f5 f10 f12) = _
    rw [tm_3, ts_3]
    rfl
  · show k0_pay5 (bodyRun.sl.v279 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v280 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v280 c i arg3 harg3 arg4 harg4 arg5 harg5 arg6 harg6 arg7 harg7 arg8 harg8 arg9 harg9 arg10 harg10 arg11 harg11 arg12 harg12 arg13 harg13 arg14 harg14 f3 f4 f5 f10 f12) = _
    rw [tm_4, ts_4]
    rfl
  · show k0_pay5 (bodyRun.sl.v300 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v301 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v301 c i arg3 harg3 arg4 harg4 arg5 harg5 arg6 harg6 arg7 harg7 arg8 harg8 arg9 harg9 arg10 harg10 arg11 harg11 arg12 harg12 arg13 harg13 arg14 harg14 f3 f4 f5 f10 f12) = _
    rw [tm_5, ts_5]
    rfl
  · show k0_pay5 (bodyRun.sl.v321 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v322 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v322 c i arg3 harg3 arg4 harg4 arg5 harg5 arg6 harg6 arg7 harg7 arg8 harg8 arg9 harg9 arg10 harg10 arg11 harg11 arg12 harg12 arg13 harg13 arg14 harg14 f3 f4 f5 f10 f12) = _
    rw [tm_6, ts_6]
    rfl
  · show k0_pay5 (bodyRun.sl.v342 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v343 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v343 c i arg3 harg3 arg4 harg4 arg5 harg5 arg6 harg6 arg7 harg7 arg8 harg8 arg9 harg9 arg10 harg10 arg11 harg11 arg12 harg12 arg13 harg13 arg14 harg14 f3 f4 f5 f10 f12) = _
    rw [tm_7, ts_7]
    rfl

/-- The factors of the last chunk. -/
theorem tail12 : (bodyRun.sl.v379 c i arg3 harg3 arg4 harg4 arg5 harg5 arg6 harg6 arg7 harg7 arg8 harg8 arg9 harg9 arg10 harg10 arg11 harg11 arg12 harg12 arg13 harg13 arg14 harg14 f3 f4 f5 f10 f12) = fac (bodyRun.sl.r arg3 f3) (arg4.view.read (Elt F) f4) 31 := by
  unfold bodyRun.sl.v379
  refine (View.readAt_full ..).trans ?_
  refine (read_row arg12.view _ _ _ _ _ _ _ _ _ _).trans ?_
  show _ = rowOf fun j => k0_pay4 (stripRow j (maxR (bodyRun.sl.r arg3 f3) (arg4.view.read (Elt F) f4) 31)) (stripTile j (scores (bodyRun.sl.r arg3 f3) (arg4.view.read (Elt F) f4) 31))
  refine congrArg rowOf (funext fun j => ?_)
  fin_cases j
  · show k0_pay4 (bodyRun.sl.v195 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v196 c i arg3 harg3 arg4 harg4 arg5 harg5 arg6 harg6 arg7 harg7 arg8 harg8 arg9 harg9 arg10 harg10 arg11 harg11 arg12 harg12 arg13 harg13 arg14 harg14 f3 f4 f5 f10 f12) = _
    rw [tm_0, ts_0]
    rfl
  · show k0_pay4 (bodyRun.sl.v216 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v217 c i arg3 harg3 arg4 harg4 arg5 harg5 arg6 harg6 arg7 harg7 arg8 harg8 arg9 harg9 arg10 harg10 arg11 harg11 arg12 harg12 arg13 harg13 arg14 harg14 f3 f4 f5 f10 f12) = _
    rw [tm_1, ts_1]
    rfl
  · show k0_pay4 (bodyRun.sl.v237 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v238 c i arg3 harg3 arg4 harg4 arg5 harg5 arg6 harg6 arg7 harg7 arg8 harg8 arg9 harg9 arg10 harg10 arg11 harg11 arg12 harg12 arg13 harg13 arg14 harg14 f3 f4 f5 f10 f12) = _
    rw [tm_2, ts_2]
    rfl
  · show k0_pay4 (bodyRun.sl.v258 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v259 c i arg3 harg3 arg4 harg4 arg5 harg5 arg6 harg6 arg7 harg7 arg8 harg8 arg9 harg9 arg10 harg10 arg11 harg11 arg12 harg12 arg13 harg13 arg14 harg14 f3 f4 f5 f10 f12) = _
    rw [tm_3, ts_3]
    rfl
  · show k0_pay4 (bodyRun.sl.v279 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v280 c i arg3 harg3 arg4 harg4 arg5 harg5 arg6 harg6 arg7 harg7 arg8 harg8 arg9 harg9 arg10 harg10 arg11 harg11 arg12 harg12 arg13 harg13 arg14 harg14 f3 f4 f5 f10 f12) = _
    rw [tm_4, ts_4]
    rfl
  · show k0_pay4 (bodyRun.sl.v300 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v301 c i arg3 harg3 arg4 harg4 arg5 harg5 arg6 harg6 arg7 harg7 arg8 harg8 arg9 harg9 arg10 harg10 arg11 harg11 arg12 harg12 arg13 harg13 arg14 harg14 f3 f4 f5 f10 f12) = _
    rw [tm_5, ts_5]
    rfl
  · show k0_pay4 (bodyRun.sl.v321 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v322 c i arg3 harg3 arg4 harg4 arg5 harg5 arg6 harg6 arg7 harg7 arg8 harg8 arg9 harg9 arg10 harg10 arg11 harg11 arg12 harg12 arg13 harg13 arg14 harg14 f3 f4 f5 f10 f12) = _
    rw [tm_6, ts_6]
    rfl
  · show k0_pay4 (bodyRun.sl.v342 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v343 c i arg3 harg3 arg4 harg4 arg5 harg5 arg6 harg6 arg7 harg7 arg8 harg8 arg9 harg9 arg10 harg10 arg11 harg11 arg12 harg12 arg13 harg13 arg14 harg14 f3 f4 f5 f10 f12) = _
    rw [tm_7, ts_7]
    rfl

/-- The sums before the last chunk. -/
theorem tail14 : (bodyRun.sl.v378 c i arg3 harg3 arg4 harg4 arg5 harg5 arg6 harg6 arg7 harg7 arg8 harg8 arg9 harg9 arg10 harg10 arg11 harg11 arg12 harg12 arg13 harg13 arg14 harg14 f3 f4 f5 f10 f12) = acc (bodyRun.sl.r arg3 f3) (arg4.view.read (Elt F) f4) (arg5.view.read (Elt F) f5) 31 := by
  unfold bodyRun.sl.v378
  refine (View.readAt_full ..).trans ((View.read_writes_full arg14.view arg14.view.junk _ _ _).trans ?_)
  show k0_pay38 (bodyRun.sl.v364 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v365 c i arg3 harg3 arg4 harg4 arg5 harg5 arg6 harg6 arg7 harg7 arg8 harg8 arg9 harg9 arg10 harg10 arg11 harg11 arg12 harg12 arg13 harg13 arg14 harg14 f3 f4 f5 f10 f12) _ (bodyRun.sl.v371 c i arg3 harg3 arg4 harg4 arg5 harg5 arg6 harg6 arg7 harg7 arg8 harg8 arg9 harg9 arg10 harg10 arg11 harg11 arg12 harg12 arg13 harg13 arg14 harg14 f3 f4 f5 f10 f12) = _
  have h1 : (bodyRun.sl.v364 c i arg3 harg3 arg4 harg4 arg5 harg5 arg6 harg6 arg7 harg7 arg8 harg8 arg9 harg9 arg10 harg10 arg11 harg11 arg12 harg12 arg13 harg13 arg14 harg14 f3 f4 f5 f10 f12) = acc (bodyRun.sl.r arg3 f3) (arg4.view.read (Elt F) f4) (arg5.view.read (Elt F) f5) 30 := (View.readAt_full ..).trans (after_loop c i arg3 harg3 arg4 harg4 arg5 harg5 arg6 harg6 arg7 harg7 arg8 harg8 arg9 harg9 arg10 harg10 arg11 harg11 arg12 harg12 arg13 harg13 arg14 harg14 f3 f4 f5 f10 f12).2.2.2.2
  have h2 : (bodyRun.sl.v365 c i arg3 harg3 arg4 harg4 arg5 harg5 arg6 harg6 arg7 harg7 arg8 harg8 arg9 harg9 arg10 harg10 arg11 harg11 arg12 harg12 arg13 harg13 arg14 harg14 f3 f4 f5 f10 f12) = fac (bodyRun.sl.r arg3 f3) (arg4.view.read (Elt F) f4) 30 := (View.readAt_full ..).trans (after_loop c i arg3 harg3 arg4 harg4 arg5 harg5 arg6 harg6 arg7 harg7 arg8 harg8 arg9 harg9 arg10 harg10 arg11 harg11 arg12 harg12 arg13 harg13 arg14 harg14 f3 f4 f5 f10 f12).2.2.1
  have h3 : (bodyRun.sl.v371 c i arg3 harg3 arg4 harg4 arg5 harg5 arg6 harg6 arg7 harg7 arg8 harg8 arg9 harg9 arg10 harg10 arg11 harg11 arg12 harg12 arg13 harg13 arg14 harg14 f3 f4 f5 f10 f12) = wt (bodyRun.sl.r arg3 f3) (arg4.view.read (Elt F) f4) 30 := (View.readAt_full ..).trans (after_loop c i arg3 harg3 arg4 harg4 arg5 harg5 arg6 harg6 arg7 harg7 arg8 harg8 arg9 harg9 arg10 harg10 arg11 harg11 arg12 harg12 arg13 harg13 arg14 harg14 f3 f4 f5 f10 f12).2.2.2.1
  rw [h1, h2, h3]
  exact congrArg (fun x => k0_pay38 (acc (bodyRun.sl.r arg3 f3) (arg4.view.read (Elt F) f4) (arg5.view.read (Elt F) f5) 30) (fac (bodyRun.sl.r arg3 f3) (arg4.view.read (Elt F) f4) 30) x (wt (bodyRun.sl.r arg3 f3) (arg4.view.read (Elt F) f4) 30)) (readAt_V arg5.view f5 30 _ rfl (by decide) _)
/-- The sums after the last chunk. -/
theorem tail_acc : (bodyRun.sl.v391 c i arg3 harg3 arg4 harg4 arg5 harg5 arg6 harg6 arg7 harg7 arg8 harg8 arg9 harg9 arg10 harg10 arg11 harg11 arg12 harg12 arg13 harg13 arg14 harg14 f3 f4 f5 f10 f12) = acc (bodyRun.sl.r arg3 f3) (arg4.view.read (Elt F) f4) (arg5.view.read (Elt F) f5) 32 := by
  unfold bodyRun.sl.v391
  refine (View.readAt_full ..).trans ((View.read_writes_full arg14.view arg14.view.junk _ _ _).trans ?_)
  show k0_pay38 (bodyRun.sl.v378 c i arg3 harg3 arg4 harg4 arg5 harg5 arg6 harg6 arg7 harg7 arg8 harg8 arg9 harg9 arg10 harg10 arg11 harg11 arg12 harg12 arg13 harg13 arg14 harg14 f3 f4 f5 f10 f12) (bodyRun.sl.v379 c i arg3 harg3 arg4 harg4 arg5 harg5 arg6 harg6 arg7 harg7 arg8 harg8 arg9 harg9 arg10 harg10 arg11 harg11 arg12 harg12 arg13 harg13 arg14 harg14 f3 f4 f5 f10 f12) _ (bodyRun.sl.v385 c i arg3 harg3 arg4 harg4 arg5 harg5 arg6 harg6 arg7 harg7 arg8 harg8 arg9 harg9 arg10 harg10 arg11 harg11 arg12 harg12 arg13 harg13 arg14 harg14 f3 f4 f5 f10 f12) = _
  rw [tail14, tail12, tail10]
  exact congrArg (fun x => k0_pay38 (acc (bodyRun.sl.r arg3 f3) (arg4.view.read (Elt F) f4) (arg5.view.read (Elt F) f5) 31) (fac (bodyRun.sl.r arg3 f3) (arg4.view.read (Elt F) f4) 31) x (wt (bodyRun.sl.r arg3 f3) (arg4.view.read (Elt F) f4) 31)) (readAt_V arg5.view f5 31 _ rfl (by decide) _)

/-- The body leaves in the block of results `outBlk` of the blocks of queries, keys and values. -/
theorem body_value : arg6.view.read (Elt F) (arg6.view.writes (Elt F) f6 (bodyRun c i arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14).1) =
    outBlk (arg3.view.read (Elt F) f3) (arg4.view.read (Elt F) f4) (arg5.view.read (Elt F) f5) := by
  unfold bodyRun
  refine (View.read_writes_full arg6.view f6 _ _ []).trans ?_
  show k0_pay1 (k0_pay152 (bodyRun.sl.v391 c i arg3 harg3 arg4 harg4 arg5 harg5 arg6 harg6 arg7 harg7 arg8 harg8 arg9 harg9 arg10 harg10 arg11 harg11 arg12 harg12 arg13 harg13 arg14 harg14 f3 f4 f5 f10 f12)) = _
  rw [tail_acc, q_eq]
  rfl

end Cert.Proof.Latent
end
-- ==== Proof.Run.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.BodyValue

@[expose] public section

set_option maxRecDepth 16384

noncomputable section

namespace Cert.Proof.Latent

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat Cfg Window BodyObligation cellOf ΦA)

set_option maxHeartbeats 4000000

/-- The body on whole buffers: from blocks `x3`, `x4`, `x5` of queries, keys and values it leaves `outBlk x3 x4 x5` in the block
    of results, the three blocks as they were and the scratch buffers at something. -/
theorem body_owns (c : Dev nD) (i : grid0.Coords) (arg3 : Memref sig .tc .vmem S256x2048 .bf16) (harg3 : arg3.IsWhole) (arg4 : Memref sig .tc .vmem S16384x256 .bf16) (harg4 : arg4.IsWhole) (arg5 : Memref sig .tc .vmem S144x16384 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S144x2048 .f32) (harg14 : arg14.IsWhole)
    (x3 : FVec F S256x2048 .bf16) (x4 : FVec F S16384x256 .bf16) (x5 : FVec F S144x16384 .bf16) :
    (iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ f, held c arg7 f) ∗ (∃ f, held c arg8 f) ∗ (∃ f, held c arg9 f) ∗ (∃ f, held c arg10 f) ∗ (∃ f, held c arg11 f) ∗ (∃ f, held c arg12 f) ∗ (∃ f, held c arg13 f) ∗ (∃ f, held c arg14 f)) : sProp 𝕄)
      ⊢ wp frame (wpE defs₀ Variants.none (c : Thread nD τ) none) Set.univ (cc0_mla_attn (F := F) i arg3 harg3 arg4 harg4 arg5 harg5 arg6 harg6 arg7 harg7 arg8 harg8 arg9 harg9 arg10 harg10 arg11 harg11 arg12 harg12 arg13 harg13 arg14 harg14)
          (fun _ => (iprop(owns (c : Thread nD τ) arg3 fullShare x3 ∗ owns (c : Thread nD τ) arg4 fullShare x4 ∗ owns (c : Thread nD τ) arg5 fullShare x5
            ∗ owns (c : Thread nD τ) arg6 fullShare (outBlk x3 x4 x5) ∗ (∃ f, held c arg7 f) ∗ (∃ f, held c arg8 f) ∗ (∃ f, held c arg9 f) ∗ (∃ f, held c arg10 f) ∗ (∃ f, held c arg11 f) ∗ (∃ f, held c arg12 f) ∗ (∃ f, held c arg13 f) ∗ (∃ f, held c arg14 f)) : sProp 𝕄)) := by
  unfold owns
  rw [harg3.set_eq_univ, harg4.set_eq_univ, harg5.set_eq_univ, harg6.set_eq_univ]
  iintro ⟨⟨%f3, %h3, H3⟩, ⟨%f4, %h4, H4⟩, ⟨%f5, %h5, H5⟩, ⟨%d6, %f6, -, H6⟩, ⟨%f7, H7⟩, ⟨%f8, H8⟩, ⟨%f9, H9⟩, ⟨%f10, H10⟩, ⟨%f11, H11⟩, ⟨%f12, H12⟩, ⟨%f13, H13⟩, ⟨%f14, H14⟩⟩
  iapply (wp_wand_r frame (wpE defs₀ Variants.none (c : Thread nD τ) none) Set.univ)
  isplitl [H3 H4 H5 H6 H7 H8 H9 H10 H11 H12 H13 H14]
  · iapply (bodyRun c i arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14).2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %_ ⟨H3, H4, H5, H6, H7, H8, H9, H10, H11, H12, H13, H14⟩
  isplitl [H3]; · iexists _; isplitr; swap; · iexact H3
                  ipureintro; exact h3
  isplitl [H4]; · iexists _; isplitr; swap; · iexact H4
                  ipureintro; exact h4
  isplitl [H5]; · iexists _; isplitr; swap; · iexact H5
                  ipureintro; exact h5
  isplitl [H6]
  · iexists _; isplitr; swap; · iexact H6
    ipureintro
    refine (body_value c i arg3 harg3 arg4 harg4 arg5 harg5 arg6 harg6 arg7 harg7 arg8 harg8 arg9 harg9 arg10 harg10 arg11 harg11 arg12 harg12 arg13 harg13 arg14 harg14 f3 f4 f5 f6 f7 f8 f9 f10 f11 f12 f13 f14).trans ?_
    rw [h3, h4, h5]
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

variable (m : (ℓ : Loc nD τ sig) → Buf (Elt F) ℓ) (ρ : Dev nD → PrngReg)

/-- The block of results the kernel leaves at grid point `t`. -/
def outsAt (c : Dev nD) (t : Fin cfg0.N) : FVec F S2048x128 .bf16 := outBlk (iblk m c 0 t) (X0_1 m c t) (X0_2 m c t)

/-- The arrays at the launch, and what every buffer holds after the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d

/-- The body at every grid point takes the buffers from what they hold before it to what `dats` says they hold after it. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3]
  unfold outsAt Pipeline.ΦA
  rw [scopedRest0_eq]
  iintro ⟨⟨⟨S0, S1, S2, S3, S4, S5, S6, S7⟩, HR⟩, Ho, ⟨%d0, H0⟩, ⟨%d1, H1⟩, ⟨%d2, H2⟩, ⟨%d3, H3⟩⟩
  iapply (wp_wand_r frame (wpE defs₀ Variants.none (c : Thread nD τ) none) Set.univ)
  isplitl [H0 H1 H2 H3 S0 S1 S2 S3 S4 S5 S6 S7]
  · iapply (body_owns c (grid0.coords t) _ _ _ _ _ _ _ _ _ _ _ _ _ _ _ _ _ _ _ _ _ _ _ _ (iblk m c 0 t) (X0_1 m c t) (X0_2 m c t))
    isplitl [H0]; · iexact H0
    isplitl [H1]; · iexact H1
    isplitl [H2]; · iexact H2
    isplitl [H3]; · iexists _; iexact H3
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro %_ ⟨H0, H1, H2, H3, S0, S1, S2, S3, S4, S5, S6, S7⟩
  isplitl [S0 S1 S2 S3 S4 S5 S6 S7 HR]
  · isplitr [HR]; swap; · iexact HR
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Ho]; · iexact Ho
  isplitl [H0]; · iexact H0
  isplitl [H1]; · iexact H1
  isplitl [H2]; · iexact H2
  iexact H3

set_option backward.isDefEq.respectTransparency.types false in
/-- Every execution ends, with every array at what `dats` says, whatever the initial memory, and with every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.Proof.Latent
end
-- ==== Proof.Frames.lean ====
/- The frames: the kernel and the reference run to an end, leave their arguments as they were and every counter at zero. -/
module

public import proofs.«01_k».proof.Defs
public import proofs.«01_k».proof.Proof.Gen.Kernel
public import proofs.«01_k».proof.Proof.Gen.ReferenceIdeal.Run
public import proofs.«01_k».proof.Proof.Gen.Pre_finite
public import proofs.«01_k».proof.Proof.Run

@[expose] public section

set_option maxRecDepth 16384

noncomputable section

namespace Cert.Proof

open Idealize.ShloMosaic Idealize.SL Idealize.SL.Sem

/-- The kernel, over any numbers: it ends, its arguments unchanged and every counter at zero. -/
theorem frame_any {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4))
      ∧ r.2.sem = fun _ => 0) :=
  θ_run_with_sems (Cert.KernelIdeal.Gen.frame_of m ρ (Latent.dats m) fun _ _ => rfl) (Latent.run_main (F := F) m ρ)

/-- The kernel over the extended reals. -/
theorem frame_ideal : Cert.quiescent_KernelIdeal := fun m ρ _ => frame_any (F := Ideal) m ρ

/-- The two programs call the same body. -/
theorem defs₀_eq {F : FTy → Type} [FloatOps F] : (Kernel.defs₀ (F := F)) = KernelIdeal.defs₀ (F := F) := by
  refine congrArg Defs.onTc (funext fun l => funext fun a => ?_)
  match l, a with
  | ⟨0, _⟩, (t, s) => rfl

/-- The two programs' tables of bodies are equal. -/
theorem defs_eq {F : FTy → Type} [FloatOps F] : (Kernel.defs (F := F)) = KernelIdeal.defs (F := F) :=
  congrArg (Pipeline.defs Kernel.pcfgs) defs₀_eq

/-- The kernel over the words of its number formats: the same program. -/
theorem frame_kernel : Cert.quiescent_Kernel := fun m ρ _ => by
  rw [defs_eq]
  exact (θ_run Cert.KernelIdeal.defs _ _).mono (fun _ h => h) (frame_any (F := Bits) m ρ)

/-- The reference over the extended reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Softmax.lean ====
/- Sums of the extended reals with real weights, and the softmax weights of a family of scores. -/
module

public import Idealize.ShloMosaic.Lib.Pointwise

@[expose] public section

noncomputable section

namespace Cert.Proof

open Idealize.ShloMosaic

/-- A real factor which is not negative goes through a sum. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- The sum of reals, taken in the extended reals, is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The largest of finitely many reals, at least one, is a real. -/
theorem fold_max_real {ι : Type} (s : Finset ι) (f : ι → ℝ) (h : s.Nonempty) :
    ∃ x : ℝ, s.fold max ⊥ (fun i => (f i : EReal)) = (x : EReal) := by
  classical
  induction h using Finset.Nonempty.cons_induction with
  | singleton a => exact ⟨f a, by simp⟩
  | cons a s ha hs ih =>
    obtain ⟨x, hx⟩ := ih
    rw [Finset.fold_cons, hx]
    rcases max_choice (f a : EReal) (x : EReal) with h | h <;> rw [h] <;> exact ⟨_, rfl⟩

/-- A real by a real other than zero. -/
theorem div_coe_coe (a : ℝ) {y : ℝ} (hy : y ≠ 0) : Ideal.div (a : EReal) (y : EReal) = ((a / y : ℝ) : EReal) := by
  unfold Ideal.div
  rw [if_neg (by rw [← EReal.coe_zero, EReal.coe_eq_coe_iff]; exact hy), ← EReal.coe_inv, ← EReal.coe_mul, div_eq_mul_inv]
/-- A finite number by a real other than zero. -/
theorem div_real (a : EReal) (ha : a = (a.toReal : EReal)) {y : ℝ} (hy : y ≠ 0) : Ideal.div a (y : EReal) = ((a.toReal / y : ℝ) : EReal) := by
  rw [← div_coe_coe _ hy, ← ha]

/-- The softmax weight of the key `k` among the scores `S`. -/
def softW {ι : Type} [Fintype ι] (S : ι → ℝ) (k : ι) : ℝ := Real.exp (S k) / ∑ j, Real.exp (S j)

/-- The softmax weight is the same with every score shifted by `M`. -/
theorem softW_shift {ι : Type} [Fintype ι] (S : ι → ℝ) (M : ℝ) (k : ι) :
    Real.exp (S k - M) / ∑ j, Real.exp (S j - M) = softW S k := by
  unfold softW
  simp only [Real.exp_sub, ← Finset.sum_div]
  exact div_div_div_cancel_right₀ (Real.exp_ne_zero M) _ _

/-- The weights in powers of two are the softmax weights of the scores times the logarithm of two. -/
theorem softW_two {ι : Type} [Fintype ι] (s : ι → ℝ) (M : ℝ) (k : ι) :
    (2 : ℝ) ^ (s k - M) / ∑ j, (2 : ℝ) ^ (s j - M) = softW (fun j => s j * Real.log 2) k := by
  rw [← softW_shift _ (M * Real.log 2)]
  have h : ∀ j, (2 : ℝ) ^ (s j - M) = Real.exp (s j * Real.log 2 - M * Real.log 2) := fun j => by
    rw [Real.rpow_def_of_pos (by norm_num)]; congr 1; ring
  simp only [h]

/-- The quotient of a sum of weighted values by the positive sum of the weights. -/
theorem div_sum {ι : Type} [Fintype ι] [Nonempty ι] (V : ι → EReal) (w : ι → ℝ) (hw : ∀ i, 0 < w i) :
    Ideal.div (∑ i, V i * (w i : EReal)) (∑ i, 1 * (w i : EReal)) = ∑ i, V i * ((w i / ∑ j, w j : ℝ) : EReal) := by
  have hD : 0 < ∑ j, w j := Finset.sum_pos (fun i _ => hw i) Finset.univ_nonempty
  simp only [one_mul]
  rw [sum_coe]
  unfold Ideal.div
  rw [if_neg (by rw [← EReal.coe_zero, EReal.coe_eq_coe_iff]; exact hD.ne'), ← EReal.coe_inv,
    sum_mul_coe _ _ _ (inv_nonneg.2 hD.le)]
  refine Finset.sum_congr rfl fun i _ => ?_
  rw [mul_assoc, ← EReal.coe_mul, div_eq_mul_inv]

end Cert.Proof

end
-- ==== Proof.Block.lean ====
/- What one block of results is over the extended reals: for finite scores, the values weighted with the softmax of the scores. -/
module

public import Idealize.ShloMosaic.Lib.Pointwise
public import proofs.«01_k».proof.Proof.State
public import proofs.«01_k».proof.Proof.Softmax

@[expose] public section

set_option maxRecDepth 16384

noncomputable section

namespace Cert.Proof.Latent

open Cert.KernelIdeal Cert.KernelIdeal.Gen
open Idealize.ShloMosaic Idealize.ShloMosaic.TcCoe

/-- The word of minus infinity. -/
theorem ofBits_bot : Ideal.ofBits .f32 0xFF800000#32 = ⊥ := by
  simp [Ideal.ofBits, Ideal.ieee]
/-- The number the maxima start from is finite. -/
theorem ofBits_neg : ∃ x : ℝ, Ideal.ofBits .f32 0xF149F2CA#32 = (x : EReal) := by
  simp [Ideal.ofBits, Ideal.ieee]
  exact ⟨-(13234890 * 2 ^ 76), by push_cast; rfl⟩

/-- The new maximum of one query. -/
theorem pay3_apply (M : FVec Ideal S1x256 .f32) (S : FVec Ideal S512x256 .f32) (l : Fin 256) :
    k0_pay3 M S (ix2 0 l) = max (M (ix2 0 l)) (Finset.univ.fold max ⊥ fun k : Fin 512 => S (ix2 k l)) := by
  rw [← ofBits_bot]
  pointwise! [k0_pay3]

theorem smM_apply (S : FVec Ideal S512x2048 .f32) (M : FVec Ideal S1x2048 .f32) (r : Fin 2048) :
    smM S M (ix2 0 r) = max (M (ix2 0 r)) (Finset.univ.fold max ⊥ fun k : Fin 512 => S (ix2 k r)) := by
  obtain ⟨j, l, rfl⟩ := exists_lane r
  rw [smM, rowOf_lane, k0_pay6]
  pointwise
  rw [pay3_apply]
  rfl
theorem smA_apply (S : FVec Ideal S512x2048 .f32) (M : FVec Ideal S1x2048 .f32) (r : Fin 2048) :
    smA S M (ix2 0 r) = Ideal.exp2 (M (ix2 0 r) - smM S M (ix2 0 r)) := by
  obtain ⟨j, l, rfl⟩ := exists_lane r
  rw [smM_apply, smA, rowOf_lane, k0_pay4]
  pointwise
  rw [pay3_apply]
  rfl
theorem smP_apply (S : FVec Ideal S512x2048 .f32) (M : FVec Ideal S1x2048 .f32) (k : Fin 512) (r : Fin 2048) :
    smP S M (ix2 k r) = Ideal.exp2 (S (ix2 k r) - smM S M (ix2 0 r)) := by
  obtain ⟨j, l, rfl⟩ := exists_lane r
  rw [smM_apply, smP, tileOf_lane, k0_pay5]
  pointwise
  rw [pay3_apply]
  rfl

/-- The scores of a chunk. -/
theorem pay2_apply (q : FVec Ideal S256x2048 .bf16) (K : FVec Ideal S512x256 .bf16) (k : Fin 512) (r : Fin 2048) :
    k0_pay2 q K (ix2 k r) = ∑ d : Fin 256, K (ix2 k d) * q (ix2 d r) := by
  pointwise! [k0_pay2]
/-- The sums after a chunk. -/
theorem pay38_apply (A : FVec Ideal S144x2048 .f32) (f : FVec Ideal S1x2048 .f32) (V : FVec Ideal S144x512 .bf16) (P : FVec Ideal S512x2048 .bf16)
    (d : Fin 144) (r : Fin 2048) :
    k0_pay38 A f V P (ix2 d r) = A (ix2 d r) * f (ix2 0 r) + ∑ k : Fin 512, V (ix2 d k) * P (ix2 k r) := by
  pointwise! [k0_pay38]
/-- The quotient the body writes. -/
theorem out_apply (A : FVec Ideal S144x2048 .f32) (r : Fin 2048) (d : Fin 128) :
    k0_pay1 (F := Ideal) (k0_pay152 A) (ix2 r d) = Ideal.div (A (ix2 ⟨d.val, by omega⟩ r)) (A (ix2 128 r)) := by
  pointwise [k0_pay1, k0_pay152]
theorem pay76_apply (r : Fin 2048) : (k0_pay76 : FVec Ideal S1x2048 .f32) (ix2 0 r) = Ideal.ofBits .f32 0xF149F2CA#32 := by
  pointwise! [k0_pay76]
theorem pay77_apply (d : Fin 144) (r : Fin 2048) : (k0_pay77 : FVec Ideal S144x2048 .f32) (ix2 d r) = 0 := by
  pointwise! [k0_pay77]
theorem pay75_apply (Q : FVec Ideal S256x2048 .bf16) (d : Fin 256) (r : Fin 2048) : k0_pay75 Q (ix2 d r) = Q (ix2 d r) := by
  pointwise! [k0_pay75]

theorem slabK_apply (K : FVec Ideal S16384x256 .bf16) (c : ℕ) (k : Fin 512) (d : Fin 256) :
    slabK K c (ix2 k d) = K (ix2 ⟨(512 * c + k.val) % 16384, Nat.mod_lt _ (by decide)⟩ d) := rfl
theorem slabV_apply (V : FVec Ideal S144x16384 .bf16) (c : ℕ) (d : Fin 144) (k : Fin 512) :
    slabV V c (ix2 d k) = V (ix2 d ⟨(512 * c + k.val) % 16384, Nat.mod_lt _ (by decide)⟩) := rfl

section

variable (q : FVec Ideal S256x2048 .bf16) (K : FVec Ideal S16384x256 .bf16) (V : FVec Ideal S144x16384 .bf16)

/-- With finite scores every running maximum is finite. -/
theorem maxR_real (r : Fin 2048) (s : ℕ → Fin 512 → ℝ) (hs : ∀ n k, scores q K n (ix2 k r) = (s n k : EReal)) (n : ℕ) :
    ∃ x : ℝ, maxR q K n (ix2 0 r) = (x : EReal) := by
  induction n with
  | zero => rw [maxR, pay76_apply]; exact ofBits_neg
  | succ n ih =>
    obtain ⟨x, hx⟩ := ih
    obtain ⟨y, hy⟩ := fold_max_real Finset.univ (s n) Finset.univ_nonempty
    rw [maxR, smM_apply, hx]
    simp only [hs]
    rw [hy]
    rcases max_choice (x : EReal) (y : EReal) with h | h <;> rw [h] <;> exact ⟨_, rfl⟩

/-- The sums before chunk `n` are those of the values weighted with powers of two, shifted by the running maximum. -/
theorem acc_eq (r : Fin 2048) (s : ℕ → Fin 512 → ℝ) (hs : ∀ n k, scores q K n (ix2 k r) = (s n k : EReal))
    (M : ℕ → ℝ) (hM : ∀ n, maxR q K n (ix2 0 r) = (M n : EReal)) (d : Fin 144) (n : ℕ) :
    acc q K V n (ix2 d r) = ∑ c ∈ Finset.range n, ∑ k : Fin 512, slabV V c (ix2 d k) * (((2 : ℝ) ^ (s c k - M n) : ℝ) : EReal) := by
  induction n with
  | zero => rw [acc, pay77_apply]; rfl
  | succ n ih =>
    have hf : fac q K n (ix2 0 r) = (((2 : ℝ) ^ (M n - M (n + 1)) : ℝ) : EReal) := by
      rw [fac, smA_apply, ← maxR, hM, hM, ← EReal.coe_sub, Ideal.exp2_coe]; rfl
    have hw : ∀ k, wt q K n (ix2 k r) = (((2 : ℝ) ^ (s n k - M (n + 1)) : ℝ) : EReal) := fun k => by
      rw [wt, smP_apply, ← maxR, hs, hM, ← EReal.coe_sub, Ideal.exp2_coe]; rfl
    have h2 : ∀ x : ℝ, (0 : ℝ) ≤ (2 : ℝ) ^ x := fun x => Real.rpow_nonneg (by norm_num) x
    rw [acc, pay38_apply, ih, hf, sum_mul_coe _ _ _ (h2 _), Finset.sum_range_succ]
    congr 1
    · refine Finset.sum_congr rfl fun c _ => ?_
      rw [sum_mul_coe _ _ _ (h2 _)]
      refine Finset.sum_congr rfl fun k _ => ?_
      rw [mul_assoc, ← EReal.coe_mul, ← Real.rpow_add (by norm_num)]
      congr 3; ring
    · exact Finset.sum_congr rfl fun k _ => by rw [hw]

/-- The chunks together are all the keys. -/
theorem sum_chunks (f : Fin 16384 → EReal) :
    ∑ c ∈ Finset.range 32, ∑ k : Fin 512, f ⟨(512 * c + k.val) % 16384, Nat.mod_lt _ (by decide)⟩ = ∑ i, f i := by
  rw [Finset.sum_range, Fin.sum_univ_tiles 32 512 rfl f]
  refine Finset.sum_congr rfl fun c _ => Finset.sum_congr rfl fun k _ => congrArg f (Fin.ext ?_)
  show (512 * c.val + k.val) % 16384 = _
  have := c.isLt; have := k.isLt
  show _ = c.val * 512 + k.val
  omega

/-- One entry of the block of results: the values weighted with the softmax of the scores, which the keys and the query give in powers of two. -/
theorem outBlk_apply (a : Fin 256 → ℝ) (b : Fin 16384 → Fin 256 → ℝ) (r : Fin 2048) (d : Fin 128)
    (hq : ∀ e, q (ix2 e r) = (a e : EReal)) (hK : ∀ k e, K (ix2 k e) = (b k e : EReal)) (hV : ∀ k, V (ix2 128 k) = 1) :
    outBlk q K V (ix2 r d) = ∑ k, V (ix2 ⟨d.val, by omega⟩ k) * ((softW (fun k => (∑ e, b k e * a e) * Real.log 2) k : ℝ) : EReal) := by
  let s : Fin 16384 → ℝ := fun k => ∑ e, b k e * a e
  have hs : ∀ n k, scores (k0_pay75 q) K n (ix2 k r) = (s ⟨(512 * n + k.val) % 16384, Nat.mod_lt _ (by decide)⟩ : EReal) := fun n k => by
    rw [scores, pay2_apply, ← sum_coe]
    refine Finset.sum_congr rfl fun e _ => ?_
    rw [slabK_apply, pay75_apply, hq, hK, EReal.coe_mul]
  choose M hM using maxR_real (k0_pay75 q) K r (fun n k => s ⟨(512 * n + k.val) % 16384, Nat.mod_lt _ (by decide)⟩) hs
  have hacc : ∀ d' : Fin 144, acc (k0_pay75 q) K V 32 (ix2 d' r) = ∑ k, V (ix2 d' k) * (((2 : ℝ) ^ (s k - M 32) : ℝ) : EReal) := fun d' => by
    rw [acc_eq _ K V r (fun n k => s ⟨(512 * n + k.val) % 16384, Nat.mod_lt _ (by decide)⟩) hs M hM d' 32]
    simp only [slabV_apply]
    exact sum_chunks fun k => V (ix2 d' k) * (((2 : ℝ) ^ (s k - M 32) : ℝ) : EReal)
  rw [outBlk, out_apply, hacc, hacc]
  simp only [hV]
  rw [div_sum _ _ fun k => Real.rpow_pos_of_pos (by norm_num) _]
  refine Finset.sum_congr rfl fun k _ => ?_
  rw [softW_two]

end

end Cert.Proof.Latent

end
-- ==== Proof.Spec.lean ====
/- The attention written with real scores: what both programs are shown to compute. -/
module

public import Idealize.ShloMosaic.Lib.Pointwise
public import proofs.«01_k».proof.Proof.Softmax

@[expose] public section

set_option maxRecDepth 16384

noncomputable section

namespace Cert.Proof

open Idealize.ShloMosaic

/-- The key `k` of the sequence that the query `row` belongs to, among all tokens. -/
def tok (row : Fin 32768) (k : Fin 16384) : Fin 40960 := ⟨row.val / 16384 * 16384 + k.val, by omega⟩
/-- The query `row` among all tokens. -/
def tokQ (row : Fin 32768) : Fin 40960 := ⟨row.val, by omega⟩

section

variable (A0 : Shape.Idx ⟨3, ![40960, 16, 128]⟩ → EReal) (A1 : Shape.Idx ⟨3, ![40960, 16, 64]⟩ → EReal)
  (A2 : Shape.Idx ⟨3, ![40960, 16, 128]⟩ → EReal) (A3 : Shape.Idx ⟨2, ![40960, 64]⟩ → EReal)
  (A4 : Shape.Idx ⟨3, ![40960, 16, 128]⟩ → EReal)

/-- The score of the key `k` for the query `t` in head `h`: their products over the two parts, by the square root of `192`. -/
def score (t k : Fin 40960) (h : Fin 16) : ℝ :=
  ((∑ d : Fin 128, (A0 (ix3 t h d)).toReal * (A2 (ix3 k h d)).toReal) + ∑ d : Fin 64, (A3 (ix2 k d)).toReal * (A1 (ix3 t h d)).toReal) / Real.sqrt 192

/-- The attention's result: the values of the query's sequence weighted with the softmax of its scores. -/
def attn (row : Fin 32768) (h : Fin 16) (d : Fin 128) : EReal :=
  ∑ k, A4 (ix3 (tok row k) h d) * ((softW (fun k => score A0 A1 A2 A3 (tokQ row) (tok row k) h) k : ℝ) : EReal)

/-- The query the kernel takes: both parts by the square root of `192` and the logarithm of two, then zeros. -/
def qv (t : Fin 40960) (h : Fin 16) (e : Fin 256) : ℝ :=
  if h1 : e.val < 192 then
    (if h2 : e.val < 128 then (A0 (ix3 t h ⟨e.val, h2⟩)).toReal else (A1 (ix3 t h ⟨e.val - 128, by omega⟩)).toReal) / (Real.sqrt 192 * Real.log 2)
  else 0
/-- The key the kernel takes: both parts, then zeros. -/
def kv (t : Fin 40960) (h : Fin 16) (e : Fin 256) : ℝ :=
  if h1 : e.val < 128 then (A2 (ix3 t h ⟨e.val, h1⟩)).toReal else if h2 : e.val - 128 < 64 then (A3 (ix2 t ⟨e.val - 128, h2⟩)).toReal else 0

/-- Their product, times the logarithm of two, is the score. -/
theorem sum_kv_qv (t k : Fin 40960) (h : Fin 16) :
    (∑ e, kv A2 A3 k h e * qv A0 A1 t h e) * Real.log 2 = score A0 A1 A2 A3 t k h := by
  have hl : Real.log 2 ≠ 0 := (Real.log_pos (by norm_num)).ne'
  have hs : Real.sqrt 192 ≠ 0 := (Real.sqrt_pos.2 (by norm_num)).ne'
  have e1 : (∑ e, kv A2 A3 k h e * qv A0 A1 t h e)
      = (∑ e : Fin 192, kv A2 A3 k h ⟨e.val, by omega⟩ * qv A0 A1 t h ⟨e.val, by omega⟩)
        + ∑ e : Fin 64, kv A2 A3 k h ⟨192 + e.val, by omega⟩ * qv A0 A1 t h ⟨192 + e.val, by omega⟩ :=
    Fin.sum_univ_add (a := 192) (b := 64) fun e => kv A2 A3 k h e * qv A0 A1 t h e
  have e2 : (∑ e : Fin 192, kv A2 A3 k h ⟨e.val, by omega⟩ * qv A0 A1 t h ⟨e.val, by omega⟩)
      = (∑ e : Fin 128, kv A2 A3 k h ⟨e.val, by omega⟩ * qv A0 A1 t h ⟨e.val, by omega⟩)
        + ∑ e : Fin 64, kv A2 A3 k h ⟨128 + e.val, by omega⟩ * qv A0 A1 t h ⟨128 + e.val, by omega⟩ :=
    Fin.sum_univ_add (a := 128) (b := 64) fun e : Fin 192 => kv A2 A3 k h ⟨e.val, by omega⟩ * qv A0 A1 t h ⟨e.val, by omega⟩
  have z : ∑ e : Fin 64, kv A2 A3 k h ⟨192 + e.val, by omega⟩ * qv A0 A1 t h ⟨192 + e.val, by omega⟩ = 0 :=
    Finset.sum_eq_zero fun e _ => by unfold qv; rw [dif_neg (by simp), mul_zero]
  have p : ∀ e : Fin 128, kv A2 A3 k h ⟨e.val, by omega⟩ * qv A0 A1 t h ⟨e.val, by omega⟩
      = (A0 (ix3 t h e)).toReal * (A2 (ix3 k h e)).toReal / (Real.sqrt 192 * Real.log 2) := fun e => by
    have := e.isLt
    unfold kv qv
    rw [dif_pos (by simp), dif_pos (by simp; omega), dif_pos (by simp)]
    ring
  have r : ∀ e : Fin 64, kv A2 A3 k h ⟨128 + e.val, by omega⟩ * qv A0 A1 t h ⟨128 + e.val, by omega⟩
      = (A3 (ix2 k e)).toReal * (A1 (ix3 t h e)).toReal / (Real.sqrt 192 * Real.log 2) := fun e => by
    have := e.isLt
    have he : ∀ hh, (⟨128 + e.val - 128, hh⟩ : Fin 64) = e := fun hh => Fin.ext (by simp)
    unfold kv qv
    rw [dif_neg (by simp), dif_pos (by simp), dif_pos (by simp; omega), dif_neg (by simp)]
    simp only [he]
    ring
  rw [e1, e2, z, add_zero]
  simp only [p, r]
  rw [← Finset.sum_div, ← Finset.sum_div, score]
  field_simp

end

end Cert.Proof

end
-- ==== Proof.Host.lean ====
/- What the kernel's operands hold: the arrays the host lays out for it, read at an index. -/
module

public import Idealize.ShloMosaic.Lib.Claim
public import Idealize.ShloMosaic.Lib.Pointwise
public import Idealize.ShloMosaic.Lib.StableHlo.ReadAt
public import Idealize.ShloMosaic.Lib.StableHlo.RunRead
public import proofs.«01_k».proof.Proof.Run
public import proofs.«01_k».proof.Proof.Spec

@[expose] public section

set_option maxRecDepth 16384

noncomputable section

namespace Cert.Proof.Latent

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The arguments, as arrays of extended reals. -/
abbrev B0 : FVec Ideal S40960x16x128 .f32 := m ((c : Thread nD τ).loc main_arg0)
abbrev B1 : FVec Ideal S40960x16x64 .f32 := m ((c : Thread nD τ).loc main_arg1)
abbrev B2 : FVec Ideal S40960x16x128 .f32 := m ((c : Thread nD τ).loc main_arg2)
abbrev B3 : FVec Ideal S40960x64 .f32 := m ((c : Thread nD τ).loc main_arg3)
abbrev B4 : FVec Ideal S40960x16x128 .f32 := m ((c : Thread nD τ).loc main_arg4)

/-- The divisor of the queries. -/
theorem scale_eq : Ideal.sqrt (Ideal.ofBits FTy.f32 1128267776#32) * Ideal.log (Ideal.ofBits FTy.f32 1073741824#32)
    = ((Real.sqrt 192 * Real.log 2 : ℝ) : EReal) := by
  have h1 : Ideal.ofBits FTy.f32 1128267776#32 = ((192 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  rw [h1, h2, Ideal.sqrt_coe, Ideal.log_coe, EReal.coe_mul]
  rw [if_neg (by norm_num), if_neg (by norm_num)]

/-- The queries the kernel takes. -/
theorem V_q (h0 : ∀ i, B0 m c i = ((B0 m c i).toReal : EReal)) (h1 : ∀ i, B1 m c i = ((B1 m c i).toReal : EReal))
    (x : Fin 4096) (t : Fin 40960) (h : Fin 16) (e : Fin 256) (hx : x.val = 256 * h.val + e.val) :
    (V m c main_v10 : FVec Ideal S4096x40960 .bf16) (ix2 x t) = (qv (B0 m c) (B1 m c) t h e : EReal) := by
  have ha : x.val / 256 = h.val := by omega
  have hb : x.val % 256 = e.val := by omega
  unfold V
  after_reads_at
  after_reads_at
  rw [scale_eq]
  simp only [ha, hb]
  have hd : Real.sqrt 192 * Real.log 2 ≠ 0 := mul_ne_zero (Real.sqrt_pos.2 (by norm_num)).ne' (Real.log_pos (by norm_num)).ne'
  unfold qv
  by_cases c1 : e.val < 192
  · simp only [dif_pos c1]
    by_cases c2 : e.val < 128
    · simp only [dif_pos c2]
      after_reads_at
      exact div_real _ (h0 _) hd
    · simp only [dif_neg c2]
      after_reads_at
      exact div_real _ (h1 _) hd
  · simp only [dif_neg c1]
    rfl
/-- The keys the kernel takes. -/
theorem V_k (h2 : ∀ i, B2 m c i = ((B2 m c i).toReal : EReal)) (h3 : ∀ i, B3 m c i = ((B3 m c i).toReal : EReal))
    (x : Fin 4096) (t : Fin 40960) (h : Fin 16) (e : Fin 256) (hx : x.val = 256 * h.val + e.val) :
    (V m c main_v16 : FVec Ideal S40960x4096 .bf16) (ix2 t x) = (kv (B2 m c) (B3 m c) t h e : EReal) := by
  have ha : x.val / 256 = h.val := by omega
  have hb : x.val % 256 = e.val := by omega
  unfold V
  after_reads_at
  after_reads_at
  simp only [ha, hb]
  unfold kv
  by_cases c1 : e.val < 128
  · rw [dif_pos c1, dif_pos c1, ← h2]
  · rw [dif_neg c1, dif_neg c1]
    by_cases c2 : e.val - 128 < 64
    · rw [dif_pos c2, dif_pos c2, ← h3]
    · rw [dif_neg c2, dif_neg c2]
      rfl
/-- The values the kernel takes. -/
theorem V_v (x : Fin 2304) (t : Fin 40960) (h : Fin 16) (d : Fin 128) (hx : x.val = 144 * h.val + d.val) :
    (V m c main_v22 : FVec Ideal S2304x40960 .bf16) (ix2 x t) = B4 m c (ix3 t h d) := by
  have ha : x.val / 144 = h.val := by omega
  have hb : x.val % 144 = d.val := by omega
  unfold V
  after_reads_at
  after_reads_at
  simp only [ha, hb]
  rw [dif_pos d.isLt]
/-- The row of ones after a head's values. -/
theorem V_one (x : Fin 2304) (t : Fin 40960) (h : Fin 16) (hx : x.val = 144 * h.val + 128) :
    (V m c main_v22 : FVec Ideal S2304x40960 .bf16) (ix2 x t) = (1 : EReal) := by
  have ha : x.val / 144 = h.val := by omega
  have hb : x.val % 144 = 128 := by omega
  unfold V
  after_reads_at
  after_reads_at
  simp only [ha, hb]
  rfl

end Cert.Proof.Latent

end
-- ==== Proof.Array.lean ====
/- The whole array of results: at every index the attention. -/
module

public import Idealize.ShloMosaic.Lib.Pipeline.ValueKit
public import proofs.«01_k».proof.Proof.Block
public import proofs.«01_k».proof.Proof.Host

@[expose] public section

set_option maxRecDepth 16384

noncomputable section

namespace Cert.Proof.Latent

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-- The attention of the launched arguments, laid out as the kernel's result. -/
def attnArr : FVec Ideal S32768x2048 .bf16 := fun j =>
  attn (B0 m c) (B1 m c) (B2 m c) (B3 m c) (B4 m c) (j 0) ⟨(j 1).val / 128, by have h : (j 1).val < 2048 := (j 1).isLt; omega⟩
    ⟨(j 1).val % 128, Nat.mod_lt _ (by decide)⟩

/-- Which blocks the grid point `t` takes and writes. -/
theorem index0 : ∀ t : Fin cfg0.N, win0_0.index t = ![t.val / 8 % 16, t.val / 128 * 8 + t.val % 8] :=
  (by decide +kernel : ∀ t : Fin grid0.N, _)
theorem index1 : ∀ t : Fin cfg0.N, win0_1.index t = ![t.val / 128, t.val / 8 % 16] :=
  (by decide +kernel : ∀ t : Fin grid0.N, _)
theorem index2 : ∀ t : Fin cfg0.N, win0_2.index t = ![t.val / 8 % 16, t.val / 128] :=
  (by decide +kernel : ∀ t : Fin grid0.N, _)
theorem index3 : ∀ t : Fin cfg0.N, win0_3.index t = ![t.val / 128 * 8 + t.val % 8, t.val / 8 % 16] :=
  (by decide +kernel : ∀ t : Fin grid0.N, _)

/-- The blocks of queries, keys and values at a grid point, read at an index. -/
theorem blk_q (t : Fin cfg0.N) (e : Fin 256) (r : Fin 2048) (x : Fin 4096) (y : Fin 40960)
    (hx : x.val = 256 * (t.val / 8 % 16) + e.val) (hy : y.val = (t.val / 128 * 8 + t.val % 8) * 2048 + r.val) :
    (iblk m c 0 t : FVec Ideal S256x2048 .bf16) (ix2 e r) = (V m c main_v10 : FVec Ideal S4096x40960 .bf16) (ix2 x y) := by
  unfold iblk
  refine congrArg (V m c main_v10 : FVec Ideal S4096x40960 .bf16) ?_
  funext a
  apply Fin.ext
  match a with
  | ⟨0, _⟩ => blk_simp [index0]; omega
  | ⟨1, _⟩ => blk_simp [index0]; omega
theorem blk_k (t : Fin cfg0.N) (k : Fin 16384) (e : Fin 256) (x : Fin 4096) (y : Fin 40960)
    (hx : x.val = 256 * (t.val / 8 % 16) + e.val) (hy : y.val = t.val / 128 * 16384 + k.val) :
    (X0_1 m c t : FVec Ideal S16384x256 .bf16) (ix2 k e) = (V m c main_v16 : FVec Ideal S40960x4096 .bf16) (ix2 y x) := by
  unfold X0_1 Pipeline.Window.fill
  rw [dif_pos (moved0_1 t _)]
  unfold iblk
  refine congrArg (V m c main_v16 : FVec Ideal S40960x4096 .bf16) ?_
  funext a
  apply Fin.ext
  match a with
  | ⟨0, _⟩ => blk_simp [index1]; dsimp only; omega
  | ⟨1, _⟩ => blk_simp [index1]; dsimp only; omega
theorem blk_v (t : Fin cfg0.N) (d : Fin 144) (k : Fin 16384) (x : Fin 2304) (y : Fin 40960)
    (hx : x.val = 144 * (t.val / 8 % 16) + d.val) (hy : y.val = t.val / 128 * 16384 + k.val) :
    (X0_2 m c t : FVec Ideal S144x16384 .bf16) (ix2 d k) = (V m c main_v22 : FVec Ideal S2304x40960 .bf16) (ix2 x y) := by
  unfold X0_2 Pipeline.Window.fill
  rw [dif_pos (moved0_2 t _)]
  unfold iblk
  refine congrArg (V m c main_v22 : FVec Ideal S2304x40960 .bf16) ?_
  funext a
  apply Fin.ext
  match a with
  | ⟨0, _⟩ => blk_simp [index2]; dsimp only; omega
  | ⟨1, _⟩ => blk_simp [index2]; dsimp only; omega

/-- With finite queries and keys the block of results at a grid point is the attention of its head and its queries. -/
theorem outsAt_apply (h0 : ∀ i, B0 m c i = ((B0 m c i).toReal : EReal)) (h1 : ∀ i, B1 m c i = ((B1 m c i).toReal : EReal))
    (h2 : ∀ i, B2 m c i = ((B2 m c i).toReal : EReal)) (h3 : ∀ i, B3 m c i = ((B3 m c i).toReal : EReal))
    (t : Fin cfg0.N) (r : Fin 2048) (d : Fin 128) (row : Fin 32768) (h : Fin 16) (hh : h.val = t.val / 8 % 16)
    (hrow : row.val = (t.val / 128 * 8 + t.val % 8) * 2048 + r.val) :
    outsAt m c t (ix2 r d) = attn (B0 m c) (B1 m c) (B2 m c) (B3 m c) (B4 m c) row h d := by
  have hb : row.val / 16384 = t.val / 128 := by omega
  have hk : ∀ k : Fin 16384, (tok row k).val = t.val / 128 * 16384 + k.val := fun k => by rw [← hb]; rfl
  unfold outsAt
  rw [outBlk_apply _ _ _ (qv (B0 m c) (B1 m c) (tokQ row) h) (fun k => kv (B2 m c) (B3 m c) (tok row k) h) r d
    (fun e => (blk_q m c t e r ⟨256 * h.val + e.val, by omega⟩ (tokQ row) (by rw [← hh]) hrow).trans
      (V_q m c h0 h1 _ _ h e rfl))
    (fun k e => (blk_k m c t k e ⟨256 * h.val + e.val, by omega⟩ (tok row k) (by rw [← hh]) (hk k)).trans
      (V_k m c h2 h3 _ _ h e rfl))
    (fun k => (blk_v m c t 128 k ⟨144 * h.val + 128, by omega⟩ (tok row k) (by rw [← hh]; rfl) (hk k)).trans
      (V_one m c _ _ h rfl))]
  unfold attn
  simp only [sum_kv_qv]
  refine Finset.sum_congr rfl fun k _ => congrArg (· * _) ?_
  exact (blk_v m c t ⟨d.val, by omega⟩ k ⟨144 * h.val + d.val, by omega⟩ (tok row k) (by rw [← hh]) (hk k)).trans
    (V_v m c _ _ h d rfl)

/-- At the end the array of results is the attention. -/
theorem final_o (h0 : ∀ i, B0 m c i = ((B0 m c i).toReal : EReal)) (h1 : ∀ i, B1 m c i = ((B1 m c i).toReal : EReal))
    (h2 : ∀ i, B2 m c i = ((B2 m c i).toReal : EReal)) (h3 : ∀ i, B3 m c i = ((B3 m c i).toReal : EReal)) :
    (dats m 0 c).arrAt 3 cfg0.N = attnArr m c := by
  refine (dats m 0 c).arrAt_eq_of_covers 3 _ (by decide +kernel) fun t hf y => ?_
  blk_simp
  rw [after0_3]
  have e0 : ((win0_3.blk t).view.emb y 0).val = (t.val / 128 * 8 + t.val % 8) * 2048 + (y 0).val := by blk_simp [index3]
  have e1 : ((win0_3.blk t).view.emb y 1).val = t.val / 8 % 16 * 128 + (y 1).val := by blk_simp [index3]
  have y1 : (y 1).val < 128 := (y 1).isLt
  have ht : t.val < 256 := t.isLt
  refine (congrArg (outsAt m c t) (eq_ix2 (y : S2048x128.Idx))).trans ?_
  rw [outsAt_apply m c h0 h1 h2 h3 t (y 0) (y 1) ((win0_3.blk t).view.emb y 0) ⟨t.val / 8 % 16, Nat.mod_lt _ (by decide)⟩ rfl e0]
  unfold attnArr
  congr 1
  · exact Fin.ext (by show _ = ((win0_3.blk t).view.emb y 1).val / 128; rw [e1]; show t.val / 8 % 16 = _; omega)
  · exact Fin.ext (by show _ = ((win0_3.blk t).view.emb y 1).val % 128; rw [e1]; omega)

end Cert.Proof.Latent

end
-- ==== Proof.Ref.lean ====
/- What the reference computes, read at an index: the attention. -/
module

public import Idealize.ShloMosaic.Lib.Pointwise
public import proofs.«01_k».proof.Proof.Gen.ReferenceIdeal.Read
public import proofs.«01_k».proof.Proof.Spec

@[expose] public section

set_option maxRecDepth 16384

noncomputable section

namespace Cert.Proof.Reference

open Cert.ReferenceIdeal Cert.ReferenceIdeal.Gen Cert.ReferenceIdeal.Read
open Idealize.ShloMosaic Idealize.ShloMosaic.TcCoe Idealize.SL.Sem

variable (x0 : FVec Ideal S40960x16x128 .f32) (x1 : FVec Ideal S40960x16x64 .f32) (x2 : FVec Ideal S40960x16x128 .f32)
  (x3 : FVec Ideal S40960x64 .f32) (x4 : FVec Ideal S40960x16x128 .f32)

/-- The query `q` of the sequence `b`. -/
def rowOf (b : Fin 2) (q : Fin 16384) : Fin 32768 := ⟨b.val * 16384 + q.val, by omega⟩

theorem v1_apply (b : Fin 2) (q : Fin 16384) (h : Fin 16) (d : Fin 128) :
    val_main_v1 (F := Ideal) x0 (ix4 b q h d) = x0 (ix3 (tokQ (rowOf b q)) h d) := by
  pointwise [val_main_v1, val_main_v0]
  rfl
theorem v3_apply (b : Fin 2) (q : Fin 16384) (h : Fin 16) (d : Fin 64) :
    val_main_v3 (F := Ideal) x1 (ix4 b q h d) = x1 (ix3 (tokQ (rowOf b q)) h d) := by
  pointwise [val_main_v3, val_main_v2]
  rfl
theorem v5_apply (b : Fin 2) (q : Fin 16384) (h : Fin 16) (d : Fin 128) :
    val_main_v5 (F := Ideal) x2 (ix4 b q h d) = x2 (ix3 (tokQ (rowOf b q)) h d) := by
  pointwise [val_main_v5, val_main_v4]
  rfl
theorem v7_apply (b : Fin 2) (q : Fin 16384) (d : Fin 64) :
    val_main_v7 (F := Ideal) x3 (ix3 b q d) = x3 (ix2 (tokQ (rowOf b q)) d) := by
  pointwise [val_main_v7, val_main_v6]
  rfl
theorem v9_apply (b : Fin 2) (q : Fin 16384) (h : Fin 16) (d : Fin 128) :
    val_main_v9 (F := Ideal) x4 (ix4 b q h d) = x4 (ix3 (tokQ (rowOf b q)) h d) := by
  pointwise [val_main_v9, val_main_v8]
  rfl

/-- The two products. -/
theorem v10_apply (b : Fin 2) (h : Fin 16) (q k : Fin 16384) :
    val_main_v10 (F := Ideal) x0 x2 (ix4 b h q k) = ∑ d : Fin 128, x0 (ix3 (tokQ (rowOf b q)) h d) * x2 (ix3 (tokQ (rowOf b k)) h d) := by
  rw [val_main_v10_apply]
  refine Finset.sum_congr rfl fun d _ => ?_
  rw [← v1_apply x0, ← v5_apply x2]
  congr 2 <;> · funext a; fin_cases a <;> rfl
theorem v12_apply (b : Fin 2) (h : Fin 16) (q k : Fin 16384) :
    val_main_v12 (F := Ideal) x1 x3 (ix4 b h q k) = ∑ d : Fin 64, x3 (ix2 (tokQ (rowOf b k)) d) * x1 (ix3 (tokQ (rowOf b q)) h d) := by
  rw [val_main_v12_apply, val_main_v11_apply]
  refine Finset.sum_congr rfl fun d _ => ?_
  rw [← v3_apply x1, ← v7_apply x3 b k d]
  congr 2 <;> · funext a; fin_cases a <;> rfl

/-- A key of the query's sequence. -/
theorem tok_rowOf (b : Fin 2) (q k : Fin 16384) : tok (rowOf b q) k = tokQ (rowOf b k) :=
  Fin.ext (by show (b.val * 16384 + q.val) / 16384 * 16384 + k.val = b.val * 16384 + k.val; omega)

section

variable (h0 : ∀ i, x0 i = ((x0 i).toReal : EReal)) (h1 : ∀ i, x1 i = ((x1 i).toReal : EReal))
  (h2 : ∀ i, x2 i = ((x2 i).toReal : EReal)) (h3 : ∀ i, x3 i = ((x3 i).toReal : EReal))

include h0 h1 h2 h3

/-- The scores. -/
theorem v16_apply (b : Fin 2) (h : Fin 16) (q k : Fin 16384) :
    val_main_v16 (F := Ideal) x0 x1 x2 x3 (ix4 b h q k) = (score x0 x1 x2 x3 (tokQ (rowOf b q)) (tok (rowOf b q) k) h : EReal) := by
  have hc : val_main_v15 (F := Ideal) (ix4 b h q k) = ((Real.sqrt 192 : ℝ) : EReal) := by
    pointwise [val_main_v15, val_main_v14, val_main_cst]
    have e : Ideal.ofBits FTy.f32 1128267776#32 = ((192 : ℝ) : EReal) := by
      simp [Ideal.ofBits, Ideal.ieee, -EReal.coe_mul]; norm_num
    rw [e, Ideal.sqrt_coe, if_neg (by norm_num)]
  have hn : val_main_v13 (F := Ideal) x0 x1 x2 x3 (ix4 b h q k)
      = (((∑ d : Fin 128, (x0 (ix3 (tokQ (rowOf b q)) h d)).toReal * (x2 (ix3 (tokQ (rowOf b k)) h d)).toReal)
        + ∑ d : Fin 64, (x3 (ix2 (tokQ (rowOf b k)) d)).toReal * (x1 (ix3 (tokQ (rowOf b q)) h d)).toReal : ℝ) : EReal) := by
    rw [val_main_v13_apply, v10_apply, v12_apply, EReal.coe_add, ← sum_coe, ← sum_coe]
    simp only [EReal.coe_mul, ← h0, ← h1, ← h2, ← h3]
    rfl
  have hs : Real.sqrt 192 ≠ 0 := (Real.sqrt_pos.2 (by norm_num)).ne'
  rw [val_main_v16_apply, hc, hn, tok_rowOf]
  exact div_coe_coe _ hs

/-- The largest score of a query is finite. -/
theorem v17_real (b : Fin 2) (h : Fin 16) (q : Fin 16384) :
    ∃ M : ℝ, val_main_v17 (F := Ideal) x0 x1 x2 x3 (ix3 b h q) = (M : EReal) := by
  pointwise [val_main_v17]
  simp only [v16_apply x0 x1 x2 x3 h0 h1 h2 h3]
  have e : val_main_cst_0 (F := Ideal) (Shape.Idx.first h_S_) = (⊥ : EReal) := by
    rw [val_main_cst_0_apply]
    show Ideal.ofBits .f32 0xFF800000#32 = ⊥
    simp [Ideal.ofBits, Ideal.ieee]
  rw [e]
  exact fold_max_real _ _ Finset.univ_nonempty

/-- The softmax weights. -/
theorem v25_apply (b : Fin 2) (h : Fin 16) (q k : Fin 16384) :
    val_main_v25 (F := Ideal) x0 x1 x2 x3 (ix4 b h q k)
      = (softW (fun k => score x0 x1 x2 x3 (tokQ (rowOf b q)) (tok (rowOf b q) k) h) k : EReal) := by
  obtain ⟨M, hM⟩ := v17_real x0 x1 x2 x3 h0 h1 h2 h3 b h q
  have h21 : ∀ k, val_main_v21 (F := Ideal) x0 x1 x2 x3 (ix4 b h q k)
      = ((Real.exp (score x0 x1 x2 x3 (tokQ (rowOf b q)) (tok (rowOf b q) k) h - M) : ℝ) : EReal) := fun k => by
    have h19 : val_main_v19 (F := Ideal) x0 x1 x2 x3 (ix4 b h q k) = (M : EReal) := by
      rw [← hM, val_main_v19_apply, val_main_v18_apply]
      refine congrArg (val_main_v17 (F := Ideal) x0 x1 x2 x3) ?_
      funext a; fin_cases a <;> rfl
    rw [val_main_v21_apply, val_main_v20_apply, h19, v16_apply x0 x1 x2 x3 h0 h1 h2 h3, Ideal.subf_def, ← EReal.coe_sub]
    rw [Ideal.hostUnary_exp_def, Ideal.exp_coe]
  have h24 : val_main_v24 (F := Ideal) x0 x1 x2 x3 (ix4 b h q k)
      = ((∑ j, Real.exp (score x0 x1 x2 x3 (tokQ (rowOf b q)) (tok (rowOf b q) j) h - M) : ℝ) : EReal) := by
    rw [val_main_v24_apply, val_main_v23_apply, val_main_v22_apply, ← sum_coe]
    simp only [← h21]
    have e : val_main_cst_1 (F := Ideal) (Shape.Idx.first h_S_) = (0 : EReal) := by
      rw [val_main_cst_1_apply]
      show Ideal.ofBits .f32 0#32 = 0
      simp [Ideal.ofBits, Ideal.ieee]
    rw [e, zero_add]
    refine Finset.sum_congr rfl fun j _ => congrArg (val_main_v21 (F := Ideal) x0 x1 x2 x3) ?_
    funext a; fin_cases a <;> rfl
  have hp : (∑ j, Real.exp (score x0 x1 x2 x3 (tokQ (rowOf b q)) (tok (rowOf b q) j) h - M) : ℝ) ≠ 0 :=
    (Finset.sum_pos (fun j _ => Real.exp_pos _) Finset.univ_nonempty).ne'
  rw [val_main_v25_apply, h21, h24, ← softW_shift _ M]
  exact div_coe_coe _ hp

/-- The weighted values. -/
theorem v26_apply (b : Fin 2) (h : Fin 16) (d : Fin 128) (q : Fin 16384) :
    val_main_v26 (F := Ideal) x0 x1 x2 x3 x4 (ix4 b h d q) = attn x0 x1 x2 x3 x4 (rowOf b q) h d := by
  rw [val_main_v26_apply]
  unfold attn
  refine Finset.sum_congr rfl fun k _ => ?_
  rw [← v25_apply x0 x1 x2 x3 h0 h1 h2 h3, tok_rowOf, ← v9_apply x4]
  congr 2 <;> · funext a; fin_cases a <;> rfl

/-- The result. -/
theorem v30_apply (row : Fin 32768) (j : Fin 2048) :
    val_main_v30 (F := Ideal) x0 x1 x2 x3 x4 (ix2 row j)
      = attn x0 x1 x2 x3 x4 row ⟨j.val / 128, by omega⟩ ⟨j.val % 128, Nat.mod_lt _ (by decide)⟩ := by
  pointwise [val_main_v30, val_main_v29, val_main_v28, val_main_v27]
  rw [v26_apply x0 x1 x2 x3 x4 h0 h1 h2 h3]
  congr 1
  exact Fin.ext (by show row.val / 16384 * 16384 + row.val % 16384 = row.val; omega)

end

end Cert.Proof.Reference

end
-- ==== Proof.Finite.lean ====
/- What the precondition says: every query and key is a finite number. -/
module

public import Idealize.ShloMosaic.Lib.ReduceAll
public import Idealize.ShloMosaic.Lib.Pointwise
public import proofs.«01_k».proof.Defs
public import proofs.«01_k».proof.Proof.Gen.Pre_finite

@[expose] public section

set_option maxRecDepth 16384

noncomputable section

namespace Cert.Proof

open Idealize.ShloMosaic Cert.Pre_finite

/-- An extended real whose magnitude is below infinity is a real. -/
theorem real_of_abs_lt (x : Ideal .f32)
    (h : FloatOps.cmpf .olt (FloatOps.hostAbsf x) (FloatOps.ofBits (F := Ideal) .f32 0x7F800000#32) = 1#1) : x = ((x : EReal).toReal : EReal) := by
  have ht : FloatOps.ofBits (F := Ideal) .f32 0x7F800000#32 = (⊤ : EReal) := by
    show Ideal.ofBits .f32 0x7F800000#32 = ⊤
    simp [Ideal.ofBits, Ideal.ieee]
  rw [ht] at h
  have hx : max (x : EReal) (-(x : EReal)) < ⊤ := by
    by_contra hn
    have e : FloatOps.cmpf .olt (FloatOps.hostAbsf x) (⊤ : EReal) = (BitVec.ofBool (decide (max (x : EReal) (-(x : EReal)) < ⊤))) := rfl
    rw [e, decide_eq_false hn] at h
    exact absurd h (by decide)
  rw [max_lt_iff] at hx
  refine (EReal.coe_toReal hx.1.ne fun hb => ?_).symm
  rw [hb] at hx
  exact absurd hx.2 (by simp)

/-- A scalar array has one index. -/
instance : Subsingleton (Shape.Idx S_) := ⟨fun a b => funext fun i => i.elim0⟩

/-- Under the precondition every entry of the queries and of the keys is a real. -/
theorem finite_args (x0 : FVec Ideal S40960x16x128 .f32) (x1 : FVec Ideal S40960x16x64 .f32) (x2 : FVec Ideal S40960x16x128 .f32)
    (x3 : FVec Ideal S40960x64 .f32) (x4 : FVec Ideal S40960x16x128 .f32) (h : Pre_finite.fn (F := Ideal) x0 x1 x2 x3 x4 = fun _ => 1#1) :
    (∀ i, x0 i = ((x0 i : EReal).toReal : EReal)) ∧ (∀ i, x1 i = ((x1 i : EReal).toReal : EReal))
      ∧ (∀ i, x2 i = ((x2 i : EReal).toReal : EReal)) ∧ (∀ i, x3 i = ((x3 i : EReal).toReal : EReal)) := by
  have h := congrFun h (fun i => i.elim0)
  obtain ⟨h', h3⟩ := IntOp.andi_eq_one.1 h
  obtain ⟨h', h2⟩ := IntOp.andi_eq_one.1 h'
  obtain ⟨h0, h1⟩ := IntOp.andi_eq_one.1 h'
  exact ⟨fun i => real_of_abs_lt _ (Host.reduce_andi_all _ _ _ _ _ h0 i), fun i => real_of_abs_lt _ (Host.reduce_andi_all _ _ _ _ _ h1 i),
    fun i => real_of_abs_lt _ (Host.reduce_andi_all _ _ _ _ _ h2 i), fun i => real_of_abs_lt _ (Host.reduce_andi_all _ _ _ _ _ h3 i)⟩

end Cert.Proof

end
-- ==== Proof.InBody.lean ====
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.VecWindow

/-! The input projection's body on whole buffers. At the first column block of a row of blocks it normalises the rows and keeps them
    in the scratch buffer, and leaves the rotary key's columns; at every block it multiplies the kept rows by a block of weights. -/

@[expose] public section

set_option maxRecDepth 16384

noncomputable section

namespace Cert.Proof.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000

variable (c : Dev nD) (i : grid0.Coords)
  (arg2 : Memref sig .tc .vmem S1024x2048 .f32) (harg2 : arg2.IsWhole) (arg3 : Memref sig .tc .vmem S1024x2048 .f32) (harg3 : arg3.IsWhole)
  (arg4 : Memref sig .tc .vmem S1x2048 .f32) (harg4 : arg4.IsWhole) (arg5 : Memref sig .tc .vmem S2048x1024 .bf16) (harg5 : arg5.IsWhole)
  (arg6 : Memref sig .tc .vmem S2048x128 .bf16) (harg6 : arg6.IsWhole) (arg7 : Memref sig .tc .vmem S1024x1024 .bf16) (harg7 : arg7.IsWhole)
  (arg8 : Memref sig .tc .vmem S1024x128 .f32) (harg8 : arg8.IsWhole) (arg9 : Memref sig .tc .vmem S1024x2048 .bf16) (harg9 : arg9.IsWhole)
  (x2 x3 : FVec F S1024x2048 .f32) (x4 : FVec F S1x2048 .f32) (x5 : FVec F S2048x1024 .bf16) (x6 : FVec F S2048x128 .bf16)

/-- At the first column block: the rows normalised, the rotary key's columns and the first block of results. -/
theorem body_first (hc : k0_cond1 i = 1#1) :
    (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)) : sProp 𝕄)
      ⊢ wp frame (wpE defs₀ Variants.none (c : Thread nD τ) none) Set.univ (cc0_inproj (F := F) i arg2 harg2 arg3 harg3 arg4 harg4 arg5 harg5 arg6 harg6 arg7 harg7 arg8 harg8 arg9 harg9)
          (fun _ => (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (k0_pay4 (k0_pay2 i x2 x3 x4) x5) ∗ owns (c : Thread nD τ) arg8 fullShare (k0_pay3 i x2 x3 x4 x6)
            ∗ owns (c : Thread nD τ) arg9 fullShare (k0_pay2 i x2 x3 x4)) : sProp 𝕄)) := by
  rw [cc0_inproj_eq_skeleton]
  unfold cc0_inproj_skel owns
  simp only [dif_pos hc]
  rw [harg2.set_eq_univ, harg3.set_eq_univ, harg4.set_eq_univ, harg5.set_eq_univ, harg6.set_eq_univ, harg7.set_eq_univ, harg8.set_eq_univ, harg9.set_eq_univ]
  iintro ⟨⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩⟩
  have e2 : arg2.view.readAt (Elt F) (Rect.unit (s := S1024x2048) ![0, 0] S1024x2048.size inb_S1024x2048_S1024x2048_0_0).toLoadRect f2 = x2 := (View.readAt_full arg2.view f2 _).trans h2
  have e3 : arg3.view.readAt (Elt F) (Rect.unit (s := S1024x2048) ![0, 0] S1024x2048.size inb_S1024x2048_S1024x2048_0_0).toLoadRect f3 = x3 := (View.readAt_full arg3.view f3 _).trans h3
  have e4 : arg4.view.readAt (Elt F) (Rect.unit (s := S1x2048) ![0, 0] S1x2048.size inb_S1x2048_S1x2048_0_0).toLoadRect f4 = x4 := (View.readAt_full arg4.view f4 _).trans h4
  sl_exec
  sl_step
  isplitl [H2]; · iexists _; isplitr; swap; · iexact H2
                  ipureintro; exact h2
  isplitl [H3]; · iexists _; isplitr; swap; · iexact H3
                  ipureintro; exact h3
  isplitl [H4]; · iexists _; isplitr; swap; · iexact H4
                  ipureintro; exact h4
  isplitl [H5]; · iexists _; isplitr; swap; · iexact H5
                  ipureintro; exact h5
  isplitl [H6]; · iexists _; isplitr; swap; · iexact H6
                  ipureintro; exact h6
  isplitl [H7]
  · iexists _; isplitr; swap; · iexact H7
    ipureintro
    refine (View.read_writes_full arg7.view f7 _ _ []).trans ?_
    exact congrArg₂ k0_pay4 (View.readCov_full arg9.view _ _ _ []) ((View.readAt_full arg5.view f5 _).trans h5)
  isplitl [H8]
  · iexists _; isplitr; swap; · iexact H8
    ipureintro
    refine (View.read_writes_full arg8.view f8 _ _ []).trans ?_
    exact congrArg (k0_pay3 i x2 x3 x4) ((View.readAt_full arg6.view f6 _).trans h6)
  · iexists _; isplitr; swap; · iexact H9
    ipureintro
    exact View.read_writes_full arg9.view f9 _ _ []

/-- At a later column block: the kept rows times the block of weights, the rotary key's columns untouched. -/
theorem body_later (hc : ¬ k0_cond1 i = 1#1) (x8 : FVec F S1024x128 .f32) (h : FVec F S1024x2048 .bf16) :
    (iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ owns (c : Thread nD τ) arg8 fullShare x8 ∗ owns (c : Thread nD τ) arg9 fullShare h) : sProp 𝕄)
      ⊢ wp frame (wpE defs₀ Variants.none (c : Thread nD τ) none) Set.univ (cc0_inproj (F := F) i arg2 harg2 arg3 harg3 arg4 harg4 arg5 harg5 arg6 harg6 arg7 harg7 arg8 harg8 arg9 harg9)
          (fun _ => (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (k0_pay4 h x5) ∗ owns (c : Thread nD τ) arg8 fullShare x8
            ∗ owns (c : Thread nD τ) arg9 fullShare h) : sProp 𝕄)) := by
  rw [cc0_inproj_eq_skeleton]
  unfold cc0_inproj_skel owns
  simp only [dif_neg hc]
  rw [harg2.set_eq_univ, harg3.set_eq_univ, harg4.set_eq_univ, harg5.set_eq_univ, harg6.set_eq_univ, harg7.set_eq_univ, harg8.set_eq_univ, harg9.set_eq_univ]
  iintro ⟨⟨%f2, %h2, H2⟩, ⟨%f3, %h3, H3⟩, ⟨%f4, %h4, H4⟩, ⟨%f5, %h5, H5⟩, ⟨%f6, %h6, H6⟩, ⟨%d7, %f7, -, H7⟩, ⟨%f8, %h8, H8⟩, ⟨%f9, %h9, H9⟩⟩
  sl_exec
  sl_step
  isplitl [H2]; · iexists _; isplitr; swap; · iexact H2
                  ipureintro; exact h2
  isplitl [H3]; · iexists _; isplitr; swap; · iexact H3
                  ipureintro; exact h3
  isplitl [H4]; · iexists _; isplitr; swap; · iexact H4
                  ipureintro; exact h4
  isplitl [H5]; · iexists _; isplitr; swap; · iexact H5
                  ipureintro; exact h5
  isplitl [H6]; · iexists _; isplitr; swap; · iexact H6
                  ipureintro; exact h6
  isplitl [H7]
  · iexists _; isplitr; swap; · iexact H7
    ipureintro
    refine (View.read_writes_full arg7.view f7 _ _ []).trans ?_
    exact congrArg₂ k0_pay4 ((View.readAt_full arg9.view f9 _).trans h9) ((View.readAt_full arg5.view f5 _).trans h5)
  isplitl [H8]; · iexists _; isplitr; swap; · iexact H8
                  ipureintro; exact h8
  · iexists _; isplitr; swap; · iexact H9
    ipureintro; exact h9

end Cert.Proof.Inproj
end
-- ==== Proof.InRun.lean ====
module

public import proofs.«01_k».proof.Proof.InBody
public import Idealize.ShloMosaic.Lib.Pipeline.TableIdle

/-! The input projection's launch: what every buffer holds after every grid point. The normalised rows are kept in the scratch buffer
    through the eleven column blocks of a row of blocks; the rotary key's columns are left at the first and written back at the last. -/

@[expose] public section

set_option maxRecDepth 16384

noncomputable section

namespace Cert.Proof.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

set_option maxHeartbeats 4000000

variable (m : (ℓ : Loc nD τ sig) → Buf (Elt F) ℓ) (ρ : Dev nD → PrngReg)

/-- The first grid point of the row of blocks of point `t`. -/
def base (t : Fin cfg0.N) : Fin cfg0.N := ⟨t.val - t.val % 11, Nat.lt_of_le_of_lt (Nat.sub_le _ _) t.isLt⟩

/-- The normalised rows kept through the row of blocks of point `t`. -/
def hAt (c : Dev nD) (t : Fin cfg0.N) : FVec F S1024x2048 .bf16 :=
  k0_pay2 (grid0.coords (base t)) (iblk m c 0 (base t)) (iblk m c 1 (base t)) (iblk m c 2 (base t))
/-- The block of the main columns left at point `t`. -/
def zAt (c : Dev nD) (t : Fin cfg0.N) : FVec F S1024x1024 .bf16 := k0_pay4 (hAt m c t) (iblk m c 3 t)
/-- The block of the rotary key's columns left by the row of blocks of point `t`. -/
def krAt (c : Dev nD) (t : Fin cfg0.N) : FVec F S1024x128 .f32 :=
  k0_pay3 (grid0.coords (base t)) (iblk m c 0 (base t)) (iblk m c 1 (base t)) (iblk m c 2 (base t)) (iblk m c 4 (base t))

theorem N_pos : 0 < cfg0.N := show 0 < grid0.N by decide +kernel
theorem pred_lt (p : Fin (cfg0.N + 1)) : p.val - 1 < cfg0.N := by have := p.isLt; have := N_pos; omega

/-- What the scratch buffer holds before point `p`: anything at the start of a row of blocks, the row's normalised rows inside it. -/
def Φs (c : Dev nD) (p : Fin (cfg0.N + 1)) : sProp 𝕄 :=
  if p.val % 11 = 0 then Pipeline.ΦA spec0 c
  else iprop(owns (c : Thread nD τ) (Memref.whole cc0_scratch0) fullShare (hAt m c ⟨p.val - 1, pred_lt p⟩) ∗ ∃ r, prngReg c r)

/-- The arrays at the launch, and what every buffer holds after the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => zAt m c t
    | ⟨6, _⟩ => krAt m c t
  Φ p := Φs m c p
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = zAt m c t := by dsimp only [dats]
theorem after0_6 (c : Dev nD) (t : Fin cfg0.N) : (dats m 0 c).after 6 t = krAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The schedule -/

theorem cond_iff : ∀ t : Fin cfg0.N, k0_cond1 (grid0.coords t) = 1#1 ↔ t.val % 11 = 0 := by
  have h : ∀ t : Fin grid0.N, k0_cond1 (grid0.coords t) = 1#1 ↔ t.val % 11 = 0 := by decide +kernel
  exact h

theorem idle_first (t : Fin cfg0.N) (h : t.val % 11 = 0) : cfg0.idle 6 (cfg0.grid.coords t) = false := by
  show (!(k0_cond1 (grid0.coords t) == 1#1)) = false
  rw [(cond_iff t).mpr h]; rfl
theorem idle_later (t : Fin cfg0.N) (h : ¬ t.val % 11 = 0) : cfg0.idle 6 (cfg0.grid.coords t) = true := by
  show (!(k0_cond1 (grid0.coords t) == 1#1)) = true
  have := mt (cond_iff t).mp h
  simp [this]

/-- The rotary key's buffer is fresh at the start of a row of blocks and nowhere else. -/
theorem fresh6 (n : ℕ) (hn : n ≤ cfg0.N) : cfg0.fresh 6 n = decide (n % 11 = 0) :=
  cfg0.fresh_tab 6 (fun n => decide (n % 11 = 0)) rfl (fun t => by
    show decide ((t.val + 1) % 11 = 0) = ((cfg0.win 6).flush t || (cfg0.idle 6 (cfg0.grid.coords t) && decide (t.val % 11 = 0)))
    by_cases h : t.val % 11 = 0
    · rw [idle_first t h]
      have hf : (cfg0.win 6).flush t = false := by
        rw [Bool.eq_false_iff]; intro hh; have := (flush0_6 t).mp hh; omega
      rw [hf]; simp; omega
    · rw [decide_eq_false h, Bool.and_false, Bool.or_false]
      by_cases h' : t.val % 11 = 10
      · rw [(flush0_6 t).mpr h']; simp; omega
      · have hf : (cfg0.win 6).flush t = false := by
          rw [Bool.eq_false_iff]; intro hh; exact h' ((flush0_6 t).mp hh)
        rw [hf]; simp; omega) n hn

theorem base_self (t : Fin cfg0.N) (h : t.val % 11 = 0) : base t = t := Fin.ext (by show t.val - t.val % 11 = t.val; omega)
theorem base_pred (t : Fin cfg0.N) (h : ¬ t.val % 11 = 0) (hp : t.val - 1 < cfg0.N) : base ⟨t.val - 1, hp⟩ = base t :=
  Fin.ext (by show t.val - 1 - (t.val - 1) % 11 = t.val - t.val % 11; omega)
theorem hAt_pred (c : Dev nD) (t : Fin cfg0.N) (h : ¬ t.val % 11 = 0) (hp : t.val - 1 < cfg0.N) : hAt m c ⟨t.val - 1, hp⟩ = hAt m c t := by
  unfold hAt; rw [base_pred t h hp]
theorem krAt_pred (c : Dev nD) (t : Fin cfg0.N) (h : ¬ t.val % 11 = 0) (hp : t.val - 1 < cfg0.N) : krAt m c ⟨t.val - 1, hp⟩ = krAt m c t := by
  unfold krAt; rw [base_pred t h hp]

/-- Inside a row of blocks the rotary key's buffer holds what the row's first point left. -/
theorem before0_6 (c : Dev nD) (t : Fin cfg0.N) (h : ¬ t.val % 11 = 0) (d) : (dats m 0 c).before 6 t d = krAt m c t := by
  rw [(dats m 0 c).before_out_traj 6 rfl (fun _ _ => rfl) (fun t' h0 _ hf => by
    have h' : ¬ t'.val % 11 = 0 := by
      intro hh; rw [fresh6 _ (Nat.le_of_lt t'.isLt), decide_eq_true hh] at hf; exact Bool.noConfusion hf
    rw [after0_6, after0_6]; exact (krAt_pred m c t' h' _).symm) t.val t rfl d, fresh6 _ (Nat.le_of_lt t.isLt), decide_eq_false h,
    if_neg Bool.false_ne_true, after0_6]
  exact krAt_pred m c t h _

theorem Φs_first (c : Dev nD) (p : Fin (cfg0.N + 1)) (h : p.val % 11 = 0) : Φs m c p = Pipeline.ΦA spec0 c := if_pos h

/-- What the scratch buffer holds before a point inside a row of blocks. -/
theorem Φs_later (c : Dev nD) (t : Fin cfg0.N) (h : ¬ t.val % 11 = 0) :
    Φs m c t.castSucc = iprop(owns (c : Thread nD τ) (Memref.whole cc0_scratch0) fullShare (hAt m c t) ∗ ∃ r, prngReg c r) := by
  unfold Φs
  rw [if_neg (show ¬ (t.castSucc).val % 11 = 0 from h)]
  rw [show hAt m c ⟨(t.castSucc).val - 1, _⟩ = hAt m c t from hAt_pred m c t h _]

/-- The kept rows after a point give what is asked of the scratch buffer before the next. -/
theorem Φs_succ (c : Dev nD) (t : Fin cfg0.N) :
    (iprop(owns (c : Thread nD τ) (Memref.whole cc0_scratch0) fullShare (hAt m c t) ∗ ∃ r, prngReg c r) : sProp 𝕄) ⊢ Φs m c t.succ := by
  by_cases h : (t.succ).val % 11 = 0
  · rw [Φs_first m c _ h]
    unfold Pipeline.ΦA
    rw [scopedRest0_eq, owns_whole_eq]
    iintro ⟨⟨%f, -, S⟩, HR⟩
    isplitl [S]; · iexists f; iexact S
    iexact HR
  · unfold Φs
    rw [if_neg h]
    exact .rfl

/-- The body at every grid point takes the buffers from what they hold before it to what `dats` says they hold after it. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4]
  rw [show (dats m 0 c).Φ t.succ = Φs m c t.succ from rfl, show (dats m 0 c).Φ t.castSucc = Φs m c t.castSucc from rfl,
    show (dats m 0 c).owesAt () t.succ = (dats m 0 c).owesAt () t.castSucc from rfl, after0_0, after0_1, after0_2, after0_3, after0_4, after0_5, after0_6]
  by_cases h : t.val % 11 = 0
  · have hi : idle0 6 (grid0.coords t) = false := idle_first t h
    have eh : hAt m c t = k0_pay2 (grid0.coords t) (iblk m c 0 t) (iblk m c 1 t) (iblk m c 2 t) := by unfold hAt; rw [base_self t h]
    have ek : krAt m c t = k0_pay3 (grid0.coords t) (iblk m c 0 t) (iblk m c 1 t) (iblk m c 2 t) (iblk m c 4 t) := by unfold krAt; rw [base_self t h]
    rw [hi, Φs_first m c t.castSucc h]
    unfold Pipeline.ΦA zAt
    rw [scopedRest0_eq]
    iintro ⟨⟨⟨%f, S⟩, HR⟩, Ho, ⟨%d0, H0⟩, ⟨%d1, H1⟩, ⟨%d2, H2⟩, ⟨%d3, H3⟩, ⟨%d4, H4⟩, ⟨%d5, H5⟩, ⟨%d6, H6⟩⟩
    iapply (wp_wand_r frame (wpE defs₀ Variants.none (c : Thread nD τ) none) Set.univ)
    isplitl [H0 H1 H2 H3 H4 H5 H6 S]
    · iapply (body_first c (grid0.coords t) _ _ _ _ _ _ _ _ _ _ _ _ _ _ _ _ (iblk m c 0 t) (iblk m c 1 t) (iblk m c 2 t) (iblk m c 3 t) (iblk m c 4 t) ((cond_iff t).mpr h))
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexists f
      rw [owns_whole_eq]
      iexists f
      isplitr; swap; · iexact S
      ipureintro; rfl
    rw [← eh, ← ek]
    iintro %_ ⟨H0, H1, H2, H3, H4, H5, H6, S⟩
    isplitl [S HR]
    · iapply (Φs_succ m c t)
      isplitl [S]; · iexact S
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hi : idle0 6 (grid0.coords t) = true := idle_later t h
    rw [hi, Φs_later m c t h]
    simp only [before0_6 m c t h]
    unfold zAt
    iintro ⟨⟨S, HR⟩, Ho, ⟨%d0, H0⟩, ⟨%d1, H1⟩, ⟨%d2, H2⟩, ⟨%d3, H3⟩, ⟨%d4, H4⟩, ⟨%d5, H5⟩, ⟨%d6, H6⟩⟩
    iapply (wp_wand_r frame (wpE defs₀ Variants.none (c : Thread nD τ) none) Set.univ)
    isplitl [H0 H1 H2 H3 H4 H5 H6 S]
    · iapply (body_later c (grid0.coords t) _ _ _ _ _ _ _ _ _ _ _ _ _ _ _ _ (iblk m c 0 t) (iblk m c 1 t) (iblk m c 2 t) (iblk m c 3 t) (iblk m c 4 t) (mt (cond_iff t).mp h) (krAt m c t) (hAt m c t))
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      iexact S
    iintro %_ ⟨H0, H1, H2, H3, H4, H5, H6, S⟩
    isplitl [S HR]
    · iapply (Φs_succ m c t)
      isplitl [S]; · iexact S
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    cases (win0 6).flush t
    · iexists d6; iexact H6
    · iexact H6

set_option backward.isDefEq.respectTransparency.types false in
/-- Every execution ends, with every array at what `dats` says, whatever the initial memory, and with every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl)
    (hin := fun c => by rw [show (dats m 0 c).Φ 0 = Φs m c 0 from rfl, Φs_first m c 0 rfl])
    (hout := fun c => by
      rw [show (dats m 0 c).Φ (Fin.last _) = Φs m c (Fin.last _) from rfl, Φs_first m c (Fin.last _) (show grid0.N % 11 = 0 by decide +kernel)])

end Cert.Proof.Inproj
end
-- ==== Proof.InFrames.lean ====
/- The frames of the input projection: the kernel and the reference run to an end, leave their arguments as they were and every counter at zero. -/
module

public import proofs.«01_k».proof.Defs
public import proofs.«01_k».proof.Proof.Gen.Kernel2
public import proofs.«01_k».proof.Proof.Gen.Reference2Ideal.Run
public import proofs.«01_k».proof.Proof.InRun

@[expose] public section

set_option maxRecDepth 16384

noncomputable section

namespace Cert.Proof.Inproj

open Idealize.ShloMosaic Idealize.SL Idealize.SL.Sem

/-- The kernel, over any numbers: it ends, its arguments unchanged and every counter at zero. -/
theorem frame_any {F : FTy → Type} [FloatOps F] (m : (ℓ : Loc Kernel2Ideal.nD Kernel2Ideal.τ Kernel2Ideal.sig) → Buf (Elt F) ℓ) (ρ : Dev Kernel2Ideal.nD → PrngReg) :
    θ_run (Kernel2Ideal.defs (F := F)) (onTc (τ := Kernel2Ideal.τ) (Kernel2Ideal.main (F := F))) ⟨m, fun _ => 0, ρ⟩ (fun r => (∀ c : Dev Kernel2Ideal.nD,
      r.2.mem ((c.tc : Thread Kernel2Ideal.nD Kernel2Ideal.τ).loc Kernel2Ideal.main_arg0) = m ((c.tc : Thread Kernel2Ideal.nD Kernel2Ideal.τ).loc Kernel2Ideal.main_arg0)
      ∧ r.2.mem ((c.tc : Thread Kernel2Ideal.nD Kernel2Ideal.τ).loc Kernel2Ideal.main_arg1) = m ((c.tc : Thread Kernel2Ideal.nD Kernel2Ideal.τ).loc Kernel2Ideal.main_arg1)
      ∧ r.2.mem ((c.tc : Thread Kernel2Ideal.nD Kernel2Ideal.τ).loc Kernel2Ideal.main_arg2) = m ((c.tc : Thread Kernel2Ideal.nD Kernel2Ideal.τ).loc Kernel2Ideal.main_arg2)
      ∧ r.2.mem ((c.tc : Thread Kernel2Ideal.nD Kernel2Ideal.τ).loc Kernel2Ideal.main_arg3) = m ((c.tc : Thread Kernel2Ideal.nD Kernel2Ideal.τ).loc Kernel2Ideal.main_arg3))
      ∧ r.2.sem = fun _ => 0) :=
  θ_run_with_sems (Cert.Kernel2Ideal.Gen.frame_of m ρ (dats m) fun _ _ => rfl) (run_main (F := F) m ρ)

/-- The kernel over the extended reals. -/
theorem frame_ideal : Cert.quiescent_Kernel2Ideal := fun m ρ _ => frame_any (F := Ideal) m ρ

/-- The two programs call the same body. -/
theorem defs₀_eq {F : FTy → Type} [FloatOps F] : (Kernel2.defs₀ (F := F)) = Kernel2Ideal.defs₀ (F := F) := by
  refine congrArg Defs.onTc (funext fun l => funext fun a => ?_)
  match l, a with
  | ⟨0, _⟩, (t, s) => rfl

/-- The two programs' tables of bodies are equal. -/
theorem defs_eq {F : FTy → Type} [FloatOps F] : (Kernel2.defs (F := F)) = Kernel2Ideal.defs (F := F) :=
  congrArg (Pipeline.defs Kernel2.pcfgs) defs₀_eq

/-- The kernel over the words of its number formats: the same program. -/
theorem frame_kernel : Cert.quiescent_Kernel2 := fun m ρ _ => by
  rw [defs_eq]
  exact (θ_run Cert.Kernel2Ideal.defs _ _).mono (fun _ h => h) (frame_any (F := Bits) m ρ)

/-- The reference over the extended reals. -/
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

end Cert.Proof.Inproj

end
-- ==== Proof.InSpec.lean ====
/- What the input projection computes, as plain maths over the extended reals. -/
module

public import Idealize.ShloMosaic.Lib.Pointwise
public import proofs.«01_k».proof.Proof.Gen.Kernel2Ideal
public import proofs.«01_k».proof.Proof.Softmax

@[expose] public section

set_option maxRecDepth 16384

noncomputable section

namespace Cert.Proof.Inproj

open Cert.Kernel2Ideal Cert.Kernel2Ideal.Gen
open Idealize.ShloMosaic Idealize.ShloMosaic.TcCoe

variable (x0 : FVec Ideal S2x16384x2048 .f32) (x1 : FVec Ideal S4x2048x2048 .f32) (g : FVec Ideal S1x2048 .f32) (w : FVec Ideal S1x2048x11328 .f32)

/-- The rows of both groups, one under the other: the two prompts, then the four samples. -/
def rows (r : Fin 40960) (k : Fin 2048) : EReal :=
  if h : r.val < 32768 then x0 (ix3 ⟨r.val / 16384, by omega⟩ ⟨r.val % 16384, Nat.mod_lt _ (by decide)⟩ k)
  else x1 (ix3 ⟨(r.val - 32768) / 2048, by omega⟩ ⟨(r.val - 32768) % 2048, Nat.mod_lt _ (by decide)⟩ k)

/-- A row divided by the root of its mean square (and the small constant), times the gains. -/
def normed (x gain : Fin 2048 → EReal) (k : Fin 2048) : EReal :=
  x k * Ideal.rsqrt (Ideal.div (∑ j, x j * x j) (Ideal.ofBits .f32 0x45000000#32) + Ideal.ofBits .f32 0x358637BD#32) * gain k

/-- The projection of a row on a column of the weights. -/
def proj (r : Fin 40960) (col : Fin 11328) : EReal :=
  ∑ k : Fin 2048, normed (rows x0 x1 r) (fun k => g (ix2 0 k)) k * w (ix3 0 k col)

/-- The divisor of the queries. -/
def scale : ℝ := Real.sqrt 128 * Real.log 2
theorem scale_pos : 0 < scale := mul_pos (Real.sqrt_pos.2 (by norm_num)) (Real.log_pos (by norm_num))
theorem scale_eq : Ideal.sqrt (Ideal.ofBits FTy.f32 1124073472#32) * Ideal.log (Ideal.ofBits FTy.f32 1073741824#32) = (scale : EReal) := by
  have h1 : Ideal.ofBits FTy.f32 1124073472#32 = ((128 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  unfold scale
  rw [h1, h2, Ideal.sqrt_coe, Ideal.log_coe, EReal.coe_mul]
  rw [if_neg (by norm_num), if_neg (by norm_num)]

/-- The column of the weights behind a main column: queries, keys and values, then the two gates, then the two latents. -/
def src (j : Fin 11264) : Fin 11328 :=
  if j.val < 6144 then ⟨j.val, by omega⟩ else if h : j.val < 10240 then ⟨j.val + 1088, by omega⟩ else ⟨j.val - 4096, by omega⟩
/-- The column of the weights behind a column of the rotary key: the key, then its halves exchanged. -/
def srcKr (j : Fin 128) : Fin 11328 :=
  if j.val < 64 then ⟨7168 + j.val, by omega⟩ else if h : j.val < 96 then ⟨j.val + 7136, by omega⟩ else ⟨j.val + 7072, by omega⟩

/-- The main columns, told apart by where they come to stand. -/
theorem pick_main (j : Fin 11264) (f : Fin 11328 → EReal) (D : EReal → EReal) :
    (if _ : j.val < 2048 then D (f ⟨j.val, by omega⟩)
      else if _ : j.val - 2048 < 2048 then f ⟨2048 + (j.val - 2048), by omega⟩
      else if _ : j.val - 2048 - 2048 < 2048 then f ⟨4096 + (j.val - 2048 - 2048), by omega⟩
      else if _ : j.val - 2048 - 2048 - 2048 < 2048 then f ⟨7232 + (j.val - 2048 - 2048 - 2048), by omega⟩
      else if _ : j.val - 2048 - 2048 - 2048 - 2048 < 2048 then f ⟨9280 + (j.val - 2048 - 2048 - 2048 - 2048), by omega⟩
      else if _ : j.val - 2048 - 2048 - 2048 - 2048 - 2048 < 512 then f ⟨6144 + (j.val - 2048 - 2048 - 2048 - 2048 - 2048), by omega⟩
      else f ⟨6656 + (j.val - 2048 - 2048 - 2048 - 2048 - 2048 - 512), by omega⟩)
      = if j.val < 2048 then D (f (src j)) else f (src j) := by
  have hj := j.isLt
  have hs : ∀ x : Fin 11328, x.val = (if j.val < 6144 then j.val else if j.val < 10240 then j.val + 1088 else j.val - 4096) → x = src j := fun x hx =>
    Fin.ext (hx.trans (by unfold src; split_ifs <;> rfl))
  by_cases c0 : j.val < 2048
  · rw [dif_pos c0, if_pos c0]
    exact congrArg (fun q => D (f q)) (hs _ (by show j.val = _; split_ifs <;> omega))
  rw [dif_neg c0, if_neg c0]
  by_cases c1 : j.val - 2048 < 2048
  · rw [dif_pos c1]
    exact congrArg f (hs _ (by show 2048 + (j.val - 2048) = _; split_ifs <;> omega))
  rw [dif_neg c1]
  by_cases c2 : j.val - 2048 - 2048 < 2048
  · rw [dif_pos c2]
    exact congrArg f (hs _ (by show 4096 + (j.val - 2048 - 2048) = _; split_ifs <;> omega))
  rw [dif_neg c2]
  by_cases c3 : j.val - 2048 - 2048 - 2048 < 2048
  · rw [dif_pos c3]
    exact congrArg f (hs _ (by show 7232 + (j.val - 2048 - 2048 - 2048) = _; split_ifs <;> omega))
  rw [dif_neg c3]
  by_cases c4 : j.val - 2048 - 2048 - 2048 - 2048 < 2048
  · rw [dif_pos c4]
    exact congrArg f (hs _ (by show 9280 + (j.val - 2048 - 2048 - 2048 - 2048) = _; split_ifs <;> omega))
  rw [dif_neg c4]
  by_cases c5 : j.val - 2048 - 2048 - 2048 - 2048 - 2048 < 512
  · rw [dif_pos c5]
    exact congrArg f (hs _ (by show 6144 + (j.val - 2048 - 2048 - 2048 - 2048 - 2048) = _; split_ifs <;> omega))
  rw [dif_neg c5]
  exact congrArg f (hs _ (by show 6656 + (j.val - 2048 - 2048 - 2048 - 2048 - 2048 - 512) = _; split_ifs <;> omega))
/-- The rotary key's columns, told apart by where they come to stand. -/
theorem pick_kr (j : Fin 128) (f : Fin 11328 → EReal) :
    (if _ : j.val < 64 then f ⟨7168 + j.val, by omega⟩ else if _ : j.val - 64 < 32 then f ⟨7168 + (32 + (j.val - 64)), by omega⟩
      else f ⟨7168 + (j.val - 64 - 32), by omega⟩) = f (srcKr j) := by
  have hj := j.isLt
  have hs : ∀ x : Fin 11328, x.val = (if j.val < 64 then 7168 + j.val else if j.val < 96 then j.val + 7136 else j.val + 7072) → x = srcKr j := fun x hx =>
    Fin.ext (hx.trans (by unfold srcKr; split_ifs <;> rfl))
  by_cases c0 : j.val < 64
  · rw [dif_pos c0]
    exact congrArg f (hs _ (by show 7168 + j.val = _; split_ifs <;> omega))
  rw [dif_neg c0]
  by_cases c1 : j.val - 64 < 32
  · rw [dif_pos c1]
    exact congrArg f (hs _ (by show 7168 + (32 + (j.val - 64)) = _; split_ifs <;> omega))
  rw [dif_neg c1]
  exact congrArg f (hs _ (by show 7168 + (j.val - 64 - 32) = _; split_ifs <;> omega))

/-- The main columns; those of the queries divided. -/
def mainCol (r : Fin 40960) (j : Fin 11264) : EReal :=
  if j.val < 2048 then Ideal.div (proj x0 x1 g w r (src j)) (scale : EReal) else proj x0 x1 g w r (src j)
/-- The rotary key's columns. -/
def krCol (r : Fin 40960) (j : Fin 128) : EReal := proj x0 x1 g w r (srcKr j)

/-- Dividing a sum of products is dividing its second factors. -/
theorem sum_div_scale (f v : Fin 2048 → EReal) :
    ∑ k, f k * Ideal.div (v k) (scale : EReal) = Ideal.div (∑ k, f k * v k) (scale : EReal) := by
  have hs : (scale : EReal) ≠ 0 := by rw [← EReal.coe_zero, Ne, EReal.coe_eq_coe_iff]; exact scale_pos.ne'
  have hd : ∀ a, Ideal.div a (scale : EReal) = a * ((scale⁻¹ : ℝ) : EReal) := fun a => by
    unfold Ideal.div; rw [if_neg hs, ← EReal.coe_inv]
  simp only [hd]
  rw [sum_mul_coe _ _ _ (inv_pos.2 scale_pos).le]
  exact Finset.sum_congr rfl fun k _ => (mul_assoc _ _ _).symm

end Cert.Proof.Inproj

end
-- ==== Proof.InHost.lean ====
/- The arrays the input projection's kernel is launched on, read at an index. -/
module

public import Idealize.ShloMosaic.Lib.Claim
public import Idealize.ShloMosaic.Lib.Pointwise
public import Idealize.ShloMosaic.Lib.StableHlo.ReadAt
public import Idealize.ShloMosaic.Lib.StableHlo.RunRead
public import proofs.«01_k».proof.Proof.Gen.Kernel2Ideal.Frame
public import proofs.«01_k».proof.Proof.InSpec

@[expose] public section

set_option maxRecDepth 16384
set_option maxHeartbeats 4000000

noncomputable section

namespace Cert.Proof.Inproj

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The arguments, as arrays of extended reals. -/
abbrev B0 : FVec Ideal S2x16384x2048 .f32 := m ((c : Thread nD τ).loc main_arg0)
abbrev B1 : FVec Ideal S4x2048x2048 .f32 := m ((c : Thread nD τ).loc main_arg1)
abbrev B2 : FVec Ideal S1x2048 .f32 := m ((c : Thread nD τ).loc main_arg2)
abbrev B3 : FVec Ideal S1x2048x11328 .f32 := m ((c : Thread nD τ).loc main_arg3)

/-- The prompts' rows. -/
theorem V_xa (r : Fin 32768) (k : Fin 2048) (r' : Fin 40960) (hr : r'.val = r.val) :
    (V m c main_v21 : FVec Ideal S32768x2048 .f32) (ix2 r k) = rows (B0 m c) (B1 m c) r' k := by
  rw [show r' = ⟨r.val, by have := r.isLt; omega⟩ from Fin.ext hr]
  unfold V rows
  rw [dif_pos r.isLt]
  after_reads_at
/-- The samples' rows. -/
theorem V_xb (r : Fin 8192) (k : Fin 2048) (r' : Fin 40960) (hr : r'.val = 32768 + r.val) :
    (V m c main_v22 : FVec Ideal S8192x2048 .f32) (ix2 r k) = rows (B0 m c) (B1 m c) r' k := by
  have e : (V m c main_v22 : FVec Ideal S8192x2048 .f32) (ix2 r k)
      = B1 m c (ix3 ⟨r.val / 2048, by omega⟩ ⟨r.val % 2048, Nat.mod_lt _ (by decide)⟩ k) := by
    unfold V
    after_reads_at
  have ha : (⟨r.val / 2048, by omega⟩ : Fin 4) = ⟨(r'.val - 32768) / 2048, by omega⟩ := Fin.ext (by simp only [hr]; omega)
  have hb : (⟨r.val % 2048, Nat.mod_lt _ (by decide)⟩ : Fin 2048) = ⟨(r'.val - 32768) % 2048, Nat.mod_lt _ (by decide)⟩ := Fin.ext (by simp only [hr]; omega)
  rw [e, ha, hb]
  unfold rows
  rw [dif_neg (by omega)]
/-- The gains. -/
theorem V_g (k : Fin 2048) : (V m c main_v24 : FVec Ideal S1x2048 .f32) (ix2 0 k) = B2 m c (ix2 0 k) := by
  unfold V
  after_reads_at
/-- The weights of the main columns, those of the queries divided. -/
theorem V_w (k : Fin 2048) (j : Fin 11264) :
    (V m c main_v15 : FVec Ideal S2048x11264 .bf16) (ix2 k j)
      = if j.val < 2048 then Ideal.div (B3 m c (ix3 0 k (src j))) (scale : EReal) else B3 m c (ix3 0 k (src j)) := by
  unfold V
  after_reads_at
  after_reads_at
  rw [scale_eq]
  exact pick_main j (fun q => B3 m c (ix3 0 k q)) (fun a => Ideal.div a (scale : EReal))
/-- The weights of the rotary key's columns. -/
theorem V_kr (k : Fin 2048) (j : Fin 128) :
    (V m c main_v20 : FVec Ideal S2048x128 .bf16) (ix2 k j) = B3 m c (ix3 0 k (srcKr j)) := by
  unfold V
  after_reads_at
  after_reads_at
  exact pick_kr j (fun q => B3 m c (ix3 0 k q))

end Cert.Proof.Inproj

end
-- ==== Proof.InBlock.lean ====
/- One block of the input projection over the extended reals, read at an index. -/
module

public import proofs.«01_k».proof.Proof.Gen.Kernel2Ideal.Skeleton
public import proofs.«01_k».proof.Proof.InSpec

@[expose] public section

set_option maxRecDepth 16384

noncomputable section

namespace Cert.Proof.Inproj

open Cert.Kernel2Ideal Cert.Kernel2Ideal.Gen
open Idealize.ShloMosaic Idealize.ShloMosaic.TcCoe

/-- The normalised rows of a block: of the first operand in the first thirty-two rows of blocks, of the second after. -/
theorem pay1_apply (i : grid0.Coords) (a b : FVec Ideal S1024x2048 .f32) (g : FVec Ideal S1x2048 .f32) (r : Fin 1024) (k : Fin 2048) :
    k0_pay1 (F := Ideal) i a b g (ix2 r k) = normed (fun j => if (i 0).val < 32 then a (ix2 r j) else b (ix2 r j)) (fun j => g (ix2 0 j)) k := by
  have hc : ∀ n : Fin 40, Scalar.cmpi .slt (BitVec.ofNat 32 n.val) 32#32 = if n.val < 32 then 1#1 else 0#1 := by decide +kernel
  have s1 : ∀ x y : FVec Ideal S1024x2048 .f32, Scalar.select 1#1 x y = x := fun _ _ => rfl
  have s0 : ∀ x y : FVec Ideal S1024x2048 .f32, Scalar.select 0#1 x y = y := fun _ _ => rfl
  unfold normed
  by_cases h : (i 0).val < 32
  · have e := hc (i 0)
    rw [if_pos h] at e
    simp only [if_pos h]
    unfold k0_pay1
    rw [e, s1]
    pointwise!
  · have e := hc (i 0)
    rw [if_neg h] at e
    simp only [if_neg h]
    unfold k0_pay1
    rw [e, s0]
    pointwise!
theorem pay2_apply (i : grid0.Coords) (a b : FVec Ideal S1024x2048 .f32) (g : FVec Ideal S1x2048 .f32) (r : Fin 1024) (k : Fin 2048) :
    k0_pay2 (F := Ideal) i a b g (ix2 r k) = k0_pay1 (F := Ideal) i a b g (ix2 r k) := by
  pointwise [k0_pay2]
theorem pay3_apply (i : grid0.Coords) (a b : FVec Ideal S1024x2048 .f32) (g : FVec Ideal S1x2048 .f32) (v : FVec Ideal S2048x128 .bf16) (r : Fin 1024) (j : Fin 128) :
    k0_pay3 (F := Ideal) i a b g v (ix2 r j) = ∑ k : Fin 2048, k0_pay1 (F := Ideal) i a b g (ix2 r k) * v (ix2 k j) := by
  pointwise! [k0_pay3]
theorem pay4_apply (h : FVec Ideal S1024x2048 .bf16) (v : FVec Ideal S2048x1024 .bf16) (r : Fin 1024) (j : Fin 1024) :
    k0_pay4 (F := Ideal) h v (ix2 r j) = ∑ k : Fin 2048, h (ix2 r k) * v (ix2 k j) := by
  pointwise! [k0_pay4]

end Cert.Proof.Inproj

end
-- ==== Proof.InArray.lean ====
/- At the end of the run the input projection's two arrays hold the main columns and the rotary key's columns. -/
module

public import Idealize.ShloMosaic.Lib.Claim
public import Idealize.ShloMosaic.Lib.Pointwise
public import Idealize.ShloMosaic.Lib.Pipeline.ValueKit
public import proofs.«01_k».proof.Proof.InRun
public import proofs.«01_k».proof.Proof.InHost
public import proofs.«01_k».proof.Proof.InBlock

@[expose] public section

set_option maxRecDepth 16384
set_option maxHeartbeats 4000000

noncomputable section

namespace Cert.Proof.Inproj

open Cert.Kernel2Ideal Cert.Kernel2Ideal.Gen
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-- The main columns of the launched arguments. -/
def mainArr : FVec Ideal S40960x11264 .bf16 := fun j => mainCol (B0 m c) (B1 m c) (B2 m c) (B3 m c) (j 0) (j 1)
/-- The rotary key's columns of the launched arguments. -/
def krArr : FVec Ideal S40960x128 .f32 := fun j => krCol (B0 m c) (B1 m c) (B2 m c) (B3 m c) (j 0) (j 1)

/-- Which blocks the grid point `t` takes and writes. -/
theorem index0 : ∀ t : Fin cfg0.N, win0_0.index t = ![min (t.val / 11) 31, 0] :=
  (by decide +kernel : ∀ t : Fin grid0.N, _)
theorem index1 : ∀ t : Fin cfg0.N, win0_1.index t = ![t.val / 11 - 32, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, win0_3.index t = ![0, t.val % 11] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![t.val / 11, t.val % 11] :=
  (by decide +kernel : ∀ t : Fin grid0.N, _)
theorem index6 : ∀ t : Fin cfg0.N, win0_6.index t = ![t.val / 11, 0] :=
  (by decide +kernel : ∀ t : Fin grid0.N, _)
theorem coord0 : ∀ t : Fin cfg0.N, (grid0.coords t 0).val = t.val / 11 :=
  (by decide +kernel : ∀ t : Fin grid0.N, _)

/-- The operands' blocks at a grid point, read at an index. -/
theorem blk_xa (t : Fin cfg0.N) (r : Fin 1024) (k : Fin 2048) (y : Fin 32768) (hy : y.val = min (t.val / 11) 31 * 1024 + r.val) :
    (iblk m c 0 t : FVec Ideal S1024x2048 .f32) (ix2 r k) = (V m c main_v21 : FVec Ideal S32768x2048 .f32) (ix2 y k) := by
  unfold iblk
  refine congrArg (V m c main_v21 : FVec Ideal S32768x2048 .f32) ?_
  funext a
  apply Fin.ext
  match a with
  | ⟨0, _⟩ => blk_simp [index0]; omega
  | ⟨1, _⟩ => blk_simp [index0]
theorem blk_xb (t : Fin cfg0.N) (r : Fin 1024) (k : Fin 2048) (y : Fin 8192) (hy : y.val = (t.val / 11 - 32) * 1024 + r.val) :
    (iblk m c 1 t : FVec Ideal S1024x2048 .f32) (ix2 r k) = (V m c main_v22 : FVec Ideal S8192x2048 .f32) (ix2 y k) := by
  unfold iblk
  refine congrArg (V m c main_v22 : FVec Ideal S8192x2048 .f32) ?_
  funext a
  apply Fin.ext
  match a with
  | ⟨0, _⟩ => blk_simp [index1]; omega
  | ⟨1, _⟩ => blk_simp [index1]
theorem blk_g (t : Fin cfg0.N) (k : Fin 2048) :
    (iblk m c 2 t : FVec Ideal S1x2048 .f32) (ix2 0 k) = (V m c main_v24 : FVec Ideal S1x2048 .f32) (ix2 0 k) := by
  unfold iblk
  refine congrArg (V m c main_v24 : FVec Ideal S1x2048 .f32) ?_
  funext a
  apply Fin.ext
  match a with
  | ⟨0, _⟩ => blk_simp [index2]
  | ⟨1, _⟩ => blk_simp [index2]
theorem blk_w (t : Fin cfg0.N) (k : Fin 2048) (j : Fin 1024) (y : Fin 11264) (hy : y.val = t.val % 11 * 1024 + j.val) :
    (iblk m c 3 t : FVec Ideal S2048x1024 .bf16) (ix2 k j) = (V m c main_v15 : FVec Ideal S2048x11264 .bf16) (ix2 k y) := by
  unfold iblk
  refine congrArg (V m c main_v15 : FVec Ideal S2048x11264 .bf16) ?_
  funext a
  apply Fin.ext
  match a with
  | ⟨0, _⟩ => blk_simp [index3]
  | ⟨1, _⟩ => blk_simp [index3]; omega
theorem blk_kr (t : Fin cfg0.N) (k : Fin 2048) (j : Fin 128) :
    (iblk m c 4 t : FVec Ideal S2048x128 .bf16) (ix2 k j) = (V m c main_v20 : FVec Ideal S2048x128 .bf16) (ix2 k j) := by
  unfold iblk
  refine congrArg (V m c main_v20 : FVec Ideal S2048x128 .bf16) ?_
  funext a
  apply Fin.ext
  match a with
  | ⟨0, _⟩ => blk_simp [index4]
  | ⟨1, _⟩ => blk_simp [index4]

/-- The normalised rows of a row of blocks. -/
theorem pay1_at (t : Fin cfg0.N) (r : Fin 1024) (k : Fin 2048) (row : Fin 40960) (hrow : row.val = t.val / 11 * 1024 + r.val) :
    k0_pay1 (F := Ideal) (grid0.coords t) (iblk m c 0 t) (iblk m c 1 t) (iblk m c 2 t) (ix2 r k)
      = normed (rows (B0 m c) (B1 m c) row) (fun k => B2 m c (ix2 0 k)) k := by
  have ht : t.val < 440 := t.isLt
  rw [pay1_apply, coord0]
  have eg : (fun j => (iblk m c 2 t : FVec Ideal S1x2048 .f32) (ix2 0 j)) = fun k => B2 m c (ix2 0 k) :=
    funext fun j => (blk_g m c t j).trans (V_g m c j)
  refine (congrArg (fun g => normed _ g k) eg).trans (congrArg (fun x => normed x _ k) (funext fun j => ?_))
  by_cases h : t.val / 11 < 32
  · rw [if_pos h]
    exact (blk_xa m c t r j ⟨row.val, by omega⟩ (by show row.val = _; omega)).trans (V_xa m c _ j row rfl)
  · rw [if_neg h]
    exact (blk_xb m c t r j ⟨row.val - 32768, by omega⟩ (by show row.val - 32768 = _; omega)).trans (V_xb m c _ j row (by show row.val = 32768 + (row.val - 32768); omega))

theorem base_div (t : Fin cfg0.N) : (base t).val / 11 = t.val / 11 := by
  show (t.val - t.val % 11) / 11 = t.val / 11; omega

/-- The main columns' block at a grid point. -/
theorem zAt_apply (t : Fin cfg0.N) (r : Fin 1024) (j : Fin 1024) (row : Fin 40960) (hrow : row.val = t.val / 11 * 1024 + r.val)
    (col : Fin 11264) (hcol : col.val = t.val % 11 * 1024 + j.val) :
    zAt m c t (ix2 r j) = mainCol (B0 m c) (B1 m c) (B2 m c) (B3 m c) row col := by
  unfold zAt
  rw [pay4_apply]
  have hh : ∀ k, hAt m c t (ix2 r k) = normed (rows (B0 m c) (B1 m c) row) (fun k => B2 m c (ix2 0 k)) k := fun k => by
    unfold hAt
    rw [pay2_apply]
    exact pay1_at m c (base t) r k row (by rw [base_div]; exact hrow)
  have hw : ∀ k, (iblk m c 3 t : FVec Ideal S2048x1024 .bf16) (ix2 k j)
      = if col.val < 2048 then Ideal.div (B3 m c (ix3 0 k (src col))) (scale : EReal) else B3 m c (ix3 0 k (src col)) :=
    fun k => (blk_w m c t k j col hcol).trans (V_w m c k col)
  refine (Finset.sum_congr rfl fun k _ => congrArg₂ (fun a b : EReal => a * b) (hh k) (hw k)).trans ?_
  unfold mainCol proj
  by_cases h : col.val < 2048
  · simp only [if_pos h]
    exact sum_div_scale _ _
  · simp only [if_neg h]

/-- The rotary key's block of a row of blocks. -/
theorem krAt_apply (t : Fin cfg0.N) (r : Fin 1024) (j : Fin 128) (row : Fin 40960) (hrow : row.val = t.val / 11 * 1024 + r.val) :
    krAt m c t (ix2 r j) = krCol (B0 m c) (B1 m c) (B2 m c) (B3 m c) row j := by
  unfold krAt
  rw [pay3_apply]
  exact Finset.sum_congr rfl fun k _ => congrArg₂ (fun a b : EReal => a * b) (pay1_at m c (base t) r k row (by rw [base_div]; exact hrow))
    ((blk_kr m c (base t) k j).trans (V_kr m c k j))

/-- At the end the array of the main columns. -/
theorem final_z : (dats m 0 c).arrAt 5 cfg0.N = mainArr m c := by
  refine (dats m 0 c).arrAt_eq_of_covers 5 _ (by decide +kernel) fun t hf y => ?_
  blk_simp
  rw [after0_5]
  have e0 : ((win0_5.blk t).view.emb y 0).val = t.val / 11 * 1024 + (y 0).val := by blk_simp [index5]
  have e1 : ((win0_5.blk t).view.emb y 1).val = t.val % 11 * 1024 + (y 1).val := by blk_simp [index5]
  refine (congrArg (zAt m c t) (eq_ix2 (y : S1024x1024.Idx))).trans ?_
  exact zAt_apply m c t (y 0) (y 1) ((win0_5.blk t).view.emb y 0) e0 ((win0_5.blk t).view.emb y 1) e1

/-- At the end the array of the rotary key's columns. -/
theorem final_kr : (dats m 0 c).arrAt 6 cfg0.N = krArr m c := by
  refine (dats m 0 c).arrAt_eq_of_covers 6 _ (by decide +kernel) fun t hf y => ?_
  blk_simp
  rw [after0_6]
  have e0 : ((win0_6.blk t).view.emb y 0).val = t.val / 11 * 1024 + (y 0).val := by blk_simp [index6]
  have e1 : ((win0_6.blk t).view.emb y 1).val = (y 1).val := by blk_simp [index6]
  refine (congrArg (krAt m c t) (eq_ix2 (y : S1024x128.Idx))).trans ?_
  refine (krAt_apply m c t (y 0) (y 1) ((win0_6.blk t).view.emb y 0) e0).trans ?_
  unfold krArr
  exact congrArg (krCol _ _ _ _ _) (Fin.ext e1.symm)

end Cert.Proof.Inproj

end
-- ==== Proof.InRef.lean ====
/- What the input projection's reference computes, read at an index. -/
module

public import Idealize.ShloMosaic.Lib.Pointwise
public import proofs.«01_k».proof.Proof.Gen.Reference2Ideal.Read
public import proofs.«01_k».proof.Proof.InSpec

@[expose] public section

set_option maxRecDepth 16384
set_option maxHeartbeats 4000000

noncomputable section

namespace Cert.Proof.Inproj.Reference

open Cert.Reference2Ideal Cert.Reference2Ideal.Gen Cert.Reference2Ideal.Read
open Idealize.ShloMosaic Idealize.ShloMosaic.TcCoe Idealize.SL.Sem

variable (x0 : FVec Ideal S2x16384x2048 .f32) (x1 : FVec Ideal S4x2048x2048 .f32) (x2 : FVec Ideal S1x2048 .f32) (x3 : FVec Ideal S1x2048x11328 .f32)

theorem v2_apply (r : Fin 40960) (k : Fin 2048) : val_main_v2 (F := Ideal) x0 x1 (ix2 r k) = rows x0 x1 r k := by
  unfold rows
  pointwise [val_main_v2, val_main_v0, val_main_v1]

theorem v16_apply (r : Fin 40960) (k : Fin 2048) :
    val_main_v16 (F := Ideal) x0 x1 x2 (ix2 r k) = normed (rows x0 x1 r) (fun k => x2 (ix2 0 k)) k := by
  unfold normed
  rw [val_main_v16_apply, val_main_v13_apply, val_main_v12_apply, val_main_v11_apply, val_main_v10_apply, val_main_v8_apply, val_main_v6_apply, val_main_v5_apply]
  pointwise [val_main_v4, val_main_v7, val_main_v9, val_main_v15, val_main_v14, val_main_v3, val_main_cst, val_main_cst_0, val_main_cst_1]
  have e : ∀ x : Fin 2048, idx_main_v5 (idx_main_v6 (idx_main_v12 (ix2 r k))) x = ix2 r x := fun x => by funext a; fin_cases a <;> rfl
  simp only [e, v2_apply]

theorem v18_apply (r : Fin 40960) (j : Fin 11328) :
    val_main_v18 (F := Ideal) x0 x1 x2 x3 (ix2 r j) = proj x0 x1 x2 x3 r j := by
  rw [val_main_v18_apply]
  unfold proj
  refine Finset.sum_congr rfl fun k _ => ?_
  rw [← v16_apply x0 x1 x2 r k]
  have e0 : lidx_main_v18 (ix2 r j) k = ix2 r k := by funext a; fin_cases a <;> rfl
  have e1 : ridx_main_v18 (ix2 r j) k = ix2 k j := by funext a; fin_cases a <;> rfl
  rw [e0, e1]
  refine congrArg (val_main_v16 (F := Ideal) x0 x1 x2 (ix2 r k) * ·) ?_
  pointwise [val_main_v17]

theorem v33_apply (r : Fin 40960) (j : Fin 11264) :
    val_main_v33 (F := Ideal) x0 x1 x2 x3 (ix2 r j) = mainCol x0 x1 x2 x3 r j := by
  pointwise [val_main_v33, val_main_v32, val_main_v31, val_main_v30, val_main_v29, val_main_v28, val_main_v27, val_main_cst_2, val_main_cst_3, val_main_v19, val_main_v20, val_main_v21, val_main_v22, val_main_v23, val_main_v25, val_main_v26]
  rw [scale_eq]
  simp only [v18_apply]
  exact pick_main j (fun q => proj x0 x1 x2 x3 r q) (fun a => Ideal.div a (scale : EReal))

theorem v36_apply (r : Fin 40960) (j : Fin 128) :
    val_main_v36 (F := Ideal) x0 x1 x2 x3 (ix2 r j) = krCol x0 x1 x2 x3 r j := by
  pointwise [val_main_v36, val_main_v35, val_main_v34, val_main_v24]
  simp only [v18_apply]
  exact pick_kr j (fun q => proj x0 x1 x2 x3 r q)

end Cert.Proof.Inproj.Reference

end
-- ==== Proof.ExBody.lean ====
module

public import proofs.«01_k».proof.Proof.Gen.Kernel3Ideal
public import proofs.«01_k».proof.Proof.Gen.Kernel3Ideal.Skeleton
public import proofs.«01_k».proof.Proof.Gen.Kernel3Ideal.Launch
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Lib.VecWindow

/-! The experts' body on whole buffers. At the first half of the hidden columns of a block of rows it keeps the rows and starts the
    accumulator at the bias; at each half it adds that half's product; at the second it leaves the accumulator. At a block that holds
    no rows it leaves zeros at the second half and nothing at the first. -/

@[expose] public section

set_option maxRecDepth 16384

noncomputable section

namespace Cert.Proof.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000

/-- The two tables, whole. -/
abbrev tb0 : Memref sig .tc .smem S352 .i32 := Memref.whole main_arg0
abbrev tb1 : Memref sig .tc .smem S1 .i32 := Memref.whole main_arg1

/-- The word the body reads off the second table. -/
abbrev word (T1 : S1.Idx → Elt F .i32) : BitVec 32 :=
  View.readAt (Elt F) (tb1).view (Rect.unit (s := S1) ![0] S1.size inb_S1_S1_0).toLoadRect T1 (Shape.Idx.first (numel1_S1.symm ▸ Nat.one_pos))

/-- Whether the block of rows of grid point `i` holds rows, as the body decides it. -/
abbrev Used (i : grid0.Coords) (w : BitVec 32) : Prop := Scalar.cmpi .ne (Scalar.extui (Scalar.cmpi .slt (BitVec.ofNat 32 (i 0).val) w)) 0#32 = 1#1
/-- Whether grid point `i` is at the first half of the hidden columns, as the body decides it. -/
abbrev Fst (i : grid0.Coords) : Prop := Scalar.cmpi .ne (Scalar.extui (Scalar.cmpi .eq (BitVec.ofNat 32 (i 1).val) 0#32)) 0#32 = 1#1

/-- The accumulator after a half of the hidden columns, from what it was. -/
def acc (h : FVec F S512x2048 .bf16) (wg : FVec F S1x2048x1024 .bf16) (bg : FVec F S1x1x1024 .f32) (wu : FVec F S1x2048x1024 .bf16)
    (bu : FVec F S1x1x1024 .f32) (wd : FVec F S1x1024x2048 .bf16) (a : FVec F S512x2048 .f32) : FVec F S512x2048 .f32 :=
  k0_pay1 (k0_pay6 h wu bu) (k0_pay7 h wg bg) a wd

theorem acc_of {h h' : FVec F S512x2048 .bf16} {wg wg' : FVec F S1x2048x1024 .bf16} {bg bg' : FVec F S1x1x1024 .f32} {wu wu' : FVec F S1x2048x1024 .bf16}
    {bu bu' : FVec F S1x1x1024 .f32} {wd wd' : FVec F S1x1024x2048 .bf16} {a a' : FVec F S512x2048 .f32} (eh : h = h') (eg : wg = wg') (eb : bg = bg')
    (eu : wu = wu') (ev : bu = bu') (ed : wd = wd') (ea : a = a') :
    k0_pay1 (k0_pay6 h wu bu) (k0_pay7 h wg bg) a wd = acc h' wg' bg' wu' bu' wd' a' := by
  subst eh eg eb eu ev ed ea; rfl

variable (c : Dev nD) (i : grid0.Coords) (T1 : S1.Idx → Elt F .i32)
  (arg4 : Memref sig .tc .vmem S512x2048 .bf16) (harg4 : arg4.IsWhole) (arg5 : Memref sig .tc .vmem S1x2048x1024 .bf16) (harg5 : arg5.IsWhole)
  (arg6 : Memref sig .tc .vmem S1x1x1024 .f32) (harg6 : arg6.IsWhole) (arg7 : Memref sig .tc .vmem S1x2048x1024 .bf16) (harg7 : arg7.IsWhole)
  (arg8 : Memref sig .tc .vmem S1x1x1024 .f32) (harg8 : arg8.IsWhole) (arg9 : Memref sig .tc .vmem S1x1024x2048 .bf16) (harg9 : arg9.IsWhole)
  (arg10 : Memref sig .tc .vmem S1x1x2048 .f32) (harg10 : arg10.IsWhole) (arg11 : Memref sig .tc .vmem S512x2048 .bf16) (harg11 : arg11.IsWhole)
  (arg12 : Memref sig .tc .vmem S512x2048 .bf16) (harg12 : arg12.IsWhole) (arg13 : Memref sig .tc .vmem S512x2048 .f32) (harg13 : arg13.IsWhole)
  (x4 : FVec F S512x2048 .bf16) (x5 : FVec F S1x2048x1024 .bf16) (x6 : FVec F S1x1x1024 .f32) (x7 : FVec F S1x2048x1024 .bf16)
  (x8 : FVec F S1x1x1024 .f32) (x9 : FVec F S1x1024x2048 .bf16) (x10 : FVec F S1x1x2048 .f32)

/-- At a block that holds rows, the first half: the rows kept, the accumulator at the bias and the first half's product, the result untouched. -/
theorem body_used_fst (hu : Used i (word T1)) (hf : Fst i) (c3 : ¬ k0_cond3 i = 1#1) (x11 : FVec F S512x2048 .bf16) :
    (iprop(owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ (tb1.view.loc (c : Thread nD τ) ↦{fullShare.right} T1)
        ∗ owns (c : Thread nD τ) arg11 fullShare x11 ∗ (∃ d, owns (c : Thread nD τ) arg12 fullShare d) ∗ (∃ d, owns (c : Thread nD τ) arg13 fullShare d)) : sProp 𝕄)
      ⊢ wp frame (wpE defs₀ Variants.none (c : Thread nD τ) none) Set.univ (cc0_moe_experts (F := F) i tb0 (Memref.isWhole_whole _) tb1 (Memref.isWhole_whole _) arg4 harg4 arg5 harg5 arg6 harg6 arg7 harg7 arg8 harg8 arg9 harg9 arg10 harg10 arg11 harg11 arg12 harg12 arg13 harg13)
          (fun _ => (iprop(owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ (tb1.view.loc (c : Thread nD τ) ↦{fullShare.right} T1)
        ∗ owns (c : Thread nD τ) arg11 fullShare x11 ∗ owns (c : Thread nD τ) arg12 fullShare (k0_pay4 x4) ∗ owns (c : Thread nD τ) arg13 fullShare (acc (k0_pay4 x4) x5 x6 x7 x8 x9 (k0_pay5 x10))) : sProp 𝕄)) := by
  rw [cc0_moe_experts_eq_skeleton]
  unfold cc0_moe_experts_skel owns
  rw [harg4.set_eq_univ, harg5.set_eq_univ, harg6.set_eq_univ, harg7.set_eq_univ, harg8.set_eq_univ, harg9.set_eq_univ, harg10.set_eq_univ, harg11.set_eq_univ, harg12.set_eq_univ, harg13.set_eq_univ]
  have hT1 : tb1.IsWhole := Memref.isWhole_whole _
  iintro ⟨⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, HT, ⟨%f11, %h11, H11⟩, ⟨%d12, %f12, -, H12⟩, ⟨%d13, %f13, -, H13⟩⟩
  sl_exec (disch := first | (guard_target = Scalar.cmpi _ (Scalar.extui (Scalar.cmpi .slt _ _)) _ = _; exact hu) | (guard_target = Scalar.cmpi _ (Scalar.extui (Scalar.cmpi .eq _ _)) _ = _; exact hf) | (guard_target = ¬(k0_cond3 _ = _); exact c3))
  sl_step
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [HT]; · iexact HT
  isplitl [H11]
  · iexists _; isplitr; swap; · iexact H11
    ipureintro; exact h11
  isplitl [H12]
  · iexists _; isplitr; swap; · iexact H12
    ipureintro
    refine (View.read_writes_full arg12.view f12 _ _ []).trans ?_
    exact congrArg k0_pay4 ((View.readAt_full arg4.view f4 _).trans h4)
  · iexists _; isplitr; swap; · iexact H13
    ipureintro
    refine (View.read_writes_full arg13.view f13 _ _ _).trans ?_
    exact acc_of ((View.readCov_full arg12.view _ _ _ []).trans (congrArg k0_pay4 ((View.readAt_full arg4.view f4 _).trans h4)))
       ((View.readAt_full arg5.view f5 _).trans h5) ((View.readAt_full arg6.view f6 _).trans h6) ((View.readAt_full arg7.view f7 _).trans h7) ((View.readAt_full arg8.view f8 _).trans h8) ((View.readAt_full arg9.view f9 _).trans h9)
      ((View.readCov_full arg13.view _ _ _ []).trans (congrArg k0_pay5 ((View.readAt_full arg10.view f10 _).trans h10)))

/-- At a block that holds rows, the second half: the second half's product added, the result the accumulator. -/
theorem body_used_snd (hu : Used i (word T1)) (hf : ¬ Fst i) (c3 : k0_cond3 i = 1#1) (c4 : k0_cond4 i (word T1) = 1#1) (c5 : ¬ k0_cond5 i (word T1) = 1#1) (h : FVec F S512x2048 .bf16) (a : FVec F S512x2048 .f32) :
    (iprop(owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ (tb1.view.loc (c : Thread nD τ) ↦{fullShare.right} T1)
        ∗ (∃ d, owns (c : Thread nD τ) arg11 fullShare d) ∗ owns (c : Thread nD τ) arg12 fullShare h ∗ owns (c : Thread nD τ) arg13 fullShare a) : sProp 𝕄)
      ⊢ wp frame (wpE defs₀ Variants.none (c : Thread nD τ) none) Set.univ (cc0_moe_experts (F := F) i tb0 (Memref.isWhole_whole _) tb1 (Memref.isWhole_whole _) arg4 harg4 arg5 harg5 arg6 harg6 arg7 harg7 arg8 harg8 arg9 harg9 arg10 harg10 arg11 harg11 arg12 harg12 arg13 harg13)
          (fun _ => (iprop(owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ (tb1.view.loc (c : Thread nD τ) ↦{fullShare.right} T1)
        ∗ owns (c : Thread nD τ) arg11 fullShare (k0_pay2 (acc h x5 x6 x7 x8 x9 a)) ∗ owns (c : Thread nD τ) arg12 fullShare h ∗ owns (c : Thread nD τ) arg13 fullShare (acc h x5 x6 x7 x8 x9 a)) : sProp 𝕄)) := by
  rw [cc0_moe_experts_eq_skeleton]
  unfold cc0_moe_experts_skel owns
  rw [harg4.set_eq_univ, harg5.set_eq_univ, harg6.set_eq_univ, harg7.set_eq_univ, harg8.set_eq_univ, harg9.set_eq_univ, harg10.set_eq_univ, harg11.set_eq_univ, harg12.set_eq_univ, harg13.set_eq_univ]
  have hT1 : tb1.IsWhole := Memref.isWhole_whole _
  iintro ⟨⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, HT, ⟨%d11, %f11, -, H11⟩, ⟨%f12, %h12, H12⟩, ⟨%f13, %h13, H13⟩⟩
  sl_exec (disch := first | (guard_target = Scalar.cmpi _ (Scalar.extui (Scalar.cmpi .slt _ _)) _ = _; exact hu) | (guard_target = ¬(Scalar.cmpi _ (Scalar.extui (Scalar.cmpi .eq _ _)) _ = _); exact hf) | (guard_target = k0_cond3 _ = _; exact c3) | (guard_target = k0_cond4 _ _ = _; exact c4) | (guard_target = ¬(k0_cond5 _ _ = _); exact c5))
  sl_step
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [HT]; · iexact HT
  have ea : k0_pay1 (k0_pay6 (arg12.view.readAt (Elt F) (Rect.unit (s := S512x2048) ![0, 0] S512x2048.size inb_S512x2048_S512x2048_0_0).toLoadRect f12) (arg7.view.readAt (Elt F) (Rect.unit (s := S1x2048x1024) ![0, 0, 0] S1x2048x1024.size inb_S1x2048x1024_S1x2048x1024_0_0_0).toLoadRect f7) (arg8.view.readAt (Elt F) (Rect.unit (s := S1x1x1024) ![0, 0, 0] S1x1x1024.size inb_S1x1x1024_S1x1x1024_0_0_0).toLoadRect f8))
      (k0_pay7 (arg12.view.readAt (Elt F) (Rect.unit (s := S512x2048) ![0, 0] S512x2048.size inb_S512x2048_S512x2048_0_0).toLoadRect f12) (arg5.view.readAt (Elt F) (Rect.unit (s := S1x2048x1024) ![0, 0, 0] S1x2048x1024.size inb_S1x2048x1024_S1x2048x1024_0_0_0).toLoadRect f5) (arg6.view.readAt (Elt F) (Rect.unit (s := S1x1x1024) ![0, 0, 0] S1x1x1024.size inb_S1x1x1024_S1x1x1024_0_0_0).toLoadRect f6))
      (arg13.view.readAt (Elt F) (Rect.unit (s := S512x2048) ![0, 0] S512x2048.size inb_S512x2048_S512x2048_0_0).toLoadRect f13) (arg9.view.readAt (Elt F) (Rect.unit (s := S1x1024x2048) ![0, 0, 0] S1x1024x2048.size inb_S1x1024x2048_S1x1024x2048_0_0_0).toLoadRect f9) = acc h x5 x6 x7 x8 x9 a :=
    acc_of ((View.readAt_full arg12.view f12 _).trans h12)
       ((View.readAt_full arg5.view f5 _).trans h5) ((View.readAt_full arg6.view f6 _).trans h6) ((View.readAt_full arg7.view f7 _).trans h7) ((View.readAt_full arg8.view f8 _).trans h8) ((View.readAt_full arg9.view f9 _).trans h9) ((View.readAt_full arg13.view f13 _).trans h13)
  isplitl [H11]
  · iexists _; isplitr; swap; · iexact H11
    ipureintro
    refine (View.read_writes_full arg11.view f11 _ _ []).trans ?_
    exact congrArg k0_pay2 ((View.readCov_full arg13.view _ _ _ []).trans ea)
  isplitl [H12]
  · iexists _; isplitr; swap; · iexact H12
    ipureintro; exact h12
  · iexists _; isplitr; swap; · iexact H13
    ipureintro
    exact (View.read_writes_full arg13.view f13 _ _ []).trans ea

/-- At a block that holds no rows, the first half: nothing. -/
theorem body_free_fst (hu : ¬ Used i (word T1)) (c3 : ¬ k0_cond3 i = 1#1) (x11 : FVec F S512x2048 .bf16) :
    (iprop(owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ (tb1.view.loc (c : Thread nD τ) ↦{fullShare.right} T1)
        ∗ owns (c : Thread nD τ) arg11 fullShare x11 ∗ (∃ d, owns (c : Thread nD τ) arg12 fullShare d) ∗ (∃ d, owns (c : Thread nD τ) arg13 fullShare d)) : sProp 𝕄)
      ⊢ wp frame (wpE defs₀ Variants.none (c : Thread nD τ) none) Set.univ (cc0_moe_experts (F := F) i tb0 (Memref.isWhole_whole _) tb1 (Memref.isWhole_whole _) arg4 harg4 arg5 harg5 arg6 harg6 arg7 harg7 arg8 harg8 arg9 harg9 arg10 harg10 arg11 harg11 arg12 harg12 arg13 harg13)
          (fun _ => (iprop(owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ (tb1.view.loc (c : Thread nD τ) ↦{fullShare.right} T1)
        ∗ owns (c : Thread nD τ) arg11 fullShare x11 ∗ (∃ d, owns (c : Thread nD τ) arg12 fullShare d) ∗ (∃ d, owns (c : Thread nD τ) arg13 fullShare d)) : sProp 𝕄)) := by
  rw [cc0_moe_experts_eq_skeleton]
  unfold cc0_moe_experts_skel owns
  rw [harg4.set_eq_univ, harg5.set_eq_univ, harg6.set_eq_univ, harg7.set_eq_univ, harg8.set_eq_univ, harg9.set_eq_univ, harg10.set_eq_univ, harg11.set_eq_univ, harg12.set_eq_univ, harg13.set_eq_univ]
  have hT1 : tb1.IsWhole := Memref.isWhole_whole _
  iintro ⟨⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, HT, ⟨%f11, %h11, H11⟩, ⟨%d12, %f12, %h12, H12⟩, ⟨%d13, %f13, %h13, H13⟩⟩
  sl_exec (disch := first | (guard_target = ¬(Scalar.cmpi _ (Scalar.extui (Scalar.cmpi .slt _ _)) _ = _); exact hu) | (guard_target = ¬(k0_cond3 _ = _); exact c3))
  sl_step
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [HT]; · iexact HT
  isplitl [H11]
  · iexists _; isplitr; swap; · iexact H11
    ipureintro; exact h11
  isplitl [H12]
  · iexists _; iexists _; isplitr; swap; · iexact H12
    ipureintro; exact h12
  · iexists _; iexists _; isplitr; swap; · iexact H13
    ipureintro; exact h13

/-- At a block that holds no rows, the second half: the result zeros. -/
theorem body_free_snd (hu : ¬ Used i (word T1)) (c3 : k0_cond3 i = 1#1) (c4 : ¬ k0_cond4 i (word T1) = 1#1) (c5 : k0_cond5 i (word T1) = 1#1) :
    (iprop(owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ (tb1.view.loc (c : Thread nD τ) ↦{fullShare.right} T1)
        ∗ (∃ d, owns (c : Thread nD τ) arg11 fullShare d) ∗ (∃ d, owns (c : Thread nD τ) arg12 fullShare d) ∗ (∃ d, owns (c : Thread nD τ) arg13 fullShare d)) : sProp 𝕄)
      ⊢ wp frame (wpE defs₀ Variants.none (c : Thread nD τ) none) Set.univ (cc0_moe_experts (F := F) i tb0 (Memref.isWhole_whole _) tb1 (Memref.isWhole_whole _) arg4 harg4 arg5 harg5 arg6 harg6 arg7 harg7 arg8 harg8 arg9 harg9 arg10 harg10 arg11 harg11 arg12 harg12 arg13 harg13)
          (fun _ => (iprop(owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ (tb1.view.loc (c : Thread nD τ) ↦{fullShare.right} T1)
        ∗ owns (c : Thread nD τ) arg11 fullShare k0_pay3 ∗ (∃ d, owns (c : Thread nD τ) arg12 fullShare d) ∗ (∃ d, owns (c : Thread nD τ) arg13 fullShare d)) : sProp 𝕄)) := by
  rw [cc0_moe_experts_eq_skeleton]
  unfold cc0_moe_experts_skel owns
  rw [harg4.set_eq_univ, harg5.set_eq_univ, harg6.set_eq_univ, harg7.set_eq_univ, harg8.set_eq_univ, harg9.set_eq_univ, harg10.set_eq_univ, harg11.set_eq_univ, harg12.set_eq_univ, harg13.set_eq_univ]
  have hT1 : tb1.IsWhole := Memref.isWhole_whole _
  iintro ⟨⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, HT, ⟨%d11, %f11, -, H11⟩, ⟨%d12, %f12, %h12, H12⟩, ⟨%d13, %f13, %h13, H13⟩⟩
  sl_exec (disch := first | (guard_target = ¬(Scalar.cmpi _ (Scalar.extui (Scalar.cmpi .slt _ _)) _ = _); exact hu) | (guard_target = k0_cond3 _ = _; exact c3) | (guard_target = ¬(k0_cond4 _ _ = _); exact c4) | (guard_target = k0_cond5 _ _ = _; exact c5))
  sl_step
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [HT]; · iexact HT
  isplitl [H11]
  · iexists _; isplitr; swap; · iexact H11
    ipureintro
    exact View.read_writes_full arg11.view f11 _ _ []
  isplitl [H12]
  · iexists _; iexists _; isplitr; swap; · iexact H12
    ipureintro; exact h12
  · iexists _; iexists _; isplitr; swap; · iexact H13
    ipureintro; exact h13

end Cert.Proof.Experts
end
-- ==== Proof.ExTables.lean ====
module

public import proofs.«01_k».proof.Proof.ExBody
public import Idealize.ShloMosaic.Lib.Affine
public import Idealize.ShloMosaic.Lib.WordCmp

/-! The two tables of the experts' call, the block each window takes at each grid point, and which points hold rows. -/

@[expose] public section

set_option maxRecDepth 16384

noncomputable section

namespace Cert.Proof.Experts

open Cert.Kernel3Ideal Cert.Kernel3Ideal.Gen
open Idealize.ShloMosaic Idealize.ShloMosaic.TcCoe Idealize.ShloMosaic.WordCmp

/-- What the call is asked of its tables: every block's expert is one of the 32, and at least one block is in use. -/
structure Routed (b : S352.Idx → BitVec 32) (n : S1.Idx → BitVec 32) : Prop where
  expert : ∀ j, (b j).toNat < 32
  used : ∀ j, 1 ≤ (n j).toInt

variable {F : FTy → Type} [FloatOps F]

/-- The tables' contents. -/
def pfOf (b : S352.Idx → BitVec 32) (n : S1.Idx → BitVec 32) : pre0.Contents (Elt F) :=
  fun | ⟨0, _⟩ => b | ⟨1, _⟩ => n | ⟨_ + 2, h⟩ => absurd h (by simp)

/-- The one index of the second table. -/
abbrev o1 : S1.Idx := Shape.Idx.first (numel1_S1.symm ▸ Nat.one_pos)
theorem o1_eq (x y : S1.Idx) : x = y := funext fun a => by
  have h : ∀ u v : Fin (S1.size a), u = v := by
    match a with | ⟨0, _⟩ => exact fun u v => Subsingleton.elim (α := Fin 1) u v
  exact h _ _

/-- The index of the first table at grid point `i`. -/
def bx (i : grid0.Coords) : S352.Idx := fun a => ⟨(i 0).val, by
  match a with | ⟨0, _⟩ => exact (i 0).isLt⟩

variable (b : S352.Idx → BitVec 32) (n : S1.Idx → BitVec 32) (i : grid0.Coords)

theorem word_eq : word (F := F) n = n o1 := congrArg n (o1_eq _ _)
theorem at1_eq (h : ∀ a, (![0] : Fin 1 → Nat) a + S1.size a ≤ S1.size a) :
    ((pfOf (F := F) b n).at 1 (Rect.unit (s := S1) ![0] S1.size h) numel1_S1 : BitVec 32) = n o1 := congrArg n (o1_eq _ _)
theorem atD1_eq : ((pfOf (F := F) b n).atD 1 ![0] : BitVec 32) = n o1 := by
  unfold Pipeline.Prefetch.Contents.atD
  split
  · exact congrArg n (o1_eq _ _)
  · rename_i h; exact absurd (by decide) h

theorem ofNat_i0 : (BitVec.ofNat 32 (i 0).val).toNat = (i 0).val := by
  rw [BitVec.toNat_ofNat]; exact Nat.mod_eq_of_lt (Nat.lt_trans (i 0).isLt (show (352 : ℕ) < 2 ^ 32 by decide))
theorem at0_eq : ((pfOf (F := F) b n).at 0 (Rect.unit (s := S352) (k0_off1 i) S1.size (k0_off1_inb i)) numel1_S1 : BitVec 32) = b (bx i) := by
  refine congrArg b (funext fun a => Fin.ext ?_)
  match a with
  | ⟨0, _⟩ =>
    show (BitVec.ofNat 32 (i 0).val).toNat + 1 * (o1 0).val = (i 0).val
    have : (o1 0).val = 0 := by have := (o1 0).isLt; have h : (o1 0).val < 1 := this; omega
    rw [this, ofNat_i0]; omega

/-! ## Which points hold rows, and which half a point is at -/

theorem used_iff (w : BitVec 32) : Used i w ↔ Scalar.cmpi .slt (BitVec.ofNat 32 (i 0).val) w = 1#1 := by
  unfold Used
  generalize Scalar.cmpi .slt (BitVec.ofNat 32 (i 0).val) w = x
  revert x; decide
theorem cond4_iff (w : BitVec 32) : k0_cond4 i w = 1#1 ↔ Used i w := Iff.rfl
theorem cond5_iff (w : BitVec 32) : k0_cond5 i w = 1#1 ↔ ¬ Used i w := by
  unfold k0_cond5 Used
  dsimp only
  generalize Scalar.cmpi .slt (BitVec.ofNat 32 (i 0).val) w = x
  revert x; decide

theorem cond3_iff : ∀ t : Fin grid0.N, k0_cond3 (grid0.coords t) = 1#1 ↔ t.val % 2 = 1 := by decide +kernel
theorem fst_iff : ∀ t : Fin grid0.N, Fst (grid0.coords t) ↔ t.val % 2 = 0 := by
  unfold Fst; decide +kernel
theorem coords0 : ∀ t : Fin grid0.N, ((grid0.coords t) 0).val = t.val / 2 := by decide +kernel
theorem coords1 : ∀ t : Fin grid0.N, ((grid0.coords t) 1).val = t.val % 2 := by decide +kernel
theorem flush7' : ∀ t : Fin grid0.N, Pipeline.Window.flushOf grid0 true cc0_transform_7 t = true ↔ t.val % 2 = 1 := by decide +kernel

/-- Whether a block holds rows, over the integers. -/
theorem used_iff_lt (hn : 1 ≤ (n o1).toInt) : Used i (n o1) ↔ (i 0).val < (n o1).toNat := by
  rw [used_iff]
  have hi : (i 0).val < 352 := (i 0).isLt
  have hpos : (n o1).toNat < 2 ^ 31 := (toInt_nonneg_iff_lt_half (n o1)).mp (by omega)
  show IntOp.cmpi .slt _ _ = 1#1 ↔ _
  rw [cmpi_slt_eq, ofBool_decide_eq_one_iff, toInt_eq_toNat_of_lt_half hpos,
    toInt_eq_toNat_of_lt_half (x := BitVec.ofNat 32 (i 0).val) (by rw [ofNat_i0]; exact Nat.lt_trans hi (by decide)), ofNat_i0]
  exact Int.ofNat_lt

/-! ## The block each window takes -/

/-- The half of the hidden columns a point takes: its own at a block that holds rows, the second one elsewhere. -/
def half : ℕ := (Scalar.select (Scalar.cmpi .slt (BitVec.ofNat 32 (i 0).val) (n o1)) (BitVec.ofNat 32 (i 1).val) 1#32).toNat
/-- The block of rows a point takes: its own at a block that holds rows, the last one in use elsewhere. -/
def row : ℕ := (Scalar.minsi (BitVec.ofNat 32 (i 0).val) (Scalar.subi (n o1) 1#32)).toNat

theorem half_lt : half n i < 2 := by
  unfold half Scalar.select
  have h1 : (i 1).val < 2 := (i 1).isLt
  split
  · rw [BitVec.toNat_ofNat, Nat.mod_eq_of_lt (by omega)]; exact h1
  · decide
theorem half_used (h : Used i (n o1)) : half n i = (i 1).val := by
  unfold half Scalar.select
  have h1 : (i 1).val < 2 := (i 1).isLt
  rw [if_pos (show Scalar.cmpi .slt (BitVec.ofNat 32 (i 0).val) (n o1) = 1 from (used_iff i _).mp h), BitVec.toNat_ofNat, Nat.mod_eq_of_lt (by omega)]

theorem row_min (hn : 1 ≤ (n o1).toInt) : row n i = min (i 0).val ((n o1).toNat - 1) := by
  have hi : (i 0).val < 352 := (i 0).isLt
  have hpos : (n o1).toNat < 2 ^ 31 := (toInt_nonneg_iff_lt_half (n o1)).mp (by omega)
  have e := toInt_eq_toNat_of_lt_half (w := 32) (x := n o1) hpos
  have hs : (n o1 - 1#32).toNat = (n o1).toNat - 1 := by
    rw [BitVec.toNat_sub_of_le]
    · rfl
    · show (1 : ℕ) ≤ (n o1).toNat
      omega
  unfold row Scalar.minsi Scalar.subi IntOp.minsi IntOp.subi
  have key : ((BitVec.ofNat 32 (i 0).val).slt (n o1 - 1#32)) = decide ((i 0).val < (n o1).toNat - 1) := by
    rw [BitVec.slt_eq_decide, toInt_eq_toNat_of_lt_half (w := 32) (x := BitVec.ofNat 32 (i 0).val) (by rw [ofNat_i0]; exact Nat.lt_trans hi (by decide)),
      toInt_eq_toNat_of_lt_half (w := 32) (x := n o1 - 1#32) (by rw [hs]; omega), hs, ofNat_i0]
    exact decide_eq_decide.mpr Int.ofNat_lt
  rw [key]
  by_cases h : (i 0).val < (n o1).toNat - 1
  · rw [decide_eq_true h, if_pos rfl, ofNat_i0]; omega
  · rw [decide_eq_false h, if_neg Bool.false_ne_true, hs]; omega
theorem row_used (hn : 1 ≤ (n o1).toInt) (h : Used i (n o1)) : row n i = (i 0).val := by
  rw [row_min n i hn]; have := (used_iff_lt n i hn).mp h; omega

theorem tr0_eq : cc0_transform_0 inb_S1_S1_0 numel1_S1 (pfOf (F := F) b n) i = ![row n i, 0] := by
  unfold cc0_transform_0; dsimp only; rw [at1_eq]; rfl
/-- What the weight windows' maps have in common: the expert's number and the half. -/
theorem tr_eq {α : Sort*} (f : BitVec 32 → BitVec 32 → α) :
    f ((pfOf (F := F) b n).at 0 (Rect.unit (s := S352) (k0_off1 i) S1.size (k0_off1_inb i)) numel1_S1)
      ((pfOf (F := F) b n).at 1 (Rect.unit (s := S1) ![0] S1.size inb_S1_S1_0) numel1_S1) = f (b (bx i)) (n o1) :=
  congrArg₂ f (at0_eq b n i) (at1_eq b n _)
theorem tr1_eq : cc0_transform_1 k0_off1_inb numel1_S1 inb_S1_S1_0 (pfOf (F := F) b n) i = ![(b (bx i)).toNat, 0, half n i] :=
  tr_eq b n i fun u w => ![u.toNat, 0, (Scalar.select (Scalar.cmpi .slt (BitVec.ofNat 32 (i 0).val) w) (BitVec.ofNat 32 (i 1).val) 1#32).toNat]
theorem tr2_eq : cc0_transform_2 k0_off1_inb numel1_S1 inb_S1_S1_0 (pfOf (F := F) b n) i = ![(b (bx i)).toNat, 0, half n i] :=
  tr_eq b n i fun u w => ![u.toNat, 0, (Scalar.select (Scalar.cmpi .slt (BitVec.ofNat 32 (i 0).val) w) (BitVec.ofNat 32 (i 1).val) 1#32).toNat]
theorem tr3_eq : cc0_transform_3 k0_off1_inb numel1_S1 inb_S1_S1_0 (pfOf (F := F) b n) i = ![(b (bx i)).toNat, 0, half n i] :=
  tr_eq b n i fun u w => ![u.toNat, 0, (Scalar.select (Scalar.cmpi .slt (BitVec.ofNat 32 (i 0).val) w) (BitVec.ofNat 32 (i 1).val) 1#32).toNat]
theorem tr4_eq : cc0_transform_4 k0_off1_inb numel1_S1 inb_S1_S1_0 (pfOf (F := F) b n) i = ![(b (bx i)).toNat, 0, half n i] :=
  tr_eq b n i fun u w => ![u.toNat, 0, (Scalar.select (Scalar.cmpi .slt (BitVec.ofNat 32 (i 0).val) w) (BitVec.ofNat 32 (i 1).val) 1#32).toNat]
theorem tr5_eq : cc0_transform_5 k0_off1_inb numel1_S1 inb_S1_S1_0 (pfOf (F := F) b n) i = ![(b (bx i)).toNat, half n i, 0] :=
  tr_eq b n i fun u w => ![u.toNat, (Scalar.select (Scalar.cmpi .slt (BitVec.ofNat 32 (i 0).val) w) (BitVec.ofNat 32 (i 1).val) 1#32).toNat, 0]
theorem tr6_eq : cc0_transform_6 k0_off1_inb numel1_S1 (pfOf (F := F) b n) i = ![(b (bx i)).toNat, 0, 0] :=
  tr_eq b n i fun u w => ![u.toNat, 0, 0]

/-- Every block lies inside its array and starts and ends at whole words. -/
theorem ok_of (h : Routed b n) : ok0 (pfOf (F := F) b n) := by
  refine ⟨fun i => ⟨?_, .inr (Affine.block_words_dvd (s := S180224x2048) (p := EltTy.packing .bf16) (by decide) (by decide))⟩,
    fun i => ⟨?_, .inr (Affine.block_words_dvd (s := S32x2048x2048) (p := EltTy.packing .bf16) (by decide) (by decide))⟩, fun i => ⟨?_, .inl rfl⟩,
    fun i => ⟨?_, .inr (Affine.block_words_dvd (s := S32x2048x2048) (p := EltTy.packing .bf16) (by decide) (by decide))⟩, fun i => ⟨?_, .inl rfl⟩,
    fun i => ⟨?_, .inr (Affine.block_words_dvd (s := S32x2048x2048) (p := EltTy.packing .bf16) (by decide) (by decide))⟩, fun i => ⟨?_, .inl rfl⟩⟩
  · intro a
    rw [tr0_eq]
    have hr : row n i < 352 := by rw [row_min n i (h.used _)]; have : (i 0).val < 352 := (i 0).isLt; omega
    match a with
    | ⟨0, _⟩ => show (row n i + 1) * 512 ≤ 180224; omega
    | ⟨1, _⟩ => show (0 + 1) * 2048 ≤ 2048; omega
  all_goals intro a; have hb := h.expert (bx i); have hh := half_lt n i
  · rw [tr1_eq]
    match a with
    | ⟨0, _⟩ => show ((b (bx i)).toNat + 1) * 1 ≤ 32; omega
    | ⟨1, _⟩ => show (0 + 1) * 2048 ≤ 2048; omega
    | ⟨2, _⟩ => show (half n i + 1) * 1024 ≤ 2048; omega
  · rw [tr2_eq]
    match a with
    | ⟨0, _⟩ => show ((b (bx i)).toNat + 1) * 1 ≤ 32; omega
    | ⟨1, _⟩ => show (0 + 1) * 1 ≤ 1; omega
    | ⟨2, _⟩ => show (half n i + 1) * 1024 ≤ 2048; omega
  · rw [tr3_eq]
    match a with
    | ⟨0, _⟩ => show ((b (bx i)).toNat + 1) * 1 ≤ 32; omega
    | ⟨1, _⟩ => show (0 + 1) * 2048 ≤ 2048; omega
    | ⟨2, _⟩ => show (half n i + 1) * 1024 ≤ 2048; omega
  · rw [tr4_eq]
    match a with
    | ⟨0, _⟩ => show ((b (bx i)).toNat + 1) * 1 ≤ 32; omega
    | ⟨1, _⟩ => show (0 + 1) * 1 ≤ 1; omega
    | ⟨2, _⟩ => show (half n i + 1) * 1024 ≤ 2048; omega
  · rw [tr5_eq]
    match a with
    | ⟨0, _⟩ => show ((b (bx i)).toNat + 1) * 1 ≤ 32; omega
    | ⟨1, _⟩ => show (half n i + 1) * 1024 ≤ 2048; omega
    | ⟨2, _⟩ => show (0 + 1) * 2048 ≤ 2048; omega
  · rw [tr6_eq]
    match a with
    | ⟨0, _⟩ => show ((b (bx i)).toNat + 1) * 1 ≤ 32; omega
    | ⟨1, _⟩ => show (0 + 1) * 1 ≤ 1; omega
    | ⟨2, _⟩ => show (0 + 1) * 2048 ≤ 2048; omega

/-- The tables with their side condition. -/
def admOf (h : Routed b n) : (pcfg0 (F := F)).Adm := ⟨pfOf b n, ok_of b n h⟩

end Cert.Proof.Experts
end
-- ==== Proof.ExRun.lean ====
module

public import proofs.«01_k».proof.Proof.ExTables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Adequacy
public import Idealize.ShloMosaic.Init

/-! The experts' launch, at any tables it may be called with: what every buffer holds after every grid point. A block that holds rows
    keeps them and the accumulator in the two scratch buffers between its two points. -/

@[expose] public section

set_option maxRecDepth 16384

noncomputable section

namespace Cert.Proof.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000

/-- The staging cells' resource algebra, whole. -/
abbrev EP : Emb (UR sig nD τ) (MT nD τ sig Unit (Elt F) ℕ (UR sig nD τ) ℕ) := emb₁

variable (b : S352.Idx → BitVec 32) (n : S1.Idx → BitVec 32) (hr : Routed b n)
variable (m : (ℓ : Loc nD τ sig) → Buf (Elt F) ℓ) (ρ : Dev nD → PrngReg)

/-- The pipeline at these tables. -/
abbrev cfgA : Pipeline.Cfg sig Λ₀ := cfg0 (F := F) (admOf b n hr)
abbrev pcs : Fin 1 → Pipeline.Cfg sig Λ₀ := Pipeline.pin (pcfgs (F := F)) fun _ => admOf b n hr

/-- The memory holds these tables. -/
def Holds : Prop := ∀ c : Dev nD, m ((c : Thread nD τ).loc main_arg0) = b ∧ m ((c : Thread nD τ).loc main_arg1) = n

/-- A window's block at a point, read off its array at the launch. -/
def iblk (c : Dev nD) (w : Fin (cfgA (F := F) b n hr).W) (t : Fin (cfgA (F := F) b n hr).N) :
    (((cfgA (F := F) b n hr).win w).xblock ((cfgA (F := F) b n hr).grid.coords t)).Idx → Elt F ((cfgA (F := F) b n hr).win w).elt :=
  (((cfgA (F := F) b n hr).win w).blk t).view.read (Elt F) (m (((cfgA (F := F) b n hr).win w).arr.view.loc (c : Thread nD τ)))

/-- The first point of the block of rows of point `t`. -/
def base (t : Fin grid0.N) : Fin grid0.N := ⟨t.val - t.val % 2, Nat.lt_of_le_of_lt (Nat.sub_le _ _) t.isLt⟩

/-- The rows kept through the two points of a block. -/
def hAt (c : Dev nD) (t : Fin grid0.N) : FVec F S512x2048 .bf16 := k0_pay4 (iblk b n hr m c 0 (base t))
/-- The accumulator after a block's first point. -/
def a1 (c : Dev nD) (t : Fin grid0.N) : FVec F S512x2048 .f32 :=
  acc (hAt b n hr m c t) (iblk b n hr m c 1 (base t)) (iblk b n hr m c 2 (base t)) (iblk b n hr m c 3 (base t)) (iblk b n hr m c 4 (base t)) (iblk b n hr m c 5 (base t))
    (k0_pay5 (iblk b n hr m c 6 (base t)))
/-- The accumulator after a block's second point. -/
def a2 (c : Dev nD) (t : Fin grid0.N) : FVec F S512x2048 .f32 :=
  acc (hAt b n hr m c t) (iblk b n hr m c 1 t) (iblk b n hr m c 2 t) (iblk b n hr m c 3 t) (iblk b n hr m c 4 t) (iblk b n hr m c 5 t) (a1 b n hr m c t)

open Classical in
/-- The block left at a block's second point. -/
def oAt (c : Dev nD) (t : Fin grid0.N) : FVec F S512x2048 .bf16 :=
  if Used (grid0.coords t) (n o1) then k0_pay2 (a2 b n hr m c t) else k0_pay3

theorem N_pos : 0 < grid0.N := by decide +kernel
theorem pred_lt (p : Fin (grid0.N + 1)) : p.val - 1 < grid0.N := by have := p.isLt; have := N_pos; omega

/-- The two scratch buffers at these contents. -/
def kept (c : Dev nD) (t : Fin grid0.N) : sProp 𝕄 :=
  iprop(owns (c : Thread nD τ) (Memref.whole cc0_scratch0) fullShare (hAt b n hr m c t) ∗ owns (c : Thread nD τ) (Memref.whole cc0_scratch1) fullShare (a1 b n hr m c t))
/-- The two scratch buffers at any contents. -/
def free (c : Dev nD) : sProp 𝕄 :=
  iprop((∃ d, owns (c : Thread nD τ) (Memref.whole cc0_scratch0) fullShare d) ∗ (∃ d, owns (c : Thread nD τ) (Memref.whole cc0_scratch1) fullShare d))

open Classical in
/-- What the scratch buffers hold before point `p`. -/
def scr (c : Dev nD) (p : Fin (grid0.N + 1)) : sProp 𝕄 :=
  if p.val % 2 = 1 ∧ Used (grid0.coords ⟨p.val - 1, pred_lt p⟩) (n o1) then kept b n hr m c ⟨p.val - 1, pred_lt p⟩ else free c

/-- The body's half of the tables, and the scratch buffers. -/
def Phi (c : Dev nD) (p : Fin (grid0.N + 1)) : sProp 𝕄 :=
  iprop((tb0.view.loc (c : Thread nD τ) ↦{fullShare.right} b) ∗ (tb1.view.loc (c : Thread nD τ) ↦{fullShare.right} n) ∗ scr b n hr m c p)

/-- The arrays at the launch, and what every buffer holds after the body at every point. -/
def dats (_ : Fin 1) (c : Dev nD) : Dat τ (Elt F) Unit ℕ (UR sig nD τ) ℕ (cfgA (F := F) b n hr) c where
  A w := m (((cfgA (F := F) b n hr).win w).arr.view.loc (c : Thread nD τ))
  after w t := match w with
    | ⟨0, _⟩ => iblk b n hr m c (0 : Fin 8) t
    | ⟨1, _⟩ => iblk b n hr m c (1 : Fin 8) t
    | ⟨2, _⟩ => iblk b n hr m c (2 : Fin 8) t
    | ⟨3, _⟩ => iblk b n hr m c (3 : Fin 8) t
    | ⟨4, _⟩ => iblk b n hr m c (4 : Fin 8) t
    | ⟨5, _⟩ => iblk b n hr m c (5 : Fin 8) t
    | ⟨6, _⟩ => iblk b n hr m c (6 : Fin 8) t
    | ⟨7, _⟩ => oAt b n hr m c t
  Φ t := Phi b n hr m c t
  q _ := fullShare
  owed _ := 0

theorem after0_0 (c : Dev nD) (t : Fin (cfgA (F := F) b n hr).N) : (dats b n hr m 0 c).after (0 : Fin 8) t = iblk b n hr m c (0 : Fin 8) t := rfl
theorem after0_1 (c : Dev nD) (t : Fin (cfgA (F := F) b n hr).N) : (dats b n hr m 0 c).after (1 : Fin 8) t = iblk b n hr m c (1 : Fin 8) t := rfl
theorem after0_2 (c : Dev nD) (t : Fin (cfgA (F := F) b n hr).N) : (dats b n hr m 0 c).after (2 : Fin 8) t = iblk b n hr m c (2 : Fin 8) t := rfl
theorem after0_3 (c : Dev nD) (t : Fin (cfgA (F := F) b n hr).N) : (dats b n hr m 0 c).after (3 : Fin 8) t = iblk b n hr m c (3 : Fin 8) t := rfl
theorem after0_4 (c : Dev nD) (t : Fin (cfgA (F := F) b n hr).N) : (dats b n hr m 0 c).after (4 : Fin 8) t = iblk b n hr m c (4 : Fin 8) t := rfl
theorem after0_5 (c : Dev nD) (t : Fin (cfgA (F := F) b n hr).N) : (dats b n hr m 0 c).after (5 : Fin 8) t = iblk b n hr m c (5 : Fin 8) t := rfl
theorem after0_6 (c : Dev nD) (t : Fin (cfgA (F := F) b n hr).N) : (dats b n hr m 0 c).after (6 : Fin 8) t = iblk b n hr m c (6 : Fin 8) t := rfl
theorem after0_7 (c : Dev nD) (t : Fin (cfgA (F := F) b n hr).N) : (dats b n hr m 0 c).after (7 : Fin 8) t = oAt b n hr m c t := rfl

theorem before0_0 (c : Dev nD) (t : Fin (cfgA (F := F) b n hr).N) (d) : (dats b n hr m 0 c).before (0 : Fin 8) t d = iblk b n hr m c (0 : Fin 8) t :=
  ((dats b n hr m 0 c).before_in_eq_fetched (0 : Fin 8) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA (F := F) b n hr).N) (d) : (dats b n hr m 0 c).before (1 : Fin 8) t d = iblk b n hr m c (1 : Fin 8) t :=
  ((dats b n hr m 0 c).before_in_eq_fetched (1 : Fin 8) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA (F := F) b n hr).N) (d) : (dats b n hr m 0 c).before (2 : Fin 8) t d = iblk b n hr m c (2 : Fin 8) t :=
  ((dats b n hr m 0 c).before_in_eq_fetched (2 : Fin 8) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA (F := F) b n hr).N) (d) : (dats b n hr m 0 c).before (3 : Fin 8) t d = iblk b n hr m c (3 : Fin 8) t :=
  ((dats b n hr m 0 c).before_in_eq_fetched (3 : Fin 8) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA (F := F) b n hr).N) (d) : (dats b n hr m 0 c).before (4 : Fin 8) t d = iblk b n hr m c (4 : Fin 8) t :=
  ((dats b n hr m 0 c).before_in_eq_fetched (4 : Fin 8) rfl (fun _ => rfl) (fun _ _ _ => rfl) (fun t => by rw [after0_4]; unfold Dat.blockOf iblk; rfl) t d).trans
    (by unfold Dat.fetched Dat.blockOf iblk; rfl)
theorem before0_5 (c : Dev nD) (t : Fin (cfgA (F := F) b n hr).N) (d) : (dats b n hr m 0 c).before (5 : Fin 8) t d = iblk b n hr m c (5 : Fin 8) t :=
  ((dats b n hr m 0 c).before_in_eq_fetched (5 : Fin 8) rfl (fun _ => rfl) (fun _ _ _ => rfl) (fun t => by rw [after0_5]; unfold Dat.blockOf iblk; rfl) t d).trans
    (by unfold Dat.fetched Dat.blockOf iblk; rfl)
theorem before0_6 (c : Dev nD) (t : Fin (cfgA (F := F) b n hr).N) (d) : (dats b n hr m 0 c).before (6 : Fin 8) t d = iblk b n hr m c (6 : Fin 8) t :=
  ((dats b n hr m 0 c).before_in_eq_fetched (6 : Fin 8) rfl (fun _ => rfl) (fun _ _ _ => rfl) (fun t => by rw [after0_6]; unfold Dat.blockOf iblk; rfl) t d).trans
    (by unfold Dat.fetched Dat.blockOf iblk; rfl)

/-! ## The schedule -/

theorem idle_even (t : Fin grid0.N) (h : ¬ t.val % 2 = 1) : (cfgA (F := F) b n hr).idle (7 : Fin 8) (grid0.coords t) = true := by
  show (!(k0_cond3 (grid0.coords t) == 1#1 && k0_cond4 (grid0.coords t) ((pfOf (F := F) b n).atD 1 ![0]) == 1#1)
    && !(k0_cond3 (grid0.coords t) == 1#1 && k0_cond5 (grid0.coords t) ((pfOf (F := F) b n).atD 1 ![0]) == 1#1)) = true
  have h3 : (k0_cond3 (grid0.coords t) == 1#1) = false := beq_eq_false_iff_ne.mpr (mt (cond3_iff t).mp h)
  rw [h3]; rfl
theorem idle_odd (t : Fin grid0.N) (h : t.val % 2 = 1) : (cfgA (F := F) b n hr).idle (7 : Fin 8) (grid0.coords t) = false := by
  show (!(k0_cond3 (grid0.coords t) == 1#1 && k0_cond4 (grid0.coords t) ((pfOf (F := F) b n).atD 1 ![0]) == 1#1)
    && !(k0_cond3 (grid0.coords t) == 1#1 && k0_cond5 (grid0.coords t) ((pfOf (F := F) b n).atD 1 ![0]) == 1#1)) = false
  rw [(cond3_iff t).mpr h, atD1_eq]
  by_cases hu : Used (grid0.coords t) (n o1)
  · rw [(cond4_iff _ _).mpr hu]; rfl
  · rw [(cond5_iff _ _).mpr hu, Bool.and_comm]; rfl
theorem flush_even (t : Fin (cfgA (F := F) b n hr).N) (h : ¬ t.val % 2 = 1) : ((cfgA (F := F) b n hr).win (7 : Fin 8)).flush t = false := by
  rw [Bool.eq_false_iff]; exact mt (flush7' t).mp h

theorem base_self (t : Fin grid0.N) (h : ¬ t.val % 2 = 1) : base t = t := Fin.ext (by show t.val - t.val % 2 = t.val; omega)
theorem base_pred (t : Fin grid0.N) (h : t.val % 2 = 1) (hp : t.val - 1 < grid0.N) : base ⟨t.val - 1, hp⟩ = base t :=
  Fin.ext (by show t.val - 1 - (t.val - 1) % 2 = t.val - t.val % 2; omega)
theorem used_coords (t s : Fin grid0.N) (w : BitVec 32) (h : t.val / 2 = s.val / 2) : Used (grid0.coords t) w ↔ Used (grid0.coords s) w := by
  unfold Used; rw [coords0, coords0, h]
theorem kept_pred (c : Dev nD) (t : Fin grid0.N) (h : t.val % 2 = 1) (hp : t.val - 1 < grid0.N) : kept b n hr m c ⟨t.val - 1, hp⟩ = kept b n hr m c t := by
  unfold kept a1 hAt; rw [base_pred t h hp]

theorem scr_even (c : Dev nD) (t : Fin grid0.N) (h : ¬ t.val % 2 = 1) : scr b n hr m c t.castSucc = free c := if_neg fun hh => h hh.1
theorem scr_used (c : Dev nD) (t : Fin grid0.N) (h : t.val % 2 = 1) (hu : Used (grid0.coords t) (n o1)) : scr b n hr m c t.castSucc = kept b n hr m c t := by
  unfold scr
  rw [if_pos ⟨h, (used_coords _ t _ (by show (t.val - 1) / 2 = t.val / 2; omega)).mpr hu⟩]
  exact kept_pred b n hr m c t h _
theorem scr_free (c : Dev nD) (t : Fin grid0.N) (h : t.val % 2 = 1) (hu : ¬ Used (grid0.coords t) (n o1)) : scr b n hr m c t.castSucc = free c := by
  unfold scr
  exact if_neg fun hh => hu ((used_coords _ t _ (by show (t.val - 1) / 2 = t.val / 2; omega)).mp hh.2)
theorem scr_succ_used (c : Dev nD) (t : Fin grid0.N) (h : ¬ t.val % 2 = 1) (hu : Used (grid0.coords t) (n o1)) : scr b n hr m c t.succ = kept b n hr m c t :=
  if_pos ⟨by show (t.val + 1) % 2 = 1; omega, hu⟩
theorem scr_succ_free (c : Dev nD) (t : Fin grid0.N) (hu : ¬ Used (grid0.coords t) (n o1)) : scr b n hr m c t.succ = free c :=
  if_neg fun hh => hu hh.2
theorem scr_succ_odd (c : Dev nD) (t : Fin grid0.N) (h : t.val % 2 = 1) : scr b n hr m c t.succ = free c :=
  if_neg fun hh => absurd (show (t.val + 1) % 2 = 1 from hh.1) (by omega)

/-- The body at every grid point takes the buffers from what they hold before it to what `dats` says they hold after it. -/
theorem body_obligation (c : Dev nD) : BodyObligation (dats (F := F) b n hr m 0 c) (defs₀ (F := F)) Variants.none () Set.univ := fun t => by
  rw [bigSep_W0, bigSep_W0]
  sl_whnfR [defs₀, Defs.onTc]
  simp only [before0_0, before0_1, before0_2, before0_3, before0_4, before0_5, before0_6]
  rw [show (dats b n hr m 0 c).Φ t.succ = Phi b n hr m c t.succ from rfl, show (dats b n hr m 0 c).Φ t.castSucc = Phi b n hr m c t.castSucc from rfl,
    show (dats b n hr m 0 c).owesAt () t.succ = (dats b n hr m 0 c).owesAt () t.castSucc from rfl, after0_0, after0_1, after0_2, after0_3, after0_4, after0_5, after0_6, after0_7]
  unfold Phi
  have hw : word (F := F) n = n o1 := word_eq n
  by_cases h : t.val % 2 = 1
  · have hi : idle0 (admOf (F := F) b n hr).1 7 ((pcfg0.gridAt (admOf (F := F) b n hr).1).coords t) = false := idle_odd b n hr t h
    rw [hi, scr_succ_odd b n hr m c t h]
    by_cases hu : Used (grid0.coords t) (n o1)
    · rw [scr_used b n hr m c t h hu, show oAt b n hr m c t = k0_pay2 (a2 b n hr m c t) from if_pos hu]
      unfold kept free a2
      iintro ⟨⟨T0, T1, S0, S1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (wp_wand_r frame (wpE defs₀ Variants.none (c : Thread nD τ) none) Set.univ)
      isplitl [H0 H1 H2 H3 H4 H5 H6 H7 T1 S0 S1]
      · iapply (body_used_snd c (grid0.coords t) n _ _ _ _ _ _ _ _ _ _ _ _ _ _ _ _ _ _ _ _ (iblk b n hr m c 0 t) (iblk b n hr m c 1 t) (iblk b n hr m c 2 t) (iblk b n hr m c 3 t) (iblk b n hr m c 4 t) (iblk b n hr m c 5 t) (iblk b n hr m c 6 t) (by rw [hw]; exact hu) (mt (fst_iff t).mp (by omega)) ((cond3_iff t).mpr h) (by rw [hw]; exact (cond4_iff _ _).mpr hu) (by rw [hw]; exact fun hh => (cond5_iff _ _).mp hh hu) (hAt b n hr m c t) (a1 b n hr m c t))
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [T1]; · iexact T1
        isplitl [H7]; · iexists _; iexact H7
        isplitl [S0]; · iexact S0
        iexact S1
      iintro %_ ⟨H0, H1, H2, H3, H4, H5, H6, T1, H7, S0, S1⟩
      isplitl [T0 T1 S0 S1]
      · isplitl [T0]; · iexact T0
        isplitl [T1]; · iexact T1
        isplitl [S0]; · iexists _; iexact S0
        iexists _; iexact S1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [scr_free b n hr m c t h hu, show oAt b n hr m c t = k0_pay3 from if_neg hu]
      unfold free
      iintro ⟨⟨T0, T1, S0, S1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (wp_wand_r frame (wpE defs₀ Variants.none (c : Thread nD τ) none) Set.univ)
      isplitl [H0 H1 H2 H3 H4 H5 H6 H7 T1 S0 S1]
      · iapply (body_free_snd c (grid0.coords t) n _ _ _ _ _ _ _ _ _ _ _ _ _ _ _ _ _ _ _ _ (iblk b n hr m c 0 t) (iblk b n hr m c 1 t) (iblk b n hr m c 2 t) (iblk b n hr m c 3 t) (iblk b n hr m c 4 t) (iblk b n hr m c 5 t) (iblk b n hr m c 6 t) (by rw [hw]; exact hu) ((cond3_iff t).mpr h) (by rw [hw]; exact mt (cond4_iff _ _).mp hu) (by rw [hw]; exact (cond5_iff _ _).mpr hu))
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [T1]; · iexact T1
        isplitl [H7]; · iexists _; iexact H7
        isplitl [S0]; · iexact S0
        iexact S1
      iintro %_ ⟨H0, H1, H2, H3, H4, H5, H6, T1, H7, S0, S1⟩
      isplitl [T0 T1 S0 S1]
      · isplitl [T0]; · iexact T0
        isplitl [T1]; · iexact T1
        isplitl [S0]; · iexact S0
        iexact S1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hi : idle0 (admOf (F := F) b n hr).1 7 ((pcfg0.gridAt (admOf (F := F) b n hr).1).coords t) = true := idle_even b n hr t h
    rw [hi, scr_even b n hr m c t h]
    by_cases hu : Used (grid0.coords t) (n o1)
    · rw [scr_succ_used b n hr m c t h hu]
      have eh : hAt b n hr m c t = k0_pay4 (iblk b n hr m c 0 t) := by unfold hAt; rw [base_self t h]
      have ea : a1 b n hr m c t = acc (k0_pay4 (iblk b n hr m c 0 t)) (iblk b n hr m c 1 t) (iblk b n hr m c 2 t) (iblk b n hr m c 3 t) (iblk b n hr m c 4 t) (iblk b n hr m c 5 t) (k0_pay5 (iblk b n hr m c 6 t)) := by
        unfold a1; rw [eh, base_self t h]
      unfold kept free
      rw [eh, ea]
      iintro ⟨⟨T0, T1, S0, S1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (wp_wand_r frame (wpE defs₀ Variants.none (c : Thread nD τ) none) Set.univ)
      isplitl [H0 H1 H2 H3 H4 H5 H6 H7 T1 S0 S1]
      · iapply (body_used_fst c (grid0.coords t) n _ _ _ _ _ _ _ _ _ _ _ _ _ _ _ _ _ _ _ _ (iblk b n hr m c 0 t) (iblk b n hr m c 1 t) (iblk b n hr m c 2 t) (iblk b n hr m c 3 t) (iblk b n hr m c 4 t) (iblk b n hr m c 5 t) (iblk b n hr m c 6 t) (by rw [hw]; exact hu) ((fst_iff t).mpr (by omega)) (mt (cond3_iff t).mp h) ((dats b n hr m 0 c).before (7 : Fin 8) t d7))
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [T1]; · iexact T1
        isplitl [H7]; · iexact H7
        isplitl [S0]; · iexact S0
        iexact S1
      iintro %_ ⟨H0, H1, H2, H3, H4, H5, H6, T1, H7, S0, S1⟩
      isplitl [T0 T1 S0 S1]
      · isplitl [T0]; · iexact T0
        isplitl [T1]; · iexact T1
        isplitl [S0]; · iexact S0
        iexact S1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      dsimp only
      split
      · iexists d7; iexact H7
      · rename_i e; exact absurd (e.symm.trans (flush_even b n hr t h)) (by decide)
    · rw [scr_succ_free b n hr m c t hu]
      unfold free
      iintro ⟨⟨T0, T1, S0, S1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (wp_wand_r frame (wpE defs₀ Variants.none (c : Thread nD τ) none) Set.univ)
      isplitl [H0 H1 H2 H3 H4 H5 H6 H7 T1 S0 S1]
      · iapply (body_free_fst c (grid0.coords t) n _ _ _ _ _ _ _ _ _ _ _ _ _ _ _ _ _ _ _ _ (iblk b n hr m c 0 t) (iblk b n hr m c 1 t) (iblk b n hr m c 2 t) (iblk b n hr m c 3 t) (iblk b n hr m c 4 t) (iblk b n hr m c 5 t) (iblk b n hr m c 6 t) (by rw [hw]; exact hu) (mt (cond3_iff t).mp h) ((dats b n hr m 0 c).before (7 : Fin 8) t d7))
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [T1]; · iexact T1
        isplitl [H7]; · iexact H7
        isplitl [S0]; · iexact S0
        iexact S1
      iintro %_ ⟨H0, H1, H2, H3, H4, H5, H6, T1, H7, S0, S1⟩
      isplitl [T0 T1 S0 S1]
      · isplitl [T0]; · iexact T0
        isplitl [T1]; · iexact T1
        isplitl [S0]; · iexact S0
        iexact S1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      dsimp only
      split
      · iexists d7; iexact H7
      · rename_i e; exact absurd (e.symm.trans (flush_even b n hr t h)) (by decide)

/-! ## The launch -/

/-- The launch's resources. -/
def u₀ : UR sig nD τ :=
  initOf (Pipeline.cells (pcs (F := F) b n hr) ((launch0 (F := F)).cellOf_inj fun _ => admOf b n hr))
    (Pipeline.launchToks (pcs (F := F) b n hr) ((launch0 (F := F)).cellOf_inj fun _ => admOf b n hr))

theorem share_eq (c : Dev nD) (w : Fin (cfgA (F := F) b n hr).W) : (dats b n hr m 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (admOf (F := F) b n hr).1 ∗ Pipeline.scopedRest spec0 c) ⊢ (dats b n hr m 0 c).Φ 0 := by
  rw [prefHeld_eq, scopedRest0_eq, show (dats b n hr m 0 c).Φ 0 = Phi b n hr m c 0 from rfl]
  unfold Phi
  rw [show scr b n hr m c 0 = free c from if_neg fun hh => absurd hh.1 (by decide)]
  unfold free
  iintro ⟨-, ⟨HT0, HT1⟩, ⟨%a0, HS0⟩, ⟨%a1, HS1⟩⟩
  isplitl [HT0]; · iexact HT0
  isplitl [HT1]; · iexact HT1
  isplitl [HS0]
  · iexists a0; rw [owns_whole_eq]; iexists a0
    isplitr; swap; · iexact HS0
    ipureintro; rfl
  iexists a1; rw [owns_whole_eq]; iexists a1
  isplitr; swap; · iexact HS1
  ipureintro; rfl

theorem phiN_exit (c : Dev nD) : (dats b n hr m 0 c).Φ (Fin.last (cfgA (F := F) b n hr).N) ⊢ iprop(BI.emp ∗ Pipeline.scopedRest spec0 c) := by
  rw [scopedRest0_eq, show (dats b n hr m 0 c).Φ (Fin.last (cfgA (F := F) b n hr).N) = Phi b n hr m c (Fin.last _) from rfl]
  unfold Phi
  rw [show scr b n hr m c (Fin.last _) = free c from if_neg fun hh => absurd (show grid0.N % 2 = 1 from hh.1) (by decide +kernel)]
  unfold free
  simp only [owns_whole_eq]
  iintro ⟨-, -, ⟨%d0, %f0, -, HS0⟩, ⟨%d1, %f1, -, HS1⟩⟩
  isplitr; · iempintro
  isplitl [HS0]
  · iexists f0; iexact HS0
  iexists f1; iexact HS1

/-- Every array at what `dats` says, every table as it was. -/
def QC : PUnit × MemSt nD τ sig (Elt F) → Prop := fun r =>
  ∀ c : Dev nD, (∀ w : Fin (cfgA (F := F) b n hr).W, r.2.mem (((cfgA (F := F) b n hr).win w).arr.view.loc (c : Thread nD τ)) = (dats b n hr m 0 c).arrAt w (cfgA (F := F) b n hr).N)
    ∧ ∀ j, r.2.mem ((c : Thread nD τ).loc (pre0.ref j)) = (admOf (F := F) b n hr).1 j

theorem V_pre (hm : Holds b n m) (c : Dev nD) (j : Fin 2) : m ((c : Thread nD τ).loc (pre0.ref j)) = (admOf (F := F) b n hr).1 j := by
  fin_cases j
  · exact (hm c).1
  · exact (hm c).2

set_option backward.isDefEq.respectTransparency.types false in
/-- Every execution ends, with every array at what `dats` says and every counter at zero. -/
theorem run_main (hm : Holds b n m) : θ_run (defs (F := F)) (onTc (τ := τ) (main (F := F))) ⟨m, fun _ => 0, ρ⟩ (fun r => QC b n hr m r ∧ r.2.sem = fun _ => 0) :=
  Pipeline.θ_run_region_noSem_pf_quiescent pcfgs (fun _ => admOf b n hr) (dats b n hr m) () ((launch0 (F := F)).cellOf_inj fun _ => admOf b n hr) (0 : Fin 1)
    (launch0 (F := F)).win.to₀ (launch0 (F := F)).pre EP defs₀ Variants.none m ρ main
    (hbody := fun c => (body_obligation b n hr m c).loose) (hne := (launch0 (F := F)).block_pos)
    (harr := (launch0 (F := F)).arr_whole) (hstage := (launch0 (F := F)).stage_whole) (howed := fun _ _ => rfl)
    (u₀ := u₀ b n hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs b n hr) (dats b n hr m) 0 (launch0 (F := F)).win.arr_inj c (launch0 (F := F)).arr_whole
      (share_eq b n hr m c) _ _ fun _ => rfl)
    (hpf := V_pre b n hr m hm)
    (X := fun _ => iprop(emp)) (Y := fun _ => iprop(emp)) (Z := fun _ => iprop(emp))
    (hX := fun c => by rw [unscopedRestP0_eq]; iintro -; isplitr <;> iempintro)
    (hin := phi0_intro b n hr m)
    (hout := phiN_exit b n hr m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.Proof.Experts
end
-- ==== Proof.ExFrames.lean ====
/- The frames of the experts' call: under the claim's condition on the tables the kernel runs to an end, and so does the reference; both
   leave their arguments as they were and every counter at zero. -/
module

public import Idealize.ShloMosaic.Lib.ReduceAll
public import Idealize.ShloMosaic.Lib.Pointwise
public import proofs.«01_k».proof.Defs
public import proofs.«01_k».proof.Proof.Gen.Kernel3
public import proofs.«01_k».proof.Proof.Gen.Pre_routed
public import proofs.«01_k».proof.Proof.Gen.Reference3Ideal.Run
public import proofs.«01_k».proof.Proof.ExRun

@[expose] public section

set_option maxRecDepth 16384

noncomputable section

namespace Cert.Proof.Experts

open Idealize.ShloMosaic Idealize.SL Idealize.SL.Sem Idealize.ShloMosaic.WordCmp

section Pre

open Cert.Pre_routed

/-- A scalar array has one index. -/
instance : Subsingleton (Shape.Idx S_) := ⟨fun a b => funext fun i => i.elim0⟩

/-- What the precondition says of the tables. -/
theorem routed_of {F : FTy → Type} [FloatOps F] (x0 : IVec S352 32) (x1 : IVec S1 32) (x2 : FVec F S180224x2048 .bf16) (x3 : FVec F S32x2048x2048 .bf16)
    (x4 : FVec F S32x1x2048 .f32) (x5 : FVec F S32x2048x2048 .bf16) (x6 : FVec F S32x1x2048 .f32) (x7 : FVec F S32x2048x2048 .bf16) (x8 : FVec F S32x1x2048 .f32)
    (h : Pre_routed.fn (F := F) x0 x1 x2 x3 x4 x5 x6 x7 x8 = fun _ => 1#1) : Routed x0 x1 := by
  have h := congrFun h (fun i => i.elim0)
  obtain ⟨h0, h1⟩ := IntOp.andi_eq_one.1 h
  refine ⟨fun j => ?_, fun j => ?_⟩
  · obtain ⟨hl, hu⟩ := IntOp.andi_eq_one.1 (Host.reduce_andi_all _ _ _ _ _ h0 j)
    replace hl : IntOp.cmpi .sge (x0 j) 0#32 = 1#1 := hl
    replace hu : IntOp.cmpi .slt (x0 j) 32#32 = 1#1 := hu
    rw [cmpi_sge_zero, ofBool_decide_eq_one_iff] at hl
    rw [cmpi_slt_eq, ofBool_decide_eq_one_iff, toInt_eq_toNat_of_lt_half hl] at hu
    have : (32#32 : BitVec 32).toInt = 32 := by decide
    omega
  · replace h1 : IntOp.cmpi .sge (x1 _) 1#32 = 1#1 := h1
    have e : ∀ k, x1 k = x1 j := fun k => congrArg x1 (o1_eq k j)
    rw [cmpi_sge_eq, ofBool_decide_eq_one_iff, e] at h1
    exact h1

end Pre

open Cert.Kernel3Ideal in
/-- The kernel, over any numbers, with tables as the claim asks. -/
theorem frame_any {F : FTy → Type} [FloatOps F] (b : S352.Idx → BitVec 32) (n : S1.Idx → BitVec 32) (hr : Routed b n)
    (m : (ℓ : Loc nD τ sig) → Buf (Elt F) ℓ) (ρ : Dev nD → PrngReg) (hm : Holds b n m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 0).trans (hm c).1.symm, ((h.1 c).2 1).trans (hm c).2.symm,
    ((h.1 c).1 (0 : Fin 8)).trans ((dats b n hr m 0 c).arrAt_in (0 : Fin 8) rfl _), ((h.1 c).1 (1 : Fin 8)).trans ((dats b n hr m 0 c).arrAt_in (1 : Fin 8) rfl _),
    ((h.1 c).1 (2 : Fin 8)).trans ((dats b n hr m 0 c).arrAt_in (2 : Fin 8) rfl _), ((h.1 c).1 (3 : Fin 8)).trans ((dats b n hr m 0 c).arrAt_in (3 : Fin 8) rfl _),
    ((h.1 c).1 (4 : Fin 8)).trans ((dats b n hr m 0 c).arrAt_in (4 : Fin 8) rfl _), ((h.1 c).1 (5 : Fin 8)).trans ((dats b n hr m 0 c).arrAt_in (5 : Fin 8) rfl _),
    ((h.1 c).1 (6 : Fin 8)).trans ((dats b n hr m 0 c).arrAt_in (6 : Fin 8) rfl _)⟩, h.2⟩) (run_main b n hr m ρ hm)

open Cert.Kernel3Ideal in
/-- There is one device. -/
theorem holds {F : FTy → Type} (m : (ℓ : Loc nD τ sig) → Buf (Elt F) ℓ) :
    Holds (m (((0 : Dev nD).tc : Thread nD τ).loc main_arg0)) (m (((0 : Dev nD).tc : Thread nD τ).loc main_arg1)) m := fun c => by
  rw [show c = 0 from Subsingleton.elim (α := Fin 1) c 0]
  exact ⟨rfl, rfl⟩

/-- The kernel over the extended reals. -/
theorem frame_ideal : Cert.quiescent_Kernel3Ideal := fun m ρ hp =>
  frame_any (F := Ideal) _ _ (routed_of _ _ _ _ _ _ _ _ _ (hp 0)) m ρ (holds m)

/-- The two programs call the same body. -/
theorem defs₀_eq {F : FTy → Type} [FloatOps F] : (Kernel3.defs₀ (F := F)) = Kernel3Ideal.defs₀ (F := F) := by
  refine congrArg Defs.onTc (funext fun l => funext fun a => ?_)
  match l, a with
  | ⟨0, _⟩, (t, s) => rfl

/-- The two programs' tables of bodies are equal. -/
theorem defs_eq {F : FTy → Type} [FloatOps F] : (Kernel3.defs (F := F)) = Kernel3Ideal.defs (F := F) :=
  congrArg (Pipeline.defs Kernel3.pcfgs) defs₀_eq

/-- The kernel over the words of its number formats: the same program. -/
theorem frame_kernel : Cert.quiescent_Kernel3 := fun m ρ hp => by
  rw [defs_eq]
  exact (θ_run Cert.Kernel3Ideal.defs _ _).mono (fun _ h => h)
    (frame_any (F := Bits) _ _ (routed_of _ _ _ _ _ _ _ _ _ (hp 0)) m ρ (holds m))

/-- The reference over the extended reals. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Proof.Experts

end
-- ==== Proof.ExSpec.lean ====
/- What the experts' call computes, as plain maths over the extended reals. -/
module

public import Idealize.ShloMosaic.Lib.Pointwise
public import proofs.«01_k».proof.Proof.Gen.Kernel3Ideal

@[expose] public section

set_option maxRecDepth 16384

noncomputable section

namespace Cert.Proof.Experts

open Cert.Kernel3Ideal
open Idealize.ShloMosaic Idealize.ShloMosaic.TcCoe

/-- The gate: bounded above, times its sigmoid at the activation's slope. -/
def gate (s : EReal) : EReal :=
  let g : EReal := min s (Ideal.ofBits .f32 0x40E00000#32)
  g * Ideal.div (Ideal.ofBits .f32 0x3F800000#32)
    (Ideal.ofBits .f32 0x3F800000#32 + Ideal.exp (-(Ideal.ofBits .f32 0x3FD9DB23#32 * g)))
/-- The linear part: bounded on both sides, plus one. -/
def lin (s : EReal) : EReal :=
  min (Ideal.ofBits .f32 0x40E00000#32) (max (Ideal.ofBits .f32 0xC0E00000#32) s) + Ideal.ofBits .f32 0x3F800000#32

/-- One hidden value of an expert. -/
def hid (x wg wu : Fin 2048 → EReal) (bg bu : EReal) : EReal :=
  gate (∑ k, x k * wg k + bg) * lin (∑ k, x k * wu k + bu)

/-- The expert of a block of rows. -/
def ex (b : S352.Idx → BitVec 32) (i : Fin 352) : Fin 32 := ⟨min (b (ix1 i)).toNat 31, by omega⟩

/-- A row through its block's expert; zeros where the block is not in use. -/
def outAt (b : S352.Idx → BitVec 32) (n : S1.Idx → BitVec 32) (x : FVec Ideal S180224x2048 .bf16)
    (wg : FVec Ideal S32x2048x2048 .bf16) (bg : FVec Ideal S32x1x2048 .f32) (wu : FVec Ideal S32x2048x2048 .bf16) (bu : FVec Ideal S32x1x2048 .f32)
    (wd : FVec Ideal S32x2048x2048 .bf16) (bd : FVec Ideal S32x1x2048 .f32) (i : Fin 352) (r : Fin 512) (d : Fin 2048) : EReal :=
  if i.val < (n (ix1 0)).toNat then
    ∑ f : Fin 2048, hid (fun k => x (ix2 ⟨i.val * 512 + r.val, by omega⟩ k)) (fun k => wg (ix3 (ex b i) k f)) (fun k => wu (ix3 (ex b i) k f))
      (bg (ix3 (ex b i) 0 f)) (bu (ix3 (ex b i) 0 f)) * wd (ix3 (ex b i) f d) + bd (ix3 (ex b i) 0 d)
  else 0

/-- The two halves of a sum. -/
theorem sum_halves (f : Fin 2048 → EReal) :
    ∑ j : Fin 2048, f j = ∑ j : Fin 1024, f ⟨j.val, by omega⟩ + ∑ j : Fin 1024, f ⟨1024 + j.val, by omega⟩ :=
  Fin.sum_univ_add (a := 1024) (b := 1024) f
/-- What two passes add to a bias. -/
theorem acc_halves (f : Fin 2048 → EReal) (b : EReal) :
    b + ∑ j : Fin 1024, f ⟨j.val, by omega⟩ + ∑ j : Fin 1024, f ⟨1024 + j.val, by omega⟩ = ∑ j : Fin 2048, f j + b := by
  rw [sum_halves, add_assoc, add_comm]

end Cert.Proof.Experts

end
-- ==== Proof.ExBlock.lean ====
/- One pass of the experts' call over the extended reals, read at an index. -/
module

public import proofs.«01_k».proof.Proof.Gen.Kernel3Ideal.Skeleton
public import proofs.«01_k».proof.Proof.ExSpec
public import proofs.«01_k».proof.Proof.ExBody

@[expose] public section

set_option maxRecDepth 16384

noncomputable section

namespace Cert.Proof.Experts

open Cert.Kernel3Ideal Cert.Kernel3Ideal.Gen
open Idealize.ShloMosaic Idealize.ShloMosaic.TcCoe

theorem zero_eq : Ideal.ofBits .f32 0x00000000#32 = 0 := by simp [Ideal.ofBits, Ideal.ieee]

theorem pay2_apply (a : FVec Ideal S512x2048 .f32) (r : Fin 512) (d : Fin 2048) : k0_pay2 (F := Ideal) a (ix2 r d) = a (ix2 r d) := by
  pointwise [k0_pay2]
theorem pay3_apply (r : Fin 512) (d : Fin 2048) : k0_pay3 (F := Ideal) (ix2 r d) = Ideal.ofBits .bf16 0x0000#16 := by
  pointwise [k0_pay3]
theorem pay4_apply (a : FVec Ideal S512x2048 .bf16) (r : Fin 512) (d : Fin 2048) : k0_pay4 (F := Ideal) a (ix2 r d) = a (ix2 r d) := by
  pointwise [k0_pay4]
theorem pay5_apply (b : FVec Ideal S1x1x2048 .f32) (r : Fin 512) (d : Fin 2048) : k0_pay5 (F := Ideal) b (ix2 r d) = b (ix3 0 0 d) := by
  pointwise! [k0_pay5]
theorem pay6_apply (h : FVec Ideal S512x2048 .bf16) (w : FVec Ideal S1x2048x1024 .bf16) (b : FVec Ideal S1x1x1024 .f32) (r : Fin 512) (f : Fin 1024) :
    k0_pay6 (F := Ideal) h w b (ix2 r f) = min (Ideal.ofBits .f32 0x40E00000#32) (max (Ideal.ofBits .f32 0xC0E00000#32)
      (∑ k : Fin 2048, h (ix2 r k) * w (ix3 0 k f) + b (ix3 0 0 f))) := by
  pointwise! [k0_pay6]
theorem pay7_apply (h : FVec Ideal S512x2048 .bf16) (w : FVec Ideal S1x2048x1024 .bf16) (b : FVec Ideal S1x1x1024 .f32) (r : Fin 512) (f : Fin 1024) :
    k0_pay7 (F := Ideal) h w b (ix2 r f) = gate (∑ k : Fin 2048, h (ix2 r k) * w (ix3 0 k f) + b (ix3 0 0 f)) := by
  have hs : ∀ y : EReal, -y = Ideal.ofBits .f32 0x00000000#32 - y := fun y => by rw [zero_eq, zero_sub]
  unfold gate
  simp only [hs]
  pointwise! [k0_pay7]
theorem pay1_apply (u g : FVec Ideal S512x1024 .f32) (a : FVec Ideal S512x2048 .f32) (w : FVec Ideal S1x1024x2048 .bf16) (r : Fin 512) (d : Fin 2048) :
    k0_pay1 (F := Ideal) u g a w (ix2 r d) = a (ix2 r d) + ∑ f : Fin 1024,
      (g (ix2 r f) * (u (ix2 r f) + Ideal.ofBits .f32 0x3F800000#32)) * w (ix3 0 f d) := by
  pointwise! [k0_pay1]

/-- A pass adds its half of the hidden values to the running sums. -/
theorem acc_apply (h : FVec Ideal S512x2048 .bf16) (wg : FVec Ideal S1x2048x1024 .bf16) (bg : FVec Ideal S1x1x1024 .f32)
    (wu : FVec Ideal S1x2048x1024 .bf16) (bu : FVec Ideal S1x1x1024 .f32) (wd : FVec Ideal S1x1024x2048 .bf16)
    (a : FVec Ideal S512x2048 .f32) (r : Fin 512) (d : Fin 2048) :
    acc h wg bg wu bu wd a (ix2 r d) = a (ix2 r d) + ∑ f : Fin 1024,
      hid (fun k => h (ix2 r k)) (fun k => wg (ix3 0 k f)) (fun k => wu (ix3 0 k f)) (bg (ix3 0 0 f)) (bu (ix3 0 0 f)) * wd (ix3 0 f d) := by
  unfold acc
  rw [pay1_apply]
  refine congrArg (a (ix2 r d) + ·) (Finset.sum_congr rfl fun f _ => ?_)
  rw [pay6_apply, pay7_apply]
  rfl

/-- The same, the operands' values named. -/
theorem acc_eq (h : FVec Ideal S512x2048 .bf16) (wg : FVec Ideal S1x2048x1024 .bf16) (bg : FVec Ideal S1x1x1024 .f32)
    (wu : FVec Ideal S1x2048x1024 .bf16) (bu : FVec Ideal S1x1x1024 .f32) (wd : FVec Ideal S1x1024x2048 .bf16)
    (a : FVec Ideal S512x2048 .f32) (r : Fin 512) (d : Fin 2048)
    (A : EReal) (H : Fin 2048 → EReal) (G U : Fin 2048 → Fin 1024 → EReal) (g u D : Fin 1024 → EReal)
    (ha : a (ix2 r d) = A) (hh : ∀ k, h (ix2 r k) = H k) (hG : ∀ k f, wg (ix3 0 k f) = G k f) (hg : ∀ f, bg (ix3 0 0 f) = g f)
    (hU : ∀ k f, wu (ix3 0 k f) = U k f) (hu : ∀ f, bu (ix3 0 0 f) = u f) (hD : ∀ f, wd (ix3 0 f d) = D f) :
    acc h wg bg wu bu wd a (ix2 r d) = A + ∑ f, hid H (fun k => G k f) (fun k => U k f) (g f) (u f) * D f := by
  rw [acc_apply]
  simp only [ha, hh, hG, hg, hU, hu, hD]

end Cert.Proof.Experts

end
-- ==== Proof.ExArray.lean ====
/- At the end of the run the experts' array holds every block of rows through its expert, zeros in the blocks not in use. -/
module

public import Idealize.ShloMosaic.Lib.Claim
public import Idealize.ShloMosaic.Lib.Pointwise
public import Idealize.ShloMosaic.Lib.Pipeline.ValueKit
public import proofs.«01_k».proof.Proof.ExRun
public import proofs.«01_k».proof.Proof.ExBlock

@[expose] public section

set_option maxRecDepth 16384
set_option maxHeartbeats 4000000

noncomputable section

namespace Cert.Proof.Experts

open Cert.Kernel3Ideal Cert.Kernel3Ideal.Gen
open Idealize.ShloMosaic Idealize.ShloMosaic.TcCoe Idealize.SL.Sem
open Idealize.ShloMosaic.Pipeline (Dat Cfg Window)

variable (b : S352.Idx → BitVec 32) (n : S1.Idx → BitVec 32) (hr : Routed b n)
variable (m : (ℓ : Loc nD τ sig) → Buf (Elt Ideal) ℓ) (c : Dev nD)

/-- The arguments at the launch. -/
abbrev X : FVec Ideal S180224x2048 .bf16 := m ((c : Thread nD τ).loc main_arg2)
abbrev Wg : FVec Ideal S32x2048x2048 .bf16 := m ((c : Thread nD τ).loc main_arg3)
abbrev Bg : FVec Ideal S32x1x2048 .f32 := m ((c : Thread nD τ).loc main_arg4)
abbrev Wu : FVec Ideal S32x2048x2048 .bf16 := m ((c : Thread nD τ).loc main_arg5)
abbrev Bu : FVec Ideal S32x1x2048 .f32 := m ((c : Thread nD τ).loc main_arg6)
abbrev Wd : FVec Ideal S32x2048x2048 .bf16 := m ((c : Thread nD τ).loc main_arg7)
abbrev Bd : FVec Ideal S32x1x2048 .f32 := m ((c : Thread nD τ).loc main_arg8)

theorem ex_val (h : Routed b n) (i : grid0.Coords) : (ex b (i 0)).val = (b (bx i)).toNat := by
  have h := h.expert (bx i)
  show min (b (ix1 (i 0))).toNat 31 = _
  have e : (ix1 (i 0) : S352.Idx) = bx i := by funext a; match a with | ⟨0, _⟩ => rfl
  rw [e]; omega

/-! The operands' blocks at a grid point, read at an index. -/

theorem blk_x (t : Fin grid0.N) (r : Fin 512) (k : Fin 2048) (y : Fin 180224) (hy : y.val = row n (grid0.coords t) * 512 + r.val) :
    (iblk b n hr m c 0 t : FVec Ideal S512x2048 .bf16) (ix2 r k) = X m c (ix2 y k) := by
  unfold iblk
  refine congrArg (X m c) ?_
  funext a
  apply Fin.ext
  have e := tr0_eq (F := Ideal) b n (grid0.coords t)
  match a with
  | ⟨0, _⟩ =>
    refine Eq.trans (b := cc0_transform_0 inb_S1_S1_0 numel1_S1 (pfOf (F := Ideal) b n) (grid0.coords t) 0 * 512 + 1 * r.val) rfl ?_
    rw [e]; rw [Nat.one_mul]; exact hy.symm
  | ⟨1, _⟩ =>
    refine Eq.trans (b := cc0_transform_0 inb_S1_S1_0 numel1_S1 (pfOf (F := Ideal) b n) (grid0.coords t) 1 * 2048 + 1 * k.val) rfl ?_
    rw [e]; rw [Nat.one_mul]; exact Nat.zero_add _

theorem blk_wg (t : Fin grid0.N) (k : Fin 2048) (f : Fin 1024) (x : Fin 32) (hx : x.val = (b (bx (grid0.coords t))).toNat) (q : Fin 2048) (hq : q.val = half n (grid0.coords t) * 1024 + f.val) :
    (iblk b n hr m c 1 t : FVec Ideal S1x2048x1024 .bf16) (ix3 0 k f) = Wg m c (ix3 x k q) := by
  unfold iblk
  refine congrArg (Wg m c) ?_
  funext a
  apply Fin.ext
  have e := tr1_eq (F := Ideal) b n (grid0.coords t)
  match a with
  | ⟨0, _⟩ =>
    refine Eq.trans (b := cc0_transform_1 k0_off1_inb numel1_S1 inb_S1_S1_0 (pfOf (F := Ideal) b n) (grid0.coords t) 0 * 1 + 1 * 0) rfl ?_
    rw [e]; rw [Nat.mul_one]; exact hx.symm
  | ⟨1, _⟩ =>
    refine Eq.trans (b := cc0_transform_1 k0_off1_inb numel1_S1 inb_S1_S1_0 (pfOf (F := Ideal) b n) (grid0.coords t) 1 * 2048 + 1 * k.val) rfl ?_
    rw [e]; rw [Nat.one_mul]; exact Nat.zero_add _
  | ⟨2, _⟩ =>
    refine Eq.trans (b := cc0_transform_1 k0_off1_inb numel1_S1 inb_S1_S1_0 (pfOf (F := Ideal) b n) (grid0.coords t) 2 * 1024 + 1 * f.val) rfl ?_
    rw [e]; rw [Nat.one_mul]; exact hq.symm

theorem blk_wu (t : Fin grid0.N) (k : Fin 2048) (f : Fin 1024) (x : Fin 32) (hx : x.val = (b (bx (grid0.coords t))).toNat) (q : Fin 2048) (hq : q.val = half n (grid0.coords t) * 1024 + f.val) :
    (iblk b n hr m c 3 t : FVec Ideal S1x2048x1024 .bf16) (ix3 0 k f) = Wu m c (ix3 x k q) := by
  unfold iblk
  refine congrArg (Wu m c) ?_
  funext a
  apply Fin.ext
  have e := tr3_eq (F := Ideal) b n (grid0.coords t)
  match a with
  | ⟨0, _⟩ =>
    refine Eq.trans (b := cc0_transform_3 k0_off1_inb numel1_S1 inb_S1_S1_0 (pfOf (F := Ideal) b n) (grid0.coords t) 0 * 1 + 1 * 0) rfl ?_
    rw [e]; rw [Nat.mul_one]; exact hx.symm
  | ⟨1, _⟩ =>
    refine Eq.trans (b := cc0_transform_3 k0_off1_inb numel1_S1 inb_S1_S1_0 (pfOf (F := Ideal) b n) (grid0.coords t) 1 * 2048 + 1 * k.val) rfl ?_
    rw [e]; rw [Nat.one_mul]; exact Nat.zero_add _
  | ⟨2, _⟩ =>
    refine Eq.trans (b := cc0_transform_3 k0_off1_inb numel1_S1 inb_S1_S1_0 (pfOf (F := Ideal) b n) (grid0.coords t) 2 * 1024 + 1 * f.val) rfl ?_
    rw [e]; rw [Nat.one_mul]; exact hq.symm

theorem blk_bg (t : Fin grid0.N) (f : Fin 1024) (x : Fin 32) (hx : x.val = (b (bx (grid0.coords t))).toNat) (q : Fin 2048) (hq : q.val = half n (grid0.coords t) * 1024 + f.val) :
    (iblk b n hr m c 2 t : FVec Ideal S1x1x1024 .f32) (ix3 0 0 f) = Bg m c (ix3 x 0 q) := by
  unfold iblk
  refine congrArg (Bg m c) ?_
  funext a
  apply Fin.ext
  have e := tr2_eq (F := Ideal) b n (grid0.coords t)
  match a with
  | ⟨0, _⟩ =>
    refine Eq.trans (b := cc0_transform_2 k0_off1_inb numel1_S1 inb_S1_S1_0 (pfOf (F := Ideal) b n) (grid0.coords t) 0 * 1 + 1 * 0) rfl ?_
    rw [e]; rw [Nat.mul_one]; exact hx.symm
  | ⟨1, _⟩ =>
    refine Eq.trans (b := cc0_transform_2 k0_off1_inb numel1_S1 inb_S1_S1_0 (pfOf (F := Ideal) b n) (grid0.coords t) 1 * 1 + 1 * 0) rfl ?_
    rw [e]; rfl
  | ⟨2, _⟩ =>
    refine Eq.trans (b := cc0_transform_2 k0_off1_inb numel1_S1 inb_S1_S1_0 (pfOf (F := Ideal) b n) (grid0.coords t) 2 * 1024 + 1 * f.val) rfl ?_
    rw [e]; rw [Nat.one_mul]; exact hq.symm

theorem blk_bu (t : Fin grid0.N) (f : Fin 1024) (x : Fin 32) (hx : x.val = (b (bx (grid0.coords t))).toNat) (q : Fin 2048) (hq : q.val = half n (grid0.coords t) * 1024 + f.val) :
    (iblk b n hr m c 4 t : FVec Ideal S1x1x1024 .f32) (ix3 0 0 f) = Bu m c (ix3 x 0 q) := by
  unfold iblk
  refine congrArg (Bu m c) ?_
  funext a
  apply Fin.ext
  have e := tr4_eq (F := Ideal) b n (grid0.coords t)
  match a with
  | ⟨0, _⟩ =>
    refine Eq.trans (b := cc0_transform_4 k0_off1_inb numel1_S1 inb_S1_S1_0 (pfOf (F := Ideal) b n) (grid0.coords t) 0 * 1 + 1 * 0) rfl ?_
    rw [e]; rw [Nat.mul_one]; exact hx.symm
  | ⟨1, _⟩ =>
    refine Eq.trans (b := cc0_transform_4 k0_off1_inb numel1_S1 inb_S1_S1_0 (pfOf (F := Ideal) b n) (grid0.coords t) 1 * 1 + 1 * 0) rfl ?_
    rw [e]; rfl
  | ⟨2, _⟩ =>
    refine Eq.trans (b := cc0_transform_4 k0_off1_inb numel1_S1 inb_S1_S1_0 (pfOf (F := Ideal) b n) (grid0.coords t) 2 * 1024 + 1 * f.val) rfl ?_
    rw [e]; rw [Nat.one_mul]; exact hq.symm

theorem blk_wd (t : Fin grid0.N) (f : Fin 1024) (d : Fin 2048) (x : Fin 32) (hx : x.val = (b (bx (grid0.coords t))).toNat) (q : Fin 2048) (hq : q.val = half n (grid0.coords t) * 1024 + f.val) :
    (iblk b n hr m c 5 t : FVec Ideal S1x1024x2048 .bf16) (ix3 0 f d) = Wd m c (ix3 x q d) := by
  unfold iblk
  refine congrArg (Wd m c) ?_
  funext a
  apply Fin.ext
  have e := tr5_eq (F := Ideal) b n (grid0.coords t)
  match a with
  | ⟨0, _⟩ =>
    refine Eq.trans (b := cc0_transform_5 k0_off1_inb numel1_S1 inb_S1_S1_0 (pfOf (F := Ideal) b n) (grid0.coords t) 0 * 1 + 1 * 0) rfl ?_
    rw [e]; rw [Nat.mul_one]; exact hx.symm
  | ⟨1, _⟩ =>
    refine Eq.trans (b := cc0_transform_5 k0_off1_inb numel1_S1 inb_S1_S1_0 (pfOf (F := Ideal) b n) (grid0.coords t) 1 * 1024 + 1 * f.val) rfl ?_
    rw [e]; rw [Nat.one_mul]; exact hq.symm
  | ⟨2, _⟩ =>
    refine Eq.trans (b := cc0_transform_5 k0_off1_inb numel1_S1 inb_S1_S1_0 (pfOf (F := Ideal) b n) (grid0.coords t) 2 * 2048 + 1 * d.val) rfl ?_
    rw [e]; rw [Nat.one_mul]; exact Nat.zero_add _

theorem blk_bd (t : Fin grid0.N) (d : Fin 2048) (x : Fin 32) (hx : x.val = (b (bx (grid0.coords t))).toNat) :
    (iblk b n hr m c 6 t : FVec Ideal S1x1x2048 .f32) (ix3 0 0 d) = Bd m c (ix3 x 0 d) := by
  unfold iblk
  refine congrArg (Bd m c) ?_
  funext a
  apply Fin.ext
  have e := tr6_eq (F := Ideal) b n (grid0.coords t)
  match a with
  | ⟨0, _⟩ =>
    refine Eq.trans (b := cc0_transform_6 k0_off1_inb numel1_S1 (pfOf (F := Ideal) b n) (grid0.coords t) 0 * 1 + 1 * 0) rfl ?_
    rw [e]; rw [Nat.mul_one]; exact hx.symm
  | ⟨1, _⟩ =>
    refine Eq.trans (b := cc0_transform_6 k0_off1_inb numel1_S1 (pfOf (F := Ideal) b n) (grid0.coords t) 1 * 1 + 1 * 0) rfl ?_
    rw [e]; rfl
  | ⟨2, _⟩ =>
    refine Eq.trans (b := cc0_transform_6 k0_off1_inb numel1_S1 (pfOf (F := Ideal) b n) (grid0.coords t) 2 * 2048 + 1 * d.val) rfl ?_
    rw [e]; rw [Nat.one_mul]; exact Nat.zero_add _

/-- One hidden value's share of a row's output. -/
def term (i : Fin 352) (r : Fin 512) (d f : Fin 2048) : EReal :=
  hid (fun k => X m c (ix2 ⟨i.val * 512 + r.val, by omega⟩ k)) (fun k => Wg m c (ix3 (ex b i) k f)) (fun k => Wu m c (ix3 (ex b i) k f))
    (Bg m c (ix3 (ex b i) 0 f)) (Bu m c (ix3 (ex b i) 0 f)) * Wd m c (ix3 (ex b i) f d)

/-- The output of the launched arguments. -/
def outArr : FVec Ideal S180224x2048 .bf16 := fun j =>
  outAt b n (X m c) (Wg m c) (Bg m c) (Wu m c) (Bu m c) (Wd m c) (Bd m c)
    ⟨(j 0).val / 512, by have h : (j 0).val < 180224 := (j 0).isLt; omega⟩ ⟨(j 0).val % 512, Nat.mod_lt _ (by decide)⟩ (j 1)

theorem coords_base (t : Fin grid0.N) : (grid0.coords (base t)) 0 = (grid0.coords t) 0 :=
  Fin.ext (by rw [coords0, coords0]; show (t.val - t.val % 2) / 2 = t.val / 2; omega)
theorem bx_base (t : Fin grid0.N) : bx (grid0.coords (base t)) = bx (grid0.coords t) := by
  funext a; match a with | ⟨0, _⟩ => exact Fin.ext (congrArg Fin.val (coords_base t))
theorem used_base (t : Fin grid0.N) (w : BitVec 32) (h : Used (grid0.coords t) w) : Used (grid0.coords (base t)) w := by
  unfold Used at *; rw [coords_base]; exact h

section Block
variable (t : Fin grid0.N) (ht : t.val % 2 = 1) (hu : Used (grid0.coords t) (n o1)) (r : Fin 512) (d : Fin 2048)
include ht hu

theorem half0 : half n (grid0.coords (base t)) = 0 := by
  rw [half_used n _ (used_base t _ hu), coords1]; show (t.val - t.val % 2) % 2 = 0; omega
theorem half1 : half n (grid0.coords t) = 1 := by
  rw [half_used n _ hu, coords1, ht]

theorem hAt_apply (k : Fin 2048) :
    hAt b n hr m c t (ix2 r k) = X m c (ix2 ⟨((grid0.coords t) 0).val * 512 + r.val, by have h : ((grid0.coords t) 0).val < 352 := ((grid0.coords t) 0).isLt; omega⟩ k) := by
  unfold hAt
  refine (pay4_apply _ r k).trans ?_
  exact blk_x b n hr m c (base t) r k _ (by rw [row_used n _ (hr.used _) (used_base t _ hu), coords_base])

theorem a1_apply : a1 b n hr m c t (ix2 r d) = Bd m c (ix3 (ex b ((grid0.coords t) 0)) 0 d)
    + ∑ f : Fin 1024, term b m c ((grid0.coords t) 0) r d ⟨f.val, by omega⟩ := by
  have hx : (ex b ((grid0.coords t) 0)).val = (b (bx (grid0.coords (base t)))).toNat := by rw [bx_base]; exact ex_val b n hr _
  have hq : ∀ f : Fin 1024, (⟨f.val, by omega⟩ : Fin 2048).val = half n (grid0.coords (base t)) * 1024 + f.val := fun f => by
    rw [half0 n t ht hu]; show f.val = _; omega
  exact acc_eq _ _ _ _ _ _ _ r d _ _ _ _ _ _ _ ((pay5_apply _ r d).trans (blk_bd b n hr m c (base t) d _ hx)) (hAt_apply b n hr m c t ht hu r)
    (fun k f => blk_wg b n hr m c (base t) k f _ hx _ (hq f)) (fun f => blk_bg b n hr m c (base t) f _ hx _ (hq f))
    (fun k f => blk_wu b n hr m c (base t) k f _ hx _ (hq f)) (fun f => blk_bu b n hr m c (base t) f _ hx _ (hq f))
    (fun f => blk_wd b n hr m c (base t) f d _ hx _ (hq f))

theorem a2_apply : a2 b n hr m c t (ix2 r d) = a1 b n hr m c t (ix2 r d)
    + ∑ f : Fin 1024, term b m c ((grid0.coords t) 0) r d ⟨1024 + f.val, by omega⟩ := by
  have hx : (ex b ((grid0.coords t) 0)).val = (b (bx (grid0.coords t))).toNat := ex_val b n hr _
  have hq : ∀ f : Fin 1024, (⟨1024 + f.val, by omega⟩ : Fin 2048).val = half n (grid0.coords t) * 1024 + f.val := fun f => by
    rw [half1 n t ht hu]
  exact acc_eq _ _ _ _ _ _ _ r d _ _ _ _ _ _ _ rfl (hAt_apply b n hr m c t ht hu r)
    (fun k f => blk_wg b n hr m c t k f _ hx _ (hq f)) (fun f => blk_bg b n hr m c t f _ hx _ (hq f))
    (fun k f => blk_wu b n hr m c t k f _ hx _ (hq f)) (fun f => blk_bu b n hr m c t f _ hx _ (hq f))
    (fun f => blk_wd b n hr m c t f d _ hx _ (hq f))

end Block

theorem bf_zero : Ideal.ofBits .bf16 0x0000#16 = 0 := by simp [Ideal.ofBits, Ideal.ieee]

/-- The block left at a block's second point. -/
theorem oAt_apply (t : Fin grid0.N) (ht : t.val % 2 = 1) (r : Fin 512) (d : Fin 2048) :
    oAt b n hr m c t (ix2 r d) = outAt b n (X m c) (Wg m c) (Bg m c) (Wu m c) (Bu m c) (Wd m c) (Bd m c) ((grid0.coords t) 0) r d := by
  have hn : n (ix1 0) = n o1 := congrArg n (o1_eq _ _)
  unfold oAt outAt
  rw [hn]
  by_cases hu : Used (grid0.coords t) (n o1)
  · rw [if_pos hu, if_pos ((used_iff_lt n _ (hr.used _)).mp hu), pay2_apply, a2_apply b n hr m c t ht hu, a1_apply b n hr m c t ht hu]
    exact acc_halves (term b m c ((grid0.coords t) 0) r d) _
  · rw [if_neg hu, if_neg (fun h => hu ((used_iff_lt n _ (hr.used _)).mpr h)), pay3_apply, bf_zero]

theorem index7 : ∀ t : Fin grid0.N, cc0_transform_7 (grid0.coords t) = ![t.val / 2, 0] := by decide +kernel

theorem emb7_0 (t : Fin grid0.N) (y : S512x2048.Idx) :
    ((((cfgA (F := Ideal) b n hr).win (7 : Fin 8)).blk t).view.emb y (0 : Fin 2)).val = t.val / 2 * 512 + (y 0).val := by
  refine Eq.trans (b := cc0_transform_7 (grid0.coords t) 0 * 512 + 1 * (y 0).val) rfl ?_
  rw [index7, Nat.one_mul]; rfl
theorem emb7_1 (t : Fin grid0.N) (y : S512x2048.Idx) :
    ((((cfgA (F := Ideal) b n hr).win (7 : Fin 8)).blk t).view.emb y (1 : Fin 2)).val = (y 1).val := by
  refine Eq.trans (b := cc0_transform_7 (grid0.coords t) 1 * 2048 + 1 * (y 1).val) rfl ?_
  rw [index7, Nat.one_mul]; exact Nat.zero_add _

/-- At the end the whole array. -/
theorem final : (dats b n hr m 0 c).arrAt (7 : Fin 8) (cfgA (F := Ideal) b n hr).N = outArr b n m c := by
  refine (dats b n hr m 0 c).arrAt_eq_of_emb (7 : Fin 8) _ (fun t hf y => ?_) fun i => ?_
  · have ht : t.val % 2 = 1 := (flush7' t).mp hf
    refine Eq.trans (b := oAt b n hr m c t y) rfl ?_
    have e0 := emb7_0 b n hr t y
    have e1 := emb7_1 b n hr t y
    have hc := coords0 t
    have hy : (y (0 : Fin 2)).val < 512 := (y (0 : Fin 2)).isLt
    refine (congrArg (oAt b n hr m c t) (eq_ix2 (y : S512x2048.Idx))).trans ?_
    refine (oAt_apply b n hr m c t ht (y 0) (y 1)).trans ?_
    unfold outArr
    congr 1
    · exact Fin.ext (by show _ = _ / 512; rw [e0, hc]; omega)
    · exact Fin.ext (by show _ = _ % 512; rw [e0]; show (y (0 : Fin 2)).val = _; omega)
    · exact Fin.ext e1.symm
  · have h0 : (i (0 : Fin 2)).val < 180224 := (i (0 : Fin 2)).isLt
    have hN : grid0.N = 704 := by decide +kernel
    let t : Fin grid0.N := ⟨(i (0 : Fin 2)).val / 512 * 2 + 1, by omega⟩
    refine ⟨t, (flush7' t).mpr (by show ((i (0 : Fin 2)).val / 512 * 2 + 1) % 2 = 1; omega), ?_⟩
    let y : S512x2048.Idx := ix2 ⟨(i (0 : Fin 2)).val % 512, Nat.mod_lt _ (by decide)⟩ ⟨(i (1 : Fin 2)).val, (i (1 : Fin 2)).isLt⟩
    have e : (((cfgA (F := Ideal) b n hr).win (7 : Fin 8)).blk t).view.emb y = i := by
      funext a
      apply Fin.ext
      match a with
      | ⟨0, _⟩ =>
        refine (emb7_0 b n hr t y).trans ?_
        show ((i (0 : Fin 2)).val / 512 * 2 + 1) / 2 * 512 + (i (0 : Fin 2)).val % 512 = (i (0 : Fin 2)).val
        omega
      | ⟨1, _⟩ => exact emb7_1 b n hr t y
    rw [← e]
    exact View.emb_mem_set _ _

end Cert.Proof.Experts

end
-- ==== Proof.ExRef.lean ====
/- What the experts' reference computes, read at an index. -/
module

public import Idealize.ShloMosaic.Lib.Pointwise
public import Idealize.ShloMosaic.Lib.WordCmp
public import proofs.«01_k».proof.Proof.Gen.Reference3Ideal.Read
public import proofs.«01_k».proof.Proof.ExSpec
public import proofs.«01_k».proof.Proof.ExTables

@[expose] public section

set_option maxRecDepth 16384
set_option maxHeartbeats 4000000

noncomputable section

namespace Cert.Proof.Experts.Reference

open Cert.Reference3Ideal Cert.Reference3Ideal.Gen Cert.Reference3Ideal.Read
open Idealize.ShloMosaic Idealize.ShloMosaic.TcCoe Idealize.SL.Sem

/-- The weights taken block by block. -/
theorem gatherW {α : Type} (x : S32x2048x2048.Idx → α) (idx : IVec S352x1 32) (i : Fin 352) (p q : Fin 2048) :
    Host.gather gather_S32x2048x2048_S352x1_S352x2048x2048_12_0_n_n_0_1_120482048 x idx (ix3 i p q)
      = x (ix3 ⟨min (idx (ix2 i 0)).toInt.toNat 31, by omega⟩ p q) := by
  unfold Host.gather
  refine congrArg x (funext fun a => Fin.ext ?_)
  show GatherDims.start gather_S32x2048x2048_S352x1_S352x2048x2048_12_0_n_n_0_1_120482048 (ix3 i p q) idx a
    + GatherDims.batchCoord gather_S32x2048x2048_S352x1_S352x2048x2048_12_0_n_n_0_1_120482048 (ix3 i p q) a
    + GatherDims.offCoord gather_S32x2048x2048_S352x1_S352x2048x2048_12_0_n_n_0_1_120482048 (ix3 i p q) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    have h0 : (0 : Fin 3) ∈ GatherDims.startIndexMap gather_S32x2048x2048_S352x1_S352x2048x2048_12_0_n_n_0_1_120482048 := List.mem_singleton.mpr rfl
    rw [dif_pos h0]
    have hsi : GatherDims.siIdx gather_S32x2048x2048_S352x1_S352x2048x2048_12_0_n_n_0_1_120482048 (ix3 i p q)
        ⟨List.idxOf (0 : Fin 3) gather_S32x2048x2048_S352x1_S352x2048x2048_12_0_n_n_0_1_120482048.startIndexMap,
          List.idxOf_lt_length_iff.2 (List.mem_singleton.mpr rfl)⟩ = ix2 i 0 := by
      funext b; refine Fin.ext ?_
      match b with
      | ⟨0, _⟩ => rfl
      | ⟨1, _⟩ => rfl
    rw [hsi]
    rfl
  · unfold GatherDims.start
    have h0 : (1 : Fin 3) ∉ GatherDims.startIndexMap gather_S32x2048x2048_S352x1_S352x2048x2048_12_0_n_n_0_1_120482048 := fun h => absurd (List.mem_singleton.mp (show (1 : Fin 3) ∈ [(0 : Fin 3)] from h)) (by decide)
    rw [dif_neg h0]
    show 0 + _ = _
    rw [Nat.zero_add]
    rfl
  · unfold GatherDims.start
    have h0 : (2 : Fin 3) ∉ GatherDims.startIndexMap gather_S32x2048x2048_S352x1_S352x2048x2048_12_0_n_n_0_1_120482048 := fun h => absurd (List.mem_singleton.mp (show (2 : Fin 3) ∈ [(0 : Fin 3)] from h)) (by decide)
    rw [dif_neg h0]
    show 0 + _ = _
    rw [Nat.zero_add]
    rfl
/-- The biases taken block by block. -/
theorem gatherB {α : Type} (x : S32x1x2048.Idx → α) (idx : IVec S352x1 32) (i : Fin 352) (p : Fin 1) (q : Fin 2048) :
    Host.gather gather_S32x1x2048_S352x1_S352x1x2048_12_0_n_n_0_1_112048 x idx (ix3 i p q)
      = x (ix3 ⟨min (idx (ix2 i 0)).toInt.toNat 31, by omega⟩ p q) := by
  unfold Host.gather
  refine congrArg x (funext fun a => Fin.ext ?_)
  show GatherDims.start gather_S32x1x2048_S352x1_S352x1x2048_12_0_n_n_0_1_112048 (ix3 i p q) idx a
    + GatherDims.batchCoord gather_S32x1x2048_S352x1_S352x1x2048_12_0_n_n_0_1_112048 (ix3 i p q) a
    + GatherDims.offCoord gather_S32x1x2048_S352x1_S352x1x2048_12_0_n_n_0_1_112048 (ix3 i p q) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    have h0 : (0 : Fin 3) ∈ GatherDims.startIndexMap gather_S32x1x2048_S352x1_S352x1x2048_12_0_n_n_0_1_112048 := List.mem_singleton.mpr rfl
    rw [dif_pos h0]
    have hsi : GatherDims.siIdx gather_S32x1x2048_S352x1_S352x1x2048_12_0_n_n_0_1_112048 (ix3 i p q)
        ⟨List.idxOf (0 : Fin 3) gather_S32x1x2048_S352x1_S352x1x2048_12_0_n_n_0_1_112048.startIndexMap,
          List.idxOf_lt_length_iff.2 (List.mem_singleton.mpr rfl)⟩ = ix2 i 0 := by
      funext b; refine Fin.ext ?_
      match b with
      | ⟨0, _⟩ => rfl
      | ⟨1, _⟩ => rfl
    rw [hsi]
    rfl
  · unfold GatherDims.start
    have h0 : (1 : Fin 3) ∉ GatherDims.startIndexMap gather_S32x1x2048_S352x1_S352x1x2048_12_0_n_n_0_1_112048 := fun h => absurd (List.mem_singleton.mp (show (1 : Fin 3) ∈ [(0 : Fin 3)] from h)) (by decide)
    rw [dif_neg h0]
    show 0 + _ = _
    rw [Nat.zero_add]
    rfl
  · unfold GatherDims.start
    have h0 : (2 : Fin 3) ∉ GatherDims.startIndexMap gather_S32x1x2048_S352x1_S352x1x2048_12_0_n_n_0_1_112048 := fun h => absurd (List.mem_singleton.mp (show (2 : Fin 3) ∈ [(0 : Fin 3)] from h)) (by decide)
    rw [dif_neg h0]
    show 0 + _ = _
    rw [Nat.zero_add]
    rfl

/-- An expert's number is not negative: it is not moved. -/
theorem wrap (w : BitVec 32) (h : w.toNat < 32) : Scalar.select (IntOp.cmpi .slt w 0#32) (IntOp.addi w 32#32) w = w := by
  have e : ∀ k : Fin 32, Scalar.select (IntOp.cmpi .slt (BitVec.ofNat 32 k.val) 0#32) (IntOp.addi (BitVec.ofNat 32 k.val) 32#32) (BitVec.ofNat 32 k.val) = BitVec.ofNat 32 k.val := by
    decide +kernel
  have := e ⟨w.toNat, h⟩
  rwa [BitVec.ofNat_toNat, BitVec.setWidth_eq] at this

variable (x0 : IVec S352 32) (x1 : IVec S1 32) (x2 : FVec Ideal S180224x2048 .bf16) (x3 : FVec Ideal S32x2048x2048 .bf16)
  (x4 : FVec Ideal S32x1x2048 .f32) (x5 : FVec Ideal S32x2048x2048 .bf16) (x6 : FVec Ideal S32x1x2048 .f32) (x7 : FVec Ideal S32x2048x2048 .bf16) (x8 : FVec Ideal S32x1x2048 .f32)
variable (hr : Routed x0 x1)

include hr in
theorem v7_apply (i : Fin 352) : val_main_v7 (F := Ideal) x0 (ix2 i 0) = x0 (ix1 i) := by
  rw [val_main_v7_apply, val_main_v6_apply, val_main_v3_apply, val_main_v5_apply, val_main_v2_apply, val_main_v4_apply, val_main_c_apply, val_main_c_0_apply,
    show idx_main_v7 (ix2 i 0) = ix1 i from by funext a; match a with | ⟨0, _⟩ => rfl]
  exact wrap _ (hr.expert _)
include hr in
theorem ex_eq (i : Fin 352) (h : min (val_main_v7 (F := Ideal) x0 (ix2 i 0)).toInt.toNat 31 < 32) :
    (⟨min (val_main_v7 (F := Ideal) x0 (ix2 i 0)).toInt.toNat 31, h⟩ : Fin 32) = ex x0 i := by
  refine Fin.ext ?_
  have hx := hr.expert (ix1 i)
  show min (val_main_v7 (F := Ideal) x0 (ix2 i 0)).toInt.toNat 31 = min (x0 (ix1 i)).toNat 31
  rw [v7_apply x0 x1 hr i, WordCmp.toInt_eq_toNat_of_lt_half (by omega), Int.toNat_natCast]

include hr in
theorem v8_apply (i : Fin 352) (p q : Fin 2048) : val_main_v8 (F := Ideal) x0 x3 (ix3 i p q) = x3 (ix3 (ex x0 i) p q) :=
  (gatherW x3 _ i p q).trans (by rw [ex_eq x0 x1 hr i])
include hr in
theorem v26_apply (i : Fin 352) (p q : Fin 2048) : val_main_v26 (F := Ideal) x0 x5 (ix3 i p q) = x5 (ix3 (ex x0 i) p q) := v8_apply x0 x1 x5 hr i p q
include hr in
theorem v59_apply (i : Fin 352) (p q : Fin 2048) : val_main_v59 (F := Ideal) x0 x7 (ix3 i p q) = x7 (ix3 (ex x0 i) p q) := v8_apply x0 x1 x7 hr i p q
include hr in
theorem v17_apply (i : Fin 352) (q : Fin 2048) : val_main_v17 (F := Ideal) x0 x4 (ix3 i 0 q) = x4 (ix3 (ex x0 i) 0 q) :=
  (gatherB x4 (val_main_v7 (F := Ideal) x0) i 0 q).trans (by rw [ex_eq x0 x1 hr i])
include hr in
theorem v35_apply (i : Fin 352) (q : Fin 2048) : val_main_v35 (F := Ideal) x0 x6 (ix3 i 0 q) = x6 (ix3 (ex x0 i) 0 q) := v17_apply x0 x1 x6 hr i q
include hr in
theorem v68_apply (i : Fin 352) (q : Fin 2048) : val_main_v68 (F := Ideal) x0 x8 (ix3 i 0 q) = x8 (ix3 (ex x0 i) 0 q) := v17_apply x0 x1 x8 hr i q

theorem v1_apply (i : Fin 352) (r : Fin 512) (k : Fin 2048) : val_main_v1 (F := Ideal) x2 (ix3 i r k) = x2 (ix2 ⟨i.val * 512 + r.val, by omega⟩ k) := by
  rw [val_main_v1_apply, val_main_v0_apply]
  refine congrArg x2 (funext fun a => Fin.ext ?_)
  match a with
  | ⟨0, _⟩ => show ((i.val * 512 + r.val) * 2048 + k.val) / 2048 = i.val * 512 + r.val; omega
  | ⟨1, _⟩ => show ((i.val * 512 + r.val) * 2048 + k.val) % 2048 = k.val; omega

include hr in
theorem v19_apply (i : Fin 352) (r : Fin 512) (f : Fin 2048) : val_main_v19 (F := Ideal) x0 x2 x3 x4 (ix3 i r f)
    = ∑ k : Fin 2048, x2 (ix2 ⟨i.val * 512 + r.val, by omega⟩ k) * x3 (ix3 (ex x0 i) k f) + x4 (ix3 (ex x0 i) 0 f) := by
  rw [val_main_v19_apply, val_main_v10_apply, val_main_v18_apply]
  refine congrArg₂ (fun a b : EReal => a + b) (Finset.sum_congr rfl fun k _ => ?_) ?_
  · have e0 : lidx_main_v10 (ix3 i r f) k = ix3 i r k := by funext a; fin_cases a <;> rfl
    have e1 : ridx_main_v10 (ix3 i r f) k = ix3 i k f := by funext a; fin_cases a <;> rfl
    rw [e0, e1, v1_apply, val_main_v9_apply, v8_apply x0 x1 x3 hr]
    rfl
  · have e : idx_main_v18 (ix3 i r f) = ix3 i 0 f := by funext a; fin_cases a <;> rfl
    rw [e, v17_apply x0 x1 x4 hr]
include hr in
theorem v37_apply (i : Fin 352) (r : Fin 512) (f : Fin 2048) : val_main_v37 (F := Ideal) x0 x2 x5 x6 (ix3 i r f)
    = ∑ k : Fin 2048, x2 (ix2 ⟨i.val * 512 + r.val, by omega⟩ k) * x5 (ix3 (ex x0 i) k f) + x6 (ix3 (ex x0 i) 0 f) :=
  v19_apply x0 x1 x2 x5 x6 hr i r f

/-- The gate of the reference. -/
theorem v49_apply (y : S352x512x2048.Idx) : val_main_v49 (F := Ideal) x0 x2 x3 x4 y = gate (val_main_v19 (F := Ideal) x0 x2 x3 x4 y) := by
  rw [val_main_v49_apply, val_main_v48_apply, val_main_v47_apply, val_main_v46_apply, val_main_v45_apply, val_main_v44_apply, val_main_v43_apply, val_main_v42_apply,
    val_main_v41_apply, val_main_v39_apply, val_main_v38_apply]
  rfl
/-- The linear part of the reference. -/
theorem v51_apply (y : S352x512x2048.Idx) : val_main_v51 (F := Ideal) x0 x2 x5 x6 y = lin (val_main_v37 (F := Ideal) x0 x2 x5 x6 y) := by
  rw [val_main_v51_apply, val_main_v50_apply, val_main_v40_apply, val_main_call0_v4_apply, val_main_call0_v2_apply, val_main_call0_v1_apply]
  rfl

/-- The rows through their block's expert, used or not. -/
def through (i : Fin 352) (r : Fin 512) (d : Fin 2048) : EReal :=
  ∑ f : Fin 2048, hid (fun k => x2 (ix2 ⟨i.val * 512 + r.val, by omega⟩ k)) (fun k => x3 (ix3 (ex x0 i) k f)) (fun k => x5 (ix3 (ex x0 i) k f))
    (x4 (ix3 (ex x0 i) 0 f)) (x6 (ix3 (ex x0 i) 0 f)) * x7 (ix3 (ex x0 i) f d) + x8 (ix3 (ex x0 i) 0 d)

include hr in
theorem v70_apply (i : Fin 352) (r : Fin 512) (d : Fin 2048) : val_main_v70 (F := Ideal) x0 x2 x3 x4 x5 x6 x7 x8 (ix3 i r d) = through x0 x2 x3 x4 x5 x6 x7 x8 i r d := by
  rw [val_main_v70_apply, val_main_v61_apply, val_main_v69_apply]
  refine congrArg₂ (fun a b : EReal => a + b) (Finset.sum_congr rfl fun f _ => ?_) ?_
  · have e0 : lidx_main_v61 (ix3 i r d) f = ix3 i r f := by funext a; fin_cases a <;> rfl
    have e1 : ridx_main_v61 (ix3 i r d) f = ix3 i f d := by funext a; fin_cases a <;> rfl
    rw [e0, e1, val_main_v60_apply, v59_apply x0 x1 x7 hr, val_main_v52_apply, v49_apply, v51_apply, v19_apply x0 x1 x2 x3 x4 hr, v37_apply x0 x1 x2 x5 x6 hr]
    rfl
  · have e : idx_main_v69 (ix3 i r d) = ix3 i 0 d := by funext a; fin_cases a <;> rfl
    rw [e, v68_apply x0 x1 x8 hr]

theorem v73_apply (y : S_.Idx) : val_main_v73 (F := Ideal) x1 y = x1 o1 := congrArg x1 (o1_eq _ _)

include hr in
/-- Whether a block holds rows. -/
theorem used_word (i : Fin 352) : IntOp.cmpi .slt (BitVec.ofNat 32 i.val) (x1 o1) = if i.val < (x1 o1).toNat then 1#1 else 0#1 := by
  have hn := hr.used o1
  have hpos : (x1 o1).toNat < 2 ^ 31 := (WordCmp.toInt_nonneg_iff_lt_half (x1 o1)).mp (by omega)
  have hi : (BitVec.ofNat 32 i.val).toNat = i.val := by rw [BitVec.toNat_ofNat]; exact Nat.mod_eq_of_lt (by omega)
  rw [WordCmp.cmpi_slt_eq, WordCmp.toInt_eq_toNat_of_lt_half hpos, WordCmp.toInt_eq_toNat_of_lt_half (by omega), hi]
  by_cases h : i.val < (x1 o1).toNat
  · rw [if_pos h, decide_eq_true (by omega)]; rfl
  · rw [if_neg h, decide_eq_false (by omega)]; rfl

theorem f32_zero : Ideal.ofBits .f32 0x00000000#32 = 0 := by simp [Ideal.ofBits, Ideal.ieee]

include hr in
/-- The reference's rows. -/
theorem v78_apply (R : Fin 180224) (d : Fin 2048) : val_main_v78 (F := Ideal) x0 x1 x2 x3 x4 x5 x6 x7 x8 (ix2 R d)
    = outAt x0 x1 x2 x3 x4 x5 x6 x7 x8 ⟨R.val / 512, by omega⟩ ⟨R.val % 512, Nat.mod_lt _ (by decide)⟩ d := by
  have e : idx_main_v77 (ix2 R d) = ix3 (⟨R.val / 512, by omega⟩ : Fin 352) (⟨R.val % 512, Nat.mod_lt _ (by decide)⟩ : Fin 512) d := by
    funext a
    apply Fin.ext
    match a with
    | ⟨0, _⟩ => show (R.val * 2048 + d.val) / (512 * 2048) = R.val / 512; omega
    | ⟨1, _⟩ => show (R.val * 2048 + d.val) / 2048 % 512 = R.val % 512; omega
    | ⟨2, _⟩ => show (R.val * 2048 + d.val) % 2048 = d.val; omega
  rw [val_main_v78_apply, val_main_v77_apply, e, val_main_v76_apply, val_main_call1_v1_apply, val_main_v75_apply, val_main_v72_apply, val_main_v71_apply,
    val_main_v74_apply, v73_apply, v70_apply x0 x1 x2 x3 x4 x5 x6 x7 x8 hr, val_main_call1_v2_apply]
  have hn : x1 (ix1 0) = x1 o1 := congrArg x1 (o1_eq _ _)
  have hu := used_word x0 x1 hr ⟨R.val / 512, by omega⟩
  unfold outAt
  rw [hn]
  refine Eq.trans (b := Scalar.select (IntOp.cmpi .slt (BitVec.ofNat 32 (R.val / 512)) (x1 o1)) (through x0 x2 x3 x4 x5 x6 x7 x8 _ _ d) (Ideal.ofBits .f32 0x00000000#32)) rfl ?_
  rw [hu]
  by_cases h : R.val / 512 < (x1 o1).toNat
  · rw [if_pos h, if_pos h]; rfl
  · rw [if_neg h, if_neg h]; exact f32_zero

end Cert.Proof.Experts.Reference

end
-- ==== Proof.MeFrames.lean ====
/- The frames of the merging call: the kernel and the reference run to an end, leave their arguments as they were and every counter at zero. -/
module

public import proofs.«01_k».proof.Defs
public import proofs.«01_k».proof.Proof.Gen.Kernel4
public import proofs.«01_k».proof.Proof.Gen.Kernel4Ideal.Frame
public import proofs.«01_k».proof.Proof.Gen.Reference4Ideal.Run

@[expose] public section

set_option maxRecDepth 16384

noncomputable section

namespace Cert.Proof.Merge

open Idealize.ShloMosaic Idealize.SL Idealize.SL.Sem

/-- The kernel over the extended reals. -/
theorem frame_ideal : Cert.quiescent_Kernel4Ideal := fun m ρ _ => Cert.Kernel4Ideal.Gen.frame (F := Ideal) m ρ

/-- The two programs call the same body. -/
theorem defs₀_eq {F : FTy → Type} [FloatOps F] : (Kernel4.defs₀ (F := F)) = Kernel4Ideal.defs₀ (F := F) := by
  refine congrArg Defs.onTc (funext fun l => funext fun a => ?_)
  match l, a with
  | ⟨0, _⟩, (t, s) => rfl

/-- The two programs' tables of bodies are equal. -/
theorem defs_eq {F : FTy → Type} [FloatOps F] : (Kernel4.defs (F := F)) = Kernel4Ideal.defs (F := F) :=
  congrArg (Pipeline.defs Kernel4.pcfgs) defs₀_eq

/-- The kernel over the words of its number formats: the same program. -/
theorem frame_kernel : Cert.quiescent_Kernel4 := fun m ρ _ => by
  rw [defs_eq]
  exact (θ_run Cert.Kernel4Ideal.defs _ _).mono (fun _ h => h) (Cert.Kernel4Ideal.Gen.frame (F := Bits) m ρ)

/-- The reference over the extended reals. -/
theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

end Cert.Proof.Merge

end
-- ==== Proof.MeOut.lean ====
/- What one grid point of the merging call stores: the payloads of the blocks it loads. -/
module

public import proofs.«01_k».proof.Proof.Gen.Kernel4Ideal.Frame
public import Idealize.ShloMosaic.Lib.Pipeline.ValueKit

@[expose] public section

set_option maxRecDepth 16384
set_option maxHeartbeats 4000000

noncomputable section

namespace Cert.Proof.Merge

open Cert.Kernel4Ideal Cert.Kernel4Ideal.Gen
open Idealize.ShloMosaic Idealize.ShloMosaic.TcCoe Idealize.ShloMosaic.Tactic Idealize.SL.Sem

variable {F : FTy → Type} [FloatOps F]

theorem hz : (![0, 0] : Fin 2 → ℕ) = fun _ => 0 := by funext a; fin_cases a <;> rfl

/-- Which group the grid point is of, as the body asks. -/
abbrev first (i : grid0.Coords) : BitVec 1 := Scalar.cmpi .slt (BitVec.ofNat 32 (i 0).val) 128#32

/-- The block of the residual stream. -/
theorem out13 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S256x2048 .f32) (harg7 : arg7.IsWhole) (arg8 : Memref sig .tc .vmem S2048x2048 .bf16) (harg8 : arg8.IsWhole) (arg9 : Memref sig .tc .vmem S2048x2048 .bf16) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S2048x128 .bf16) (harg12 : arg12.IsWhole) (arg13 : Memref sig .tc .vmem S1x128 .f32) (harg13 : arg13.IsWhole) (arg14 : Memref sig .tc .vmem S256x2048 .f32) (harg14 : arg14.IsWhole) (arg15 : Memref sig .tc .vmem S256x2048 .bf16) (harg15 : arg15.IsWhole) (arg16 : Memref sig .tc .vmem S256x128 .i32) (harg16 : arg16.IsWhole) (arg17 : Memref sig .tc .vmem S256x128 .f32) (harg17 : arg17.IsWhole)
    (x0 : Vec F S256x2048 .bf16) (x1 : Vec F S256x2048 .bf16) (x2 : Vec F S256x2048 .bf16) (x3 : Vec F S256x2048 .bf16) (x4 : Vec F S256x2048 .bf16) (x5 : Vec F S256x2048 .f32) (x6 : Vec F S256x2048 .f32) (x7 : Vec F S2048x2048 .bf16) (x8 : Vec F S2048x2048 .bf16) (x9 : Vec F S2048x2048 .bf16) (x10 : Vec F S1x2048 .f32) (x11 : Vec F S2048x128 .bf16) (x12 : Vec F S1x128 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12
      = k0_pay2 (first i) (k0_pay1 i x0 x7 x1 x2 x8 x3 x4) x5 x6 x9 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x2048) hz, View.ld_unit_zero (S := S2048x2048) hz, View.ld_unit_zero (S := S1x2048) hz]

/-- The block of the normalised rows. -/
theorem out14 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S256x2048 .f32) (harg7 : arg7.IsWhole) (arg8 : Memref sig .tc .vmem S2048x2048 .bf16) (harg8 : arg8.IsWhole) (arg9 : Memref sig .tc .vmem S2048x2048 .bf16) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S2048x128 .bf16) (harg12 : arg12.IsWhole) (arg13 : Memref sig .tc .vmem S1x128 .f32) (harg13 : arg13.IsWhole) (arg14 : Memref sig .tc .vmem S256x2048 .f32) (harg14 : arg14.IsWhole) (arg15 : Memref sig .tc .vmem S256x2048 .bf16) (harg15 : arg15.IsWhole) (arg16 : Memref sig .tc .vmem S256x128 .i32) (harg16 : arg16.IsWhole) (arg17 : Memref sig .tc .vmem S256x128 .f32) (harg17 : arg17.IsWhole)
    (x0 : Vec F S256x2048 .bf16) (x1 : Vec F S256x2048 .bf16) (x2 : Vec F S256x2048 .bf16) (x3 : Vec F S256x2048 .bf16) (x4 : Vec F S256x2048 .bf16) (x5 : Vec F S256x2048 .f32) (x6 : Vec F S256x2048 .f32) (x7 : Vec F S2048x2048 .bf16) (x8 : Vec F S2048x2048 .bf16) (x9 : Vec F S2048x2048 .bf16) (x10 : Vec F S1x2048 .f32) (x11 : Vec F S2048x128 .bf16) (x12 : Vec F S1x128 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12
      = k0_pay4 (first i) (k0_pay1 i x0 x7 x1 x2 x8 x3 x4) x5 x6 x9 x10 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x2048) hz, View.ld_unit_zero (S := S2048x2048) hz, View.ld_unit_zero (S := S1x2048) hz]

variable (m : (ℓ : Loc nD τ sig) → Buf (Elt F) ℓ) (c : Dev nD) (t : Fin cfg0.N)

/-- The gated sum of a grid point's blocks. -/
abbrev mixAt : FVec F S256x2048 .f32 :=
  k0_pay1 (grid0.coords t) (iblk m c 0 t) (iblk m c 7 t) (iblk m c 1 t) (iblk m c 2 t) (iblk m c 8 t) (X0_3 m c t) (X0_4 m c t)
/-- The residual stream's block at a grid point. -/
def xAt : FVec F S256x2048 .f32 :=
  k0_pay2 (first (grid0.coords t)) (mixAt m c t) (iblk m c 5 t) (iblk m c 6 t) (iblk m c 9 t)
/-- The normalised rows' block at a grid point. -/
def hAt : FVec F S256x2048 .bf16 :=
  k0_pay4 (first (grid0.coords t)) (mixAt m c t) (iblk m c 5 t) (iblk m c 6 t) (iblk m c 9 t) (iblk m c 10 t)

theorem after_x : (dats m 0 c).after 13 t = xAt m c t := by
  rw [after0_13]
  unfold outsAt0
  dsimp only
  exact out13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (X0_3 m c t) (X0_4 m c t) (iblk m c 5 t) (iblk m c 6 t) (iblk m c 7 t) (iblk m c 8 t) (iblk m c 9 t) (iblk m c 10 t) (iblk m c 11 t) (iblk m c 12 t)
theorem after_h : (dats m 0 c).after 14 t = hAt m c t := by
  rw [after0_14]
  unfold outsAt0
  dsimp only
  exact out14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (X0_3 m c t) (X0_4 m c t) (iblk m c 5 t) (iblk m c 6 t) (iblk m c 7 t) (iblk m c 8 t) (iblk m c 9 t) (iblk m c 10 t) (iblk m c 11 t) (iblk m c 12 t)

end Cert.Proof.Merge

end
-- ==== Proof.MeSpec.lean ====
/- What the merging call computes, as plain maths over the extended reals. -/
module

public import Idealize.ShloMosaic.Lib.Pointwise
public import proofs.«01_k».proof.Proof.Gen.Kernel4Ideal
public import proofs.«01_k».proof.Proof.InSpec

@[expose] public section

set_option maxRecDepth 16384

noncomputable section

namespace Cert.Proof.Merge

open Cert.Kernel4Ideal Cert.Kernel4Ideal.Gen
open Idealize.ShloMosaic Idealize.ShloMosaic.TcCoe

/-- The logistic function. -/
def logistic (s : EReal) : EReal := Ideal.div (Ideal.ofBits .f32 0x3F800000#32) (Ideal.ofBits .f32 0x3F800000#32 + Ideal.exp (-s))

/-- The rows of both groups, one under the other. -/
def rows (a : S32768x2048.Idx → EReal) (b : S8192x2048.Idx → EReal) (r : Fin 40960) (k : Fin 2048) : EReal :=
  if h : r.val < 32768 then a (ix2 ⟨r.val, h⟩ k) else b (ix2 ⟨r.val - 32768, by omega⟩ k)

/-- A row of the gated sum: each branch's row through its weights, times the logistic function of its gate. -/
def mixed (ga gb ya yb : Fin 2048 → EReal) (wa wb : S2048x2048.Idx → EReal) (k : Fin 2048) : EReal :=
  logistic (ga k) * (∑ j, ya j * wa (ix2 j k)) + logistic (gb k) * (∑ j, yb j * wb (ix2 j k))

/-- A row of the residual stream: what was there, and the gated sum through the output weights. -/
def merged (x mix : Fin 2048 → EReal) (wo : S2048x2048.Idx → EReal) (k : Fin 2048) : EReal :=
  x k + ∑ j, mix j * wo (ix2 j k)

/-- Row `r` of the residual stream, from the first nine arguments of the call. -/
def stream (ya : S40960x2048.Idx → EReal) (yb0 : S32768x2048.Idx → EReal) (yb1 : S8192x2048.Idx → EReal) (z : S40960x11264.Idx → EReal)
    (x0 : S32768x2048.Idx → EReal) (x1 : S8192x2048.Idx → EReal) (wa wb wo : S2048x2048.Idx → EReal) (r : Fin 40960) : Fin 2048 → EReal :=
  merged (rows x0 x1 r)
    (mixed (fun k => z (ix2 r ⟨6144 + k.val, by omega⟩)) (fun k => z (ix2 r ⟨8192 + k.val, by omega⟩)) (fun k => ya (ix2 r k)) (rows yb0 yb1 r) wa wb) wo

end Cert.Proof.Merge

end
-- ==== Proof.MeBlock.lean ====
/- One block of the merging call over the extended reals, read at an index. -/
module

public import proofs.«01_k».proof.Proof.Gen.Kernel4Ideal.Skeleton
public import proofs.«01_k».proof.Proof.MeSpec

@[expose] public section

set_option maxRecDepth 16384
set_option maxHeartbeats 4000000

noncomputable section

namespace Cert.Proof.Merge

open Cert.Kernel4Ideal Cert.Kernel4Ideal.Gen
open Idealize.ShloMosaic Idealize.ShloMosaic.TcCoe

theorem zero_sub' (x : EReal) : Ideal.ofBits .f32 0#32 - x = -x := by
  have h : Ideal.ofBits .f32 0#32 = 0 := by simp [Ideal.ofBits, Ideal.ieee]
  rw [h, zero_sub]

theorem cmp128 : ∀ n : Fin 160, Scalar.cmpi .slt (BitVec.ofNat 32 n.val) 128#32 = if n.val < 128 then 1#1 else 0#1 := by decide +kernel

/-- The gated sum. -/
theorem pay1_apply (i : grid0.Coords) (ya yb0 yb1 ga gb : FVec Ideal S256x2048 .bf16) (wa wb : FVec Ideal S2048x2048 .bf16) (r : Fin 256) (k : Fin 2048) :
    k0_pay1 (F := Ideal) i ya wa yb0 yb1 wb ga gb (ix2 r k)
      = mixed (fun k => ga (ix2 r k)) (fun k => gb (ix2 r k)) (fun k => ya (ix2 r k))
          (fun k => if (i 0).val < 128 then yb0 (ix2 r k) else yb1 (ix2 r k)) wa wb k := by
  have s1 : ∀ x y : FVec Ideal S256x2048 .bf16, Scalar.select 1#1 x y = x := fun _ _ => rfl
  have s0 : ∀ x y : FVec Ideal S256x2048 .bf16, Scalar.select 0#1 x y = y := fun _ _ => rfl
  have e := cmp128 (i 0)
  unfold mixed logistic
  by_cases h : (i 0).val < 128
  · rw [if_pos h] at e
    simp only [if_pos h, ← zero_sub']
    unfold k0_pay1
    rw [e, s1]
    pointwise!
  · rw [if_neg h] at e
    simp only [if_neg h, ← zero_sub']
    unfold k0_pay1
    rw [e, s0]
    pointwise!

/-- The residual stream. -/
theorem pay2_apply (i : grid0.Coords) (mix x0 x1 : FVec Ideal S256x2048 .f32) (wo : FVec Ideal S2048x2048 .bf16) (r : Fin 256) (k : Fin 2048) :
    k0_pay2 (F := Ideal) (Scalar.cmpi .slt (BitVec.ofNat 32 (i 0).val) 128#32) mix x0 x1 wo (ix2 r k)
      = merged (fun k => if (i 0).val < 128 then x0 (ix2 r k) else x1 (ix2 r k)) (fun k => mix (ix2 r k)) wo k := by
  have s1 : ∀ x y : FVec Ideal S256x2048 .f32, Scalar.select 1#1 x y = x := fun _ _ => rfl
  have s0 : ∀ x y : FVec Ideal S256x2048 .f32, Scalar.select 0#1 x y = y := fun _ _ => rfl
  have e := cmp128 (i 0)
  unfold merged
  by_cases h : (i 0).val < 128
  · rw [if_pos h] at e
    simp only [if_pos h]
    unfold k0_pay2
    rw [e, s1]
    pointwise!
  · rw [if_neg h] at e
    simp only [if_neg h]
    unfold k0_pay2
    rw [e, s0]
    pointwise!

/-- The normalised rows. -/
theorem pay4_apply (b : BitVec 1) (mix x0 x1 : FVec Ideal S256x2048 .f32) (wo : FVec Ideal S2048x2048 .bf16) (g : FVec Ideal S1x2048 .f32) (r : Fin 256) (k : Fin 2048) :
    k0_pay4 (F := Ideal) b mix x0 x1 wo g (ix2 r k)
      = Inproj.normed (fun k => k0_pay2 (F := Ideal) b mix x0 x1 wo (ix2 r k)) (fun k => g (ix2 0 k)) k := by
  unfold Inproj.normed k0_pay4 k0_pay3
  generalize k0_pay2 (F := Ideal) b mix x0 x1 wo = y
  pointwise!

end Cert.Proof.Merge

end
-- ==== Proof.MeArray.lean ====
/- At the end of the run the merging call's two arrays hold the residual stream and its normalised rows. -/
module

public import Idealize.ShloMosaic.Lib.Claim
public import Idealize.ShloMosaic.Lib.Pointwise
public import Idealize.ShloMosaic.Lib.Pipeline.ValueKit
public import proofs.«01_k».proof.Proof.MeOut
public import proofs.«01_k».proof.Proof.MeBlock

@[expose] public section

set_option maxRecDepth 16384
set_option maxHeartbeats 4000000

noncomputable section

namespace Cert.Proof.Merge

open Cert.Kernel4Ideal Cert.Kernel4Ideal.Gen
open Idealize.ShloMosaic Idealize.ShloMosaic.TcCoe Idealize.SL.Sem
open Idealize.ShloMosaic.Pipeline (Dat Cfg Window)

variable (m : (ℓ : Loc nD τ sig) → Buf (Elt Ideal) ℓ) (c : Dev nD)

abbrev A0 : FVec Ideal S40960x2048 .bf16 := m ((c : Thread nD τ).loc main_arg0)
abbrev A1 : FVec Ideal S32768x2048 .bf16 := m ((c : Thread nD τ).loc main_arg1)
abbrev A2 : FVec Ideal S8192x2048 .bf16 := m ((c : Thread nD τ).loc main_arg2)
abbrev A3 : FVec Ideal S40960x11264 .bf16 := m ((c : Thread nD τ).loc main_arg3)
abbrev A4 : FVec Ideal S32768x2048 .f32 := m ((c : Thread nD τ).loc main_arg4)
abbrev A5 : FVec Ideal S8192x2048 .f32 := m ((c : Thread nD τ).loc main_arg5)
abbrev A6 : FVec Ideal S2048x2048 .bf16 := m ((c : Thread nD τ).loc main_arg6)
abbrev A7 : FVec Ideal S2048x2048 .bf16 := m ((c : Thread nD τ).loc main_arg7)
abbrev A8 : FVec Ideal S2048x2048 .bf16 := m ((c : Thread nD τ).loc main_arg8)
abbrev A9 : FVec Ideal S1x2048 .f32 := m ((c : Thread nD τ).loc main_arg9)

/-- A row of the residual stream of the launched arguments. -/
abbrev streamAt (r : Fin 40960) : Fin 2048 → EReal :=
  stream (A0 m c) (A1 m c) (A2 m c) (A3 m c) (A4 m c) (A5 m c) (A6 m c) (A7 m c) (A8 m c) r
/-- The residual stream of the launched arguments. -/
def xArr : FVec Ideal S40960x2048 .f32 := fun j => streamAt m c (j 0) (j 1)
/-- Its normalised rows. -/
def hArr : FVec Ideal S40960x2048 .bf16 := fun j => Inproj.normed (streamAt m c (j 0)) (fun k => A9 m c (ix2 0 k)) (j 1)

/-- Which blocks the grid point `t` takes and writes. -/
theorem index0 : ∀ t : Fin cfg0.N, win0_0.index t = ![t.val, 0] :=
  (by decide +kernel : ∀ t : Fin grid0.N, _)
theorem index1 : ∀ t : Fin cfg0.N, win0_1.index t = ![min t.val 127, 0] :=
  (by decide +kernel : ∀ t : Fin grid0.N, _)
theorem index2 : ∀ t : Fin cfg0.N, win0_2.index t = ![t.val - 128, 0] :=
  (by decide +kernel : ∀ t : Fin grid0.N, _)
theorem index3 : ∀ t : Fin cfg0.N, win0_3.index t = ![t.val, 3] :=
  (by decide +kernel : ∀ t : Fin grid0.N, _)
theorem index4 : ∀ t : Fin cfg0.N, win0_4.index t = ![t.val, 4] :=
  (by decide +kernel : ∀ t : Fin grid0.N, _)
theorem index5 : ∀ t : Fin cfg0.N, win0_5.index t = ![min t.val 127, 0] :=
  (by decide +kernel : ∀ t : Fin grid0.N, _)
theorem index6 : ∀ t : Fin cfg0.N, win0_6.index t = ![t.val - 128, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)
theorem index9 : ∀ t : Fin cfg0.N, win0_9.index t = ![0, 0] :=
  (by decide +kernel : ∀ t : Fin grid0.N, _)
theorem index10 : ∀ t : Fin cfg0.N, win0_10.index t = ![0, 0] :=
  (by decide +kernel : ∀ t : Fin grid0.N, _)
theorem index13 : ∀ t : Fin cfg0.N, win0_13.index t = ![t.val, 0] :=
  (by decide +kernel : ∀ t : Fin grid0.N, _)
theorem index14 : ∀ t : Fin cfg0.N, win0_14.index t = ![t.val, 0] :=
  (by decide +kernel : ∀ t : Fin grid0.N, _)
theorem coord0 : ∀ t : Fin cfg0.N, (grid0.coords t 0).val = t.val :=
  (by decide +kernel : ∀ t : Fin grid0.N, _)

/-- The operands' blocks at a grid point, read at an index. -/
theorem blk_ya (t : Fin cfg0.N) (r : Fin 256) (k : Fin 2048) (y : Fin 40960) (hy : y.val = t.val * 256 + r.val) :
    (iblk m c 0 t : FVec Ideal S256x2048 .bf16) (ix2 r k) = A0 m c (ix2 y k) := by
  unfold iblk
  refine congrArg (A0 m c) ?_
  funext a
  apply Fin.ext
  match a with
  | ⟨0, _⟩ => blk_simp [index0]; omega
  | ⟨1, _⟩ => blk_simp [index0]
theorem blk_yb0 (t : Fin cfg0.N) (r : Fin 256) (k : Fin 2048) (y : Fin 32768) (hy : y.val = min t.val 127 * 256 + r.val) :
    (iblk m c 1 t : FVec Ideal S256x2048 .bf16) (ix2 r k) = A1 m c (ix2 y k) := by
  unfold iblk
  refine congrArg (A1 m c) ?_
  funext a
  apply Fin.ext
  match a with
  | ⟨0, _⟩ => blk_simp [index1]; omega
  | ⟨1, _⟩ => blk_simp [index1]
theorem blk_yb1 (t : Fin cfg0.N) (r : Fin 256) (k : Fin 2048) (y : Fin 8192) (hy : y.val = (t.val - 128) * 256 + r.val) :
    (iblk m c 2 t : FVec Ideal S256x2048 .bf16) (ix2 r k) = A2 m c (ix2 y k) := by
  unfold iblk
  refine congrArg (A2 m c) ?_
  funext a
  apply Fin.ext
  match a with
  | ⟨0, _⟩ => blk_simp [index2]; omega
  | ⟨1, _⟩ => blk_simp [index2]
theorem blk_ga (t : Fin cfg0.N) (r : Fin 256) (k : Fin 2048) (y : Fin 40960) (hy : y.val = t.val * 256 + r.val) :
    (X0_3 m c t : FVec Ideal S256x2048 .bf16) (ix2 r k) = A3 m c (ix2 y ⟨6144 + k.val, by omega⟩) := by
  unfold X0_3 Pipeline.Window.fill
  refine (dif_pos (moved0_3 t (ix2 r k))).trans ?_
  unfold iblk
  refine congrArg (A3 m c) ?_
  funext a
  apply Fin.ext
  match a with
  | ⟨0, _⟩ => blk_simp [index3]; show t.val * 256 + r.val = y.val; omega
  | ⟨1, _⟩ => blk_simp [index3]
theorem blk_gb (t : Fin cfg0.N) (r : Fin 256) (k : Fin 2048) (y : Fin 40960) (hy : y.val = t.val * 256 + r.val) :
    (X0_4 m c t : FVec Ideal S256x2048 .bf16) (ix2 r k) = A3 m c (ix2 y ⟨8192 + k.val, by omega⟩) := by
  unfold X0_4 Pipeline.Window.fill
  refine (dif_pos (moved0_4 t (ix2 r k))).trans ?_
  unfold iblk
  refine congrArg (A3 m c) ?_
  funext a
  apply Fin.ext
  match a with
  | ⟨0, _⟩ => blk_simp [index4]; show t.val * 256 + r.val = y.val; omega
  | ⟨1, _⟩ => blk_simp [index4]
theorem blk_x0 (t : Fin cfg0.N) (r : Fin 256) (k : Fin 2048) (y : Fin 32768) (hy : y.val = min t.val 127 * 256 + r.val) :
    (iblk m c 5 t : FVec Ideal S256x2048 .f32) (ix2 r k) = A4 m c (ix2 y k) := by
  unfold iblk
  refine congrArg (A4 m c) ?_
  funext a
  apply Fin.ext
  match a with
  | ⟨0, _⟩ => blk_simp [index5]; omega
  | ⟨1, _⟩ => blk_simp [index5]
theorem blk_x1 (t : Fin cfg0.N) (r : Fin 256) (k : Fin 2048) (y : Fin 8192) (hy : y.val = (t.val - 128) * 256 + r.val) :
    (iblk m c 6 t : FVec Ideal S256x2048 .f32) (ix2 r k) = A5 m c (ix2 y k) := by
  unfold iblk
  refine congrArg (A5 m c) ?_
  funext a
  apply Fin.ext
  match a with
  | ⟨0, _⟩ => blk_simp [index6]; omega
  | ⟨1, _⟩ => blk_simp [index6]
theorem blk_wa (t : Fin cfg0.N) (j k : Fin 2048) : (iblk m c 7 t : FVec Ideal S2048x2048 .bf16) (ix2 j k) = A6 m c (ix2 j k) := by
  unfold iblk
  refine congrArg (A6 m c) ?_
  funext a
  apply Fin.ext
  match a with
  | ⟨0, _⟩ => blk_simp [index7]
  | ⟨1, _⟩ => blk_simp [index7]
theorem blk_wb (t : Fin cfg0.N) (j k : Fin 2048) : (iblk m c 8 t : FVec Ideal S2048x2048 .bf16) (ix2 j k) = A7 m c (ix2 j k) := by
  unfold iblk
  refine congrArg (A7 m c) ?_
  funext a
  apply Fin.ext
  match a with
  | ⟨0, _⟩ => blk_simp [index8]
  | ⟨1, _⟩ => blk_simp [index8]
theorem blk_wo (t : Fin cfg0.N) (j k : Fin 2048) : (iblk m c 9 t : FVec Ideal S2048x2048 .bf16) (ix2 j k) = A8 m c (ix2 j k) := by
  unfold iblk
  refine congrArg (A8 m c) ?_
  funext a
  apply Fin.ext
  match a with
  | ⟨0, _⟩ => blk_simp [index9]
  | ⟨1, _⟩ => blk_simp [index9]
theorem blk_g (t : Fin cfg0.N) (k : Fin 2048) : (iblk m c 10 t : FVec Ideal S1x2048 .f32) (ix2 0 k) = A9 m c (ix2 0 k) := by
  unfold iblk
  refine congrArg (A9 m c) ?_
  funext a
  apply Fin.ext
  match a with
  | ⟨0, _⟩ => blk_simp [index10]
  | ⟨1, _⟩ => blk_simp [index10]

/-- The whole matrices. -/
theorem wa_eq (t : Fin cfg0.N) : (iblk m c 7 t : FVec Ideal S2048x2048 .bf16) = A6 m c := funext fun i =>
  (congrArg (iblk m c 7 t : FVec Ideal S2048x2048 .bf16) (eq_ix2 i)).trans ((blk_wa m c t (i 0) (i 1)).trans (congrArg (A6 m c) (eq_ix2 i).symm))
theorem wb_eq (t : Fin cfg0.N) : (iblk m c 8 t : FVec Ideal S2048x2048 .bf16) = A7 m c := funext fun i =>
  (congrArg (iblk m c 8 t : FVec Ideal S2048x2048 .bf16) (eq_ix2 i)).trans ((blk_wb m c t (i 0) (i 1)).trans (congrArg (A7 m c) (eq_ix2 i).symm))
theorem wo_eq (t : Fin cfg0.N) : (iblk m c 9 t : FVec Ideal S2048x2048 .bf16) = A8 m c := funext fun i =>
  (congrArg (iblk m c 9 t : FVec Ideal S2048x2048 .bf16) (eq_ix2 i)).trans ((blk_wo m c t (i 0) (i 1)).trans (congrArg (A8 m c) (eq_ix2 i).symm))

theorem xAt_apply (t : Fin cfg0.N) (r : Fin 256) (k : Fin 2048) (row : Fin 40960) (hrow : row.val = t.val * 256 + r.val) :
    xAt m c t (ix2 r k) = streamAt m c row k := by
  have ht : t.val < 160 := t.isLt
  unfold xAt
  refine (pay2_apply (grid0.coords t) (mixAt m c t) (iblk m c 5 t) (iblk m c 6 t) (iblk m c 9 t) r k).trans ?_
  unfold streamAt stream
  have ex : (fun k => if (grid0.coords t 0).val < 128 then (iblk m c 5 t : FVec Ideal S256x2048 .f32) (ix2 r k) else (iblk m c 6 t : FVec Ideal S256x2048 .f32) (ix2 r k))
      = rows (A4 m c) (A5 m c) row := funext fun k => by
    rw [coord0]
    unfold rows
    by_cases h : t.val < 128
    · rw [if_pos h, dif_pos (by omega)]
      exact blk_x0 m c t r k ⟨row.val, by omega⟩ (by show row.val = _; omega)
    · rw [if_neg h, dif_neg (by omega)]
      exact blk_x1 m c t r k ⟨row.val - 32768, by omega⟩ (by show row.val - 32768 = _; omega)
  have ey : (fun k => if (grid0.coords t 0).val < 128 then (iblk m c 1 t : FVec Ideal S256x2048 .bf16) (ix2 r k) else (iblk m c 2 t : FVec Ideal S256x2048 .bf16) (ix2 r k))
      = rows (A1 m c) (A2 m c) row := funext fun k => by
    rw [coord0]
    unfold rows
    by_cases h : t.val < 128
    · rw [if_pos h, dif_pos (by omega)]
      exact blk_yb0 m c t r k ⟨row.val, by omega⟩ (by show row.val = _; omega)
    · rw [if_neg h, dif_neg (by omega)]
      exact blk_yb1 m c t r k ⟨row.val - 32768, by omega⟩ (by show row.val - 32768 = _; omega)
  have em : (fun k => mixAt m c t (ix2 r k)) = mixed (fun k => A3 m c (ix2 row ⟨6144 + k.val, by omega⟩)) (fun k => A3 m c (ix2 row ⟨8192 + k.val, by omega⟩))
      (fun k => A0 m c (ix2 row k)) (rows (A1 m c) (A2 m c) row) (A6 m c) (A7 m c) := funext fun k => by
    refine (pay1_apply (grid0.coords t) (iblk m c 0 t) (iblk m c 1 t) (iblk m c 2 t) (X0_3 m c t) (X0_4 m c t) (iblk m c 7 t) (iblk m c 8 t) r k).trans ?_
    have e1 : (fun k => (X0_3 m c t : FVec Ideal S256x2048 .bf16) (ix2 r k)) = fun k : Fin 2048 => A3 m c (ix2 row ⟨6144 + k.val, by omega⟩) :=
      funext fun k => blk_ga m c t r k row hrow
    have e2 : (fun k => (X0_4 m c t : FVec Ideal S256x2048 .bf16) (ix2 r k)) = fun k : Fin 2048 => A3 m c (ix2 row ⟨8192 + k.val, by omega⟩) :=
      funext fun k => blk_gb m c t r k row hrow
    have e3 : (fun k => (iblk m c 0 t : FVec Ideal S256x2048 .bf16) (ix2 r k)) = fun k => A0 m c (ix2 row k) :=
      funext fun k => blk_ya m c t r k row hrow
    exact (congrArg (fun f => mixed f _ _ _ _ _ k) e1).trans <| (congrArg (fun f => mixed _ f _ _ _ _ k) e2).trans <|
      (congrArg (fun f => mixed _ _ f _ _ _ k) e3).trans <| (congrArg (fun f => mixed _ _ _ f _ _ k) ey).trans <|
      (congrArg (fun f => mixed _ _ _ _ f _ k) (wa_eq m c t)).trans (congrArg (fun f => mixed _ _ _ _ _ f k) (wb_eq m c t))
  exact (congrArg (fun f => merged f _ _ k) ex).trans <| (congrArg (fun f => merged _ f _ k) em).trans (congrArg (fun f => merged _ _ f k) (wo_eq m c t))

theorem hAt_apply (t : Fin cfg0.N) (r : Fin 256) (k : Fin 2048) (row : Fin 40960) (hrow : row.val = t.val * 256 + r.val) :
    hAt m c t (ix2 r k) = Inproj.normed (streamAt m c row) (fun k => A9 m c (ix2 0 k)) k := by
  unfold hAt
  refine (pay4_apply _ (mixAt m c t) (iblk m c 5 t) (iblk m c 6 t) (iblk m c 9 t) (iblk m c 10 t) r k).trans ?_
  have e1 : (fun k => xAt m c t (ix2 r k)) = streamAt m c row := funext fun k => xAt_apply m c t r k row hrow
  have e2 : (fun k => (iblk m c 10 t : FVec Ideal S1x2048 .f32) (ix2 0 k)) = fun k => A9 m c (ix2 0 k) := funext fun k => blk_g m c t k
  exact (congrArg (fun f => Inproj.normed f _ k) e1).trans (congrArg (fun f => Inproj.normed _ f k) e2)

/-- At the end the array of the residual stream. -/
theorem final_x : (dats m 0 c).arrAt 13 cfg0.N = xArr m c := by
  refine (dats m 0 c).arrAt_eq_of_covers 13 _ (by decide +kernel) fun t hf y => ?_
  blk_simp
  rw [after_x]
  have e0 : ((win0_13.blk t).view.emb y 0).val = t.val * 256 + (y 0).val := by blk_simp [index13]
  have e1 : ((win0_13.blk t).view.emb y 1).val = (y 1).val := by blk_simp [index13]
  refine (congrArg (xAt m c t) (eq_ix2 (y : S256x2048.Idx))).trans ?_
  refine (xAt_apply m c t (y 0) (y 1) ((win0_13.blk t).view.emb y 0) e0).trans ?_
  unfold xArr
  exact congrArg (streamAt m c _) (Fin.ext e1.symm)

/-- At the end the array of its normalised rows. -/
theorem final_h : (dats m 0 c).arrAt 14 cfg0.N = hArr m c := by
  refine (dats m 0 c).arrAt_eq_of_covers 14 _ (by decide +kernel) fun t hf y => ?_
  blk_simp
  rw [after_h]
  have e0 : ((win0_14.blk t).view.emb y 0).val = t.val * 256 + (y 0).val := by blk_simp [index14]
  have e1 : ((win0_14.blk t).view.emb y 1).val = (y 1).val := by blk_simp [index14]
  refine (congrArg (hAt m c t) (eq_ix2 (y : S256x2048.Idx))).trans ?_
  refine (hAt_apply m c t (y 0) (y 1) ((win0_14.blk t).view.emb y 0) e0).trans ?_
  unfold hArr
  exact congrArg (Inproj.normed _ _) (Fin.ext e1.symm)

end Cert.Proof.Merge

end
-- ==== Proof.MeRef.lean ====
/- What the merging call's reference computes, read at an index. -/
module

public import Idealize.ShloMosaic.Lib.Pointwise
public import proofs.«01_k».proof.Proof.Gen.Reference4Ideal.Read
public import proofs.«01_k».proof.Proof.MeSpec

@[expose] public section

set_option maxRecDepth 16384
set_option maxHeartbeats 4000000

noncomputable section

namespace Cert.Proof.Merge.Reference

open Cert.Reference4Ideal Cert.Reference4Ideal.Gen Cert.Reference4Ideal.Read
open Idealize.ShloMosaic Idealize.ShloMosaic.TcCoe Idealize.SL.Sem

variable (x0 : FVec Ideal S40960x2048 .bf16) (x1 : FVec Ideal S32768x2048 .bf16) (x2 : FVec Ideal S8192x2048 .bf16) (x3 : FVec Ideal S40960x11264 .bf16)
  (x4 : FVec Ideal S32768x2048 .f32) (x5 : FVec Ideal S8192x2048 .f32) (x6 x7 x8 : FVec Ideal S2048x2048 .bf16) (x9 : FVec Ideal S1x2048 .f32)

theorem v0_apply (r : Fin 40960) (k : Fin 2048) : val_main_v0 (F := Ideal) x4 x5 (ix2 r k) = rows x4 x5 r k := by
  unfold rows
  pointwise [val_main_v0]
theorem v1_apply (r : Fin 40960) (k : Fin 2048) : val_main_v1 (F := Ideal) x1 x2 (ix2 r k) = rows x1 x2 r k := by
  unfold rows
  pointwise [val_main_v1]

theorem v4_apply (r : Fin 40960) (k : Fin 2048) :
    val_main_v4 (F := Ideal) x1 x2 x7 (ix2 r k) = ∑ j : Fin 2048, rows x1 x2 r j * x7 (ix2 j k) := by
  rw [val_main_v4_apply]
  refine Finset.sum_congr rfl fun j _ => ?_
  have e0 : lidx_main_v4 (ix2 r k) j = ix2 r j := by funext a; fin_cases a <;> rfl
  have e1 : ridx_main_v4 (ix2 r k) j = ix2 j k := by funext a; fin_cases a <;> rfl
  rw [e0, e1, ← v1_apply]
  rfl
theorem v17_apply (r : Fin 40960) (k : Fin 2048) :
    val_main_v17 (F := Ideal) x0 x6 (ix2 r k) = ∑ j : Fin 2048, x0 (ix2 r j) * x6 (ix2 j k) := by
  rw [val_main_v17_apply]
  refine Finset.sum_congr rfl fun j _ => ?_
  have e0 : lidx_main_v17 (ix2 r k) j = ix2 r j := by funext a; fin_cases a <;> rfl
  have e1 : ridx_main_v17 (ix2 r k) j = ix2 j k := by funext a; fin_cases a <;> rfl
  rw [e0, e1]
  rfl

/-- The two gates. -/
theorem v14_apply (r : Fin 40960) (k : Fin 2048) : val_main_v14 (F := Ideal) x3 (ix2 r k) = logistic (x3 (ix2 r ⟨6144 + k.val, by omega⟩)) := by
  have e : idx_main_v5 (ix2 r k) = ix2 r ⟨6144 + k.val, by omega⟩ := by funext a; fin_cases a <;> rfl
  have h : val_main_v6 (F := Ideal) x3 (ix2 r k) = x3 (ix2 r ⟨6144 + k.val, by omega⟩) := by
    rw [val_main_v6_apply, val_main_v5_apply, e]; rfl
  rw [← h]
  rfl
theorem v24_apply (r : Fin 40960) (k : Fin 2048) : val_main_v24 (F := Ideal) x3 (ix2 r k) = logistic (x3 (ix2 r ⟨8192 + k.val, by omega⟩)) := by
  have e : idx_main_v7 (ix2 r k) = ix2 r ⟨8192 + k.val, by omega⟩ := by funext a; fin_cases a <;> rfl
  have h : val_main_v8 (F := Ideal) x3 (ix2 r k) = x3 (ix2 r ⟨8192 + k.val, by omega⟩) := by
    rw [val_main_v8_apply, val_main_v7_apply, e]; rfl
  rw [← h]
  rfl

theorem v26_apply (r : Fin 40960) (k : Fin 2048) :
    val_main_v26 (F := Ideal) x0 x1 x2 x3 x6 x7 (ix2 r k)
      = mixed (fun k => x3 (ix2 r ⟨6144 + k.val, by omega⟩)) (fun k => x3 (ix2 r ⟨8192 + k.val, by omega⟩)) (fun k => x0 (ix2 r k)) (rows x1 x2 r) x6 x7 k := by
  unfold mixed
  rw [← v14_apply, ← v24_apply, ← v17_apply, ← v4_apply]
  rfl

/-- The residual stream. -/
theorem v29_apply (r : Fin 40960) (k : Fin 2048) :
    val_main_v29 (F := Ideal) x0 x1 x2 x3 x4 x5 x6 x7 x8 (ix2 r k) = stream x0 x1 x2 x3 x4 x5 x6 x7 x8 r k := by
  rw [val_main_v29_apply, val_main_v28_apply, v0_apply]
  unfold stream merged
  refine congrArg (rows x4 x5 r k + ·) (Finset.sum_congr rfl fun j _ => ?_)
  have e0 : lidx_main_v28 (ix2 r k) j = ix2 r j := by funext a; fin_cases a <;> rfl
  have e1 : ridx_main_v28 (ix2 r k) j = ix2 j k := by funext a; fin_cases a <;> rfl
  rw [e0, e1, v26_apply]
  rfl

/-- The normalised rows. -/
theorem v44_apply (r : Fin 40960) (k : Fin 2048) :
    val_main_v44 (F := Ideal) x0 x1 x2 x3 x4 x5 x6 x7 x8 x9 (ix2 r k) = Inproj.normed (stream x0 x1 x2 x3 x4 x5 x6 x7 x8 r) (fun k => x9 (ix2 0 k)) k := by
  unfold Inproj.normed
  rw [val_main_v44_apply, val_main_v43_apply, val_main_v40_apply, val_main_v39_apply, val_main_v38_apply, val_main_v37_apply, val_main_v35_apply, val_main_v33_apply, val_main_v32_apply]
  pointwise [val_main_v31, val_main_v34, val_main_v36, val_main_v42, val_main_v41, val_main_v30, val_main_cst_3, val_main_cst_4, val_main_cst_5]
  have e : ∀ x : Fin 2048, idx_main_v32 (idx_main_v33 (idx_main_v39 (ix2 r k))) x = ix2 r x := fun x => by funext a; fin_cases a <;> rfl
  simp only [e, v29_apply]

end Cert.Proof.Merge.Reference

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_routed
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Run
public import proofs.«01_k».proof.Proof.Frames
public import proofs.«01_k».proof.Proof.Array
public import proofs.«01_k».proof.Proof.Ref
public import proofs.«01_k».proof.Proof.Finite
public import proofs.«01_k».proof.Proof.InRun
public import proofs.«01_k».proof.Proof.InFrames
public import proofs.«01_k».proof.Proof.InArray
public import proofs.«01_k».proof.Proof.InRef
public import proofs.«01_k».proof.Proof.ExRun
public import proofs.«01_k».proof.Proof.ExFrames
public import proofs.«01_k».proof.Proof.ExArray
public import proofs.«01_k».proof.Proof.ExRef
public import proofs.«01_k».proof.Proof.MeFrames
public import proofs.«01_k».proof.Proof.MeArray
public import proofs.«01_k».proof.Proof.MeRef

@[expose] public section

set_option maxRecDepth 16384

noncomputable section

namespace Cert.Proof

open Idealize.ShloMosaic Idealize.SL Idealize.SL.Sem

/-- The kernel's run: its array of results ends as the attention of its arguments. -/
theorem run_kernel (m : (ℓ : Loc KernelIdeal.nD KernelIdeal.τ KernelIdeal.sig) → Buf (Elt Ideal) ℓ) (ρ : Dev KernelIdeal.nD → PrngReg)
    (hpre : Pre_KernelIdeal_finite m) :
    θ_run (KernelIdeal.defs (F := Ideal)) (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v23) = Latent.attnArr m c) :=
  (θ_run _ _ _).mono (fun r h c => ((h.1 c).1 3).trans
    (have f := finite_args _ _ _ _ _ (hpre c); Latent.final_o m c f.1 f.2.1 f.2.2.1 f.2.2.2)) (Latent.run_main (F := Ideal) m ρ)

/-- The kernel and the reference end with equal results. -/
theorem value : Cert.algebraic_KernelIdeal_ReferenceIdeal_pre_finite := fun m g m' g' hpre hargs =>
  ⟨fun c => Latent.attnArr m c,
    (θ_run _ _ _).mono (fun _ h c => ⟨h.1 c, h.2.1 c⟩) (θ_run_and (run_kernel m g hpre) (frame_any m g)),
    (θ_run _ _ _).mono (fun r h c => by
      obtain ⟨h0, hr⟩ := h c
      obtain ⟨f0, f1, f2, f3⟩ := finite_args _ _ _ _ _ (hpre c)
      refine ⟨h0.trans ((Cert.ReferenceIdeal.Read.val_main_v30_eq m' c).trans ?_), hr⟩
      obtain ⟨a0, a1, a2, a3, a4⟩ := hargs c
      rw [a0, a1, a2, a3, a4]
      funext i
      refine (congrArg _ (eq_ix2 (i : ReferenceIdeal.S32768x2048.Idx))).trans ?_
      exact Reference.v30_apply _ _ _ _ _ f0 f1 f2 f3 (i 0) (i 1)) (Cert.ReferenceIdeal.Value.run (F := Ideal) m' g')⟩

/-- The input projection's run: its two arrays end as the main columns and the rotary key's columns of its arguments. -/
theorem run_kernel2 (m : (ℓ : Loc Kernel2Ideal.nD Kernel2Ideal.τ Kernel2Ideal.sig) → Buf (Elt Ideal) ℓ) (ρ : Dev Kernel2Ideal.nD → PrngReg) :
    θ_run (Kernel2Ideal.defs (F := Ideal)) (onTc (τ := Kernel2Ideal.τ) (Kernel2Ideal.main (F := Ideal))) ⟨m, fun _ => 0, ρ⟩ (fun r => ∀ c : Dev Kernel2Ideal.nD,
      r.2.mem ((c.tc : Thread Kernel2Ideal.nD Kernel2Ideal.τ).loc Kernel2Ideal.main_v25_0) = Inproj.mainArr m c
      ∧ r.2.mem ((c.tc : Thread Kernel2Ideal.nD Kernel2Ideal.τ).loc Kernel2Ideal.main_v25_1) = Inproj.krArr m c) :=
  (θ_run _ _ _).mono (fun r h c => ⟨((h.1 c).1 5).trans (Inproj.final_z m c), ((h.1 c).1 6).trans (Inproj.final_kr m c)⟩)
    (Inproj.run_main (F := Ideal) m ρ)

/-- The input projection and its reference end with equal results. -/
theorem value2 : Cert.algebraic_Kernel2Ideal_Reference2Ideal := fun m g m' g' _ hargs =>
  ⟨fun c => Inproj.mainArr m c, fun c => Inproj.krArr m c,
    (θ_run _ _ _).mono (fun _ h c => ⟨(h.1 c).1, (h.1 c).2, h.2.1 c⟩) (θ_run_and (run_kernel2 m g) (Inproj.frame_any m g)),
    (θ_run _ _ _).mono (fun r h c => by
      obtain ⟨h0, h1, hr⟩ := h c
      obtain ⟨a0, a1, a2, a3⟩ := hargs c
      refine ⟨h0.trans ((Cert.Reference2Ideal.Read.val_main_v33_eq m' c).trans ?_),
        h1.trans ((Cert.Reference2Ideal.Read.val_main_v36_eq m' c).trans ?_), hr⟩
      · rw [a0, a1, a2, a3]
        funext i
        refine (congrArg _ (eq_ix2 (i : Reference2Ideal.S40960x11264.Idx))).trans ?_
        exact Inproj.Reference.v33_apply _ _ _ _ (i 0) (i 1)
      · rw [a0, a1, a2, a3]
        funext i
        refine (congrArg _ (eq_ix2 (i : Reference2Ideal.S40960x128.Idx))).trans ?_
        exact Inproj.Reference.v36_apply _ _ _ _ (i 0) (i 1)) (Cert.Reference2Ideal.Value.run (F := Ideal) m' g')⟩

/-- The experts' run, with tables as the claim asks: its array ends as the rows through the experts of their blocks. -/
theorem run_kernel3 (b : Kernel3Ideal.S352.Idx → BitVec 32) (n : Kernel3Ideal.S1.Idx → BitVec 32) (hr : Experts.Routed b n)
    (m : (ℓ : Loc Kernel3Ideal.nD Kernel3Ideal.τ Kernel3Ideal.sig) → Buf (Elt Ideal) ℓ) (ρ : Dev Kernel3Ideal.nD → PrngReg) (hm : Experts.Holds b n m) :
    θ_run (Kernel3Ideal.defs (F := Ideal)) (onTc (τ := Kernel3Ideal.τ) (Kernel3Ideal.main (F := Ideal))) ⟨m, fun _ => 0, ρ⟩ (fun r => ∀ c : Dev Kernel3Ideal.nD,
      r.2.mem ((c.tc : Thread Kernel3Ideal.nD Kernel3Ideal.τ).loc Kernel3Ideal.main_v0) = Experts.outArr b n m c) :=
  (θ_run _ _ _).mono (fun r h c => ((h.1 c).1 7).trans (Experts.final b n hr m c)) (Experts.run_main (F := Ideal) b n hr m ρ hm)

/-- The experts' call and its reference end with equal results. -/
theorem value3 : Cert.algebraic_Kernel3Ideal_Reference3Ideal := fun m g m' g' hpre hargs =>
  have hr := Experts.routed_of _ _ _ _ _ _ _ _ _ (hpre 0)
  have hm := Experts.holds m
  ⟨fun c => Experts.outArr _ _ m c,
    (θ_run _ _ _).mono (fun _ h c => ⟨h.1 c, h.2.1 c⟩) (θ_run_and (run_kernel3 _ _ hr m g hm) (Experts.frame_any _ _ hr m g hm)),
    (θ_run _ _ _).mono (fun r h c => by
      obtain ⟨h0, hk⟩ := h c
      refine ⟨h0.trans ((Cert.Reference3Ideal.Read.val_main_v78_eq m' c).trans ?_), hk⟩
      obtain ⟨a0, a1, a2, a3, a4, a5, a6, a7, a8⟩ := hargs c
      rw [a0, a1, a2, a3, a4, a5, a6, a7, a8, (hm c).1, (hm c).2]
      funext i
      refine (congrArg _ (eq_ix2 (i : Reference3Ideal.S180224x2048.Idx))).trans ?_
      exact Experts.Reference.v78_apply _ _ _ _ _ _ _ _ _ hr (i 0) (i 1)) (Cert.Reference3Ideal.Value.run (F := Ideal) m' g')⟩

/-- The merging call's run over the extended reals: its two arrays end as the residual stream and its normalised rows. -/
theorem run_kernel4 (m : (ℓ : Loc Kernel4Ideal.nD Kernel4Ideal.τ Kernel4Ideal.sig) → Buf (Elt Ideal) ℓ) (ρ : Dev Kernel4Ideal.nD → PrngReg) :
    θ_run (Kernel4Ideal.defs (F := Ideal)) (onTc (τ := Kernel4Ideal.τ) (Kernel4Ideal.main (F := Ideal))) ⟨m, fun _ => 0, ρ⟩ (fun r => ∀ c : Dev Kernel4Ideal.nD,
      r.2.mem ((c.tc : Thread Kernel4Ideal.nD Kernel4Ideal.τ).loc Kernel4Ideal.main_v0_0) = Merge.xArr m c
      ∧ r.2.mem ((c.tc : Thread Kernel4Ideal.nD Kernel4Ideal.τ).loc Kernel4Ideal.main_v0_1) = Merge.hArr m c) :=
  (θ_run _ _ _).mono (fun r h c => ⟨((h c).1 13).trans (Merge.final_x m c), ((h c).1 14).trans (Merge.final_h m c)⟩)
    (Cert.Kernel4Ideal.Gen.run_main (F := Ideal) m ρ)

/-- The merging call and its reference end with equal results. -/
theorem value4 : Cert.algebraic_Kernel4Ideal_Reference4Ideal := fun m g m' g' _ hargs =>
  ⟨fun c => Merge.xArr m c, fun c => Merge.hArr m c,
    (θ_run _ _ _).mono (fun _ h c => ⟨(h.1 c).1, (h.1 c).2, h.2.1 c⟩) (θ_run_and (run_kernel4 m g) (Cert.Kernel4Ideal.Gen.frame (F := Ideal) m g)),
    (θ_run _ _ _).mono (fun r h c => by
      obtain ⟨h0, h1, hr⟩ := h c
      obtain ⟨a0, a1, a2, a3, a4, a5, a6, a7, a8, a9, -, -⟩ := hargs c
      refine ⟨h0.trans ((Cert.Reference4Ideal.Read.val_main_v29_eq _ _ _ _ _ _ _ _ _).trans ?_),
        h1.trans ((Cert.Reference4Ideal.Read.val_main_v44_eq m' c).trans ?_), hr⟩
      · rw [a0, a1, a2, a3, a4, a5, a6, a7, a8]
        funext i
        refine (congrArg _ (eq_ix2 (i : Reference4Ideal.S40960x2048.Idx))).trans ?_
        exact Merge.Reference.v29_apply _ _ _ _ _ _ _ _ _ (i 0) (i 1)
      · rw [a0, a1, a2, a3, a4, a5, a6, a7, a8, a9]
        funext i
        refine (congrArg _ (eq_ix2 (i : Reference4Ideal.S40960x2048.Idx))).trans ?_
        exact Merge.Reference.v44_apply _ _ _ _ _ _ _ _ _ _ (i 0) (i 1)) (Cert.Reference4Ideal.Value.run (F := Ideal) m' g')⟩

/-- The claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Pre_finite.Gen.facts,
    Cert.Pre_routed.Gen.facts,
    frame_kernel, frame_ideal, fun m g _ => frame_ideal m g trivial, frame_reference, fun m g _ => frame_reference m g trivial,
    Inproj.frame_kernel, Inproj.frame_ideal, Inproj.frame_reference,
    Experts.frame_kernel, Experts.frame_ideal, Experts.frame_reference, fun m g _ => Experts.frame_reference m g trivial,
    Merge.frame_kernel, Merge.frame_ideal, Merge.frame_reference,
    trivial, value, trivial, value2, trivial, value3, trivial, value4⟩

end Cert.Proof

end
